-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_attention [hPre_finite_attention : Cert.Pre_finite_attention.Facts] (m : (ℓ : Loc Cert.SwaIdeal.nD Cert.SwaIdeal.τ Cert.SwaIdeal.sig) → Buf (Elt Ideal) ℓ) : Prop :=
  ∀ c : Dev Cert.SwaIdeal.nD,
    (Cert.Pre_finite_attention.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_finite_attention [hPre_finite_attention : Cert.Pre_finite_attention.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_finite_attention.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_DeltaIn (m : (ℓ : Loc Cert.DeltaIn.nD Cert.DeltaIn.τ Cert.DeltaIn.sig) → Buf (Elt Bits) ℓ) : Prop :=
  True

def Pre_DeltaInIdeal (m : (ℓ : Loc Cert.DeltaInIdeal.nD Cert.DeltaInIdeal.τ Cert.DeltaInIdeal.sig) → Buf (Elt Ideal) ℓ) : Prop :=
  True

def Pre_DeltaInIdeal_finite_delta_in [hPre_finite_delta_in : Cert.Pre_finite_delta_in.Facts] (m : (ℓ : Loc Cert.DeltaInIdeal.nD Cert.DeltaInIdeal.τ Cert.DeltaInIdeal.sig) → Buf (Elt Ideal) ℓ) : Prop :=
  ∀ c : Dev Cert.DeltaInIdeal.nD,
    (Cert.Pre_finite_delta_in.fn (F := Ideal) (m ((c.tc : Thread Cert.DeltaInIdeal.nD Cert.DeltaInIdeal.τ).loc Cert.DeltaInIdeal.main_arg0)) (m ((c.tc : Thread Cert.DeltaInIdeal.nD Cert.DeltaInIdeal.τ).loc Cert.DeltaInIdeal.main_arg1)) (m ((c.tc : Thread Cert.DeltaInIdeal.nD Cert.DeltaInIdeal.τ).loc Cert.DeltaInIdeal.main_arg2)) (m ((c.tc : Thread Cert.DeltaInIdeal.nD Cert.DeltaInIdeal.τ).loc Cert.DeltaInIdeal.main_arg3))) = (fun _ => 1#1)

def Pre_DeltaInReferenceIdeal (m : (ℓ : Loc Cert.DeltaInReferenceIdeal.nD Cert.DeltaInReferenceIdeal.τ Cert.DeltaInReferenceIdeal.sig) → Buf (Elt Ideal) ℓ) : Prop :=
  True

def Pre_DeltaInReferenceIdeal_finite_delta_in [hPre_finite_delta_in : Cert.Pre_finite_delta_in.Facts] (m : (ℓ : Loc Cert.DeltaInReferenceIdeal.nD Cert.DeltaInReferenceIdeal.τ Cert.DeltaInReferenceIdeal.sig) → Buf (Elt Ideal) ℓ) : Prop :=
  ∀ c : Dev Cert.DeltaInReferenceIdeal.nD,
    (Cert.Pre_finite_delta_in.fn (F := Ideal) (m ((c.tc : Thread Cert.DeltaInReferenceIdeal.nD Cert.DeltaInReferenceIdeal.τ).loc Cert.DeltaInReferenceIdeal.main_arg0)) (m ((c.tc : Thread Cert.DeltaInReferenceIdeal.nD Cert.DeltaInReferenceIdeal.τ).loc Cert.DeltaInReferenceIdeal.main_arg1)) (m ((c.tc : Thread Cert.DeltaInReferenceIdeal.nD Cert.DeltaInReferenceIdeal.τ).loc Cert.DeltaInReferenceIdeal.main_arg2)) (m ((c.tc : Thread Cert.DeltaInReferenceIdeal.nD Cert.DeltaInReferenceIdeal.τ).loc Cert.DeltaInReferenceIdeal.main_arg3))) = (fun _ => 1#1)

def Pre_MidTail (m : (ℓ : Loc Cert.MidTail.nD Cert.MidTail.τ Cert.MidTail.sig) → Buf (Elt Bits) ℓ) : Prop :=
  True

def Pre_MidTailIdeal (m : (ℓ : Loc Cert.MidTailIdeal.nD Cert.MidTailIdeal.τ Cert.MidTailIdeal.sig) → Buf (Elt Ideal) ℓ) : Prop :=
  True

def Pre_MidTailIdeal_finite_mid_tail [hPre_finite_mid_tail : Cert.Pre_finite_mid_tail.Facts] (m : (ℓ : Loc Cert.MidTailIdeal.nD Cert.MidTailIdeal.τ Cert.MidTailIdeal.sig) → Buf (Elt Ideal) ℓ) : Prop :=
  ∀ c : Dev Cert.MidTailIdeal.nD,
    (Cert.Pre_finite_mid_tail.fn (F := Ideal) (m ((c.tc : Thread Cert.MidTailIdeal.nD Cert.MidTailIdeal.τ).loc Cert.MidTailIdeal.main_arg0)) (m ((c.tc : Thread Cert.MidTailIdeal.nD Cert.MidTailIdeal.τ).loc Cert.MidTailIdeal.main_arg1)) (m ((c.tc : Thread Cert.MidTailIdeal.nD Cert.MidTailIdeal.τ).loc Cert.MidTailIdeal.main_arg2)) (m ((c.tc : Thread Cert.MidTailIdeal.nD Cert.MidTailIdeal.τ).loc Cert.MidTailIdeal.main_arg3)) (m ((c.tc : Thread Cert.MidTailIdeal.nD Cert.MidTailIdeal.τ).loc Cert.MidTailIdeal.main_arg4)) (m ((c.tc : Thread Cert.MidTailIdeal.nD Cert.MidTailIdeal.τ).loc Cert.MidTailIdeal.main_arg5)) (m ((c.tc : Thread Cert.MidTailIdeal.nD Cert.MidTailIdeal.τ).loc Cert.MidTailIdeal.main_arg6)) (m ((c.tc : Thread Cert.MidTailIdeal.nD Cert.MidTailIdeal.τ).loc Cert.MidTailIdeal.main_arg7)) (m ((c.tc : Thread Cert.MidTailIdeal.nD Cert.MidTailIdeal.τ).loc Cert.MidTailIdeal.main_arg8)) (m ((c.tc : Thread Cert.MidTailIdeal.nD Cert.MidTailIdeal.τ).loc Cert.MidTailIdeal.main_arg9)) (m ((c.tc : Thread Cert.MidTailIdeal.nD Cert.MidTailIdeal.τ).loc Cert.MidTailIdeal.main_arg10)) (m ((c.tc : Thread Cert.MidTailIdeal.nD Cert.MidTailIdeal.τ).loc Cert.MidTailIdeal.main_arg11))) = (fun _ => 1#1)

def Pre_MidTailReferenceIdeal (m : (ℓ : Loc Cert.MidTailReferenceIdeal.nD Cert.MidTailReferenceIdeal.τ Cert.MidTailReferenceIdeal.sig) → Buf (Elt Ideal) ℓ) : Prop :=
  True

def Pre_MidTailReferenceIdeal_finite_mid_tail [hPre_finite_mid_tail : Cert.Pre_finite_mid_tail.Facts] (m : (ℓ : Loc Cert.MidTailReferenceIdeal.nD Cert.MidTailReferenceIdeal.τ Cert.MidTailReferenceIdeal.sig) → Buf (Elt Ideal) ℓ) : Prop :=
  ∀ c : Dev Cert.MidTailReferenceIdeal.nD,
    (Cert.Pre_finite_mid_tail.fn (F := Ideal) (m ((c.tc : Thread Cert.MidTailReferenceIdeal.nD Cert.MidTailReferenceIdeal.τ).loc Cert.MidTailReferenceIdeal.main_arg0)) (m ((c.tc : Thread Cert.MidTailReferenceIdeal.nD Cert.MidTailReferenceIdeal.τ).loc Cert.MidTailReferenceIdeal.main_arg1)) (m ((c.tc : Thread Cert.MidTailReferenceIdeal.nD Cert.MidTailReferenceIdeal.τ).loc Cert.MidTailReferenceIdeal.main_arg2)) (m ((c.tc : Thread Cert.MidTailReferenceIdeal.nD Cert.MidTailReferenceIdeal.τ).loc Cert.MidTailReferenceIdeal.main_arg3)) (m ((c.tc : Thread Cert.MidTailReferenceIdeal.nD Cert.MidTailReferenceIdeal.τ).loc Cert.MidTailReferenceIdeal.main_arg4)) (m ((c.tc : Thread Cert.MidTailReferenceIdeal.nD Cert.MidTailReferenceIdeal.τ).loc Cert.MidTailReferenceIdeal.main_arg5)) (m ((c.tc : Thread Cert.MidTailReferenceIdeal.nD Cert.MidTailReferenceIdeal.τ).loc Cert.MidTailReferenceIdeal.main_arg6)) (m ((c.tc : Thread Cert.MidTailReferenceIdeal.nD Cert.MidTailReferenceIdeal.τ).loc Cert.MidTailReferenceIdeal.main_arg7)) (m ((c.tc : Thread Cert.MidTailReferenceIdeal.nD Cert.MidTailReferenceIdeal.τ).loc Cert.MidTailReferenceIdeal.main_arg8)) (m ((c.tc : Thread Cert.MidTailReferenceIdeal.nD Cert.MidTailReferenceIdeal.τ).loc Cert.MidTailReferenceIdeal.main_arg9)) (m ((c.tc : Thread Cert.MidTailReferenceIdeal.nD Cert.MidTailReferenceIdeal.τ).loc Cert.MidTailReferenceIdeal.main_arg10)) (m ((c.tc : Thread Cert.MidTailReferenceIdeal.nD Cert.MidTailReferenceIdeal.τ).loc Cert.MidTailReferenceIdeal.main_arg11))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_tail [hPre_finite_tail : Cert.Pre_finite_tail.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite_attention [hSwaIdeal : Cert.SwaIdeal.Facts] [hPre_finite_attention : Cert.Pre_finite_attention.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_attention m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1))
      ∧ r.2.sem = fun _ => 0)

def quiescent_SwaReferenceIdeal_pre_finite_attention [hSwaReferenceIdeal : Cert.SwaReferenceIdeal.Facts] [hPre_finite_attention : Cert.Pre_finite_attention.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_finite_attention m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_DeltaIn [hDeltaIn : Cert.DeltaIn.Facts] : Prop :=
  ∀ (m : (ℓ : Loc Cert.DeltaIn.nD Cert.DeltaIn.τ Cert.DeltaIn.sig) → Buf (Elt Bits) ℓ) (g : Dev Cert.DeltaIn.nD → PrngReg), Pre_DeltaIn m →
    θ_run (Cert.DeltaIn.defs (F := Bits)) (onTc (τ := Cert.DeltaIn.τ) (Cert.DeltaIn.main (F := Bits))) ⟨m, fun _ => 0, g⟩ (fun r => (∀ c : Dev Cert.DeltaIn.nD,
      r.2.mem ((c.tc : Thread Cert.DeltaIn.nD Cert.DeltaIn.τ).loc Cert.DeltaIn.main_arg0) = m ((c.tc : Thread Cert.DeltaIn.nD Cert.DeltaIn.τ).loc Cert.DeltaIn.main_arg0)
      ∧ r.2.mem ((c.tc : Thread Cert.DeltaIn.nD Cert.DeltaIn.τ).loc Cert.DeltaIn.main_arg1) = m ((c.tc : Thread Cert.DeltaIn.nD Cert.DeltaIn.τ).loc Cert.DeltaIn.main_arg1)
      ∧ r.2.mem ((c.tc : Thread Cert.DeltaIn.nD Cert.DeltaIn.τ).loc Cert.DeltaIn.main_arg2) = m ((c.tc : Thread Cert.DeltaIn.nD Cert.DeltaIn.τ).loc Cert.DeltaIn.main_arg2)
      ∧ r.2.mem ((c.tc : Thread Cert.DeltaIn.nD Cert.DeltaIn.τ).loc Cert.DeltaIn.main_arg3) = m ((c.tc : Thread Cert.DeltaIn.nD Cert.DeltaIn.τ).loc Cert.DeltaIn.main_arg3))
      ∧ r.2.sem = fun _ => 0)

def quiescent_DeltaInIdeal [hDeltaInIdeal : Cert.DeltaInIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg), Pre_DeltaInIdeal m →
    θ_run (Cert.DeltaInIdeal.defs (F := Ideal)) (onTc (τ := Cert.DeltaInIdeal.τ) (Cert.DeltaInIdeal.main (F := Ideal))) ⟨m, fun _ => 0, g⟩ (fun r => (∀ c : Dev Cert.DeltaInIdeal.nD,
      r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
      ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
      ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
      ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ r.2.sem = fun _ => 0)

def quiescent_DeltaInIdeal_pre_finite_delta_in [hDeltaInIdeal : Cert.DeltaInIdeal.Facts] [hPre_finite_delta_in : Cert.Pre_finite_delta_in.Facts] : Prop :=
  ∀ (m : (ℓ : Loc Cert.DeltaInIdeal.nD Cert.DeltaInIdeal.τ Cert.DeltaInIdeal.sig) → Buf (Elt Ideal) ℓ) (g : Dev Cert.DeltaInIdeal.nD → PrngReg), Pre_DeltaInIdeal_finite_delta_in m →
    θ_run (Cert.DeltaInIdeal.defs (F := Ideal)) (onTc (τ := Cert.DeltaInIdeal.τ) (Cert.DeltaInIdeal.main (F := Ideal))) ⟨m, fun _ => 0, g⟩ (fun r => (∀ c : Dev Cert.DeltaInIdeal.nD,
      r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
      ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
      ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
      ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ r.2.sem = fun _ => 0)

def quiescent_DeltaInReferenceIdeal [hDeltaInReferenceIdeal : Cert.DeltaInReferenceIdeal.Facts] : Prop :=
  ∀ (m : (ℓ : Loc Cert.DeltaInReferenceIdeal.nD Cert.DeltaInReferenceIdeal.τ Cert.DeltaInReferenceIdeal.sig) → Buf (Elt Ideal) ℓ) (g : Dev Cert.DeltaInReferenceIdeal.nD → PrngReg), Pre_DeltaInReferenceIdeal m →
    θ_run (Cert.DeltaInReferenceIdeal.defs (F := Ideal)) (onTc (τ := Cert.DeltaInReferenceIdeal.τ) (Cert.DeltaInReferenceIdeal.main (F := Ideal))) ⟨m, fun _ => 0, g⟩ (fun r => (∀ c : Dev Cert.DeltaInReferenceIdeal.nD,
      r.2.mem ((c.tc : Thread Cert.DeltaInReferenceIdeal.nD Cert.DeltaInReferenceIdeal.τ).loc Cert.DeltaInReferenceIdeal.main_arg0) = m ((c.tc : Thread Cert.DeltaInReferenceIdeal.nD Cert.DeltaInReferenceIdeal.τ).loc Cert.DeltaInReferenceIdeal.main_arg0)
      ∧ r.2.mem ((c.tc : Thread Cert.DeltaInReferenceIdeal.nD Cert.DeltaInReferenceIdeal.τ).loc Cert.DeltaInReferenceIdeal.main_arg1) = m ((c.tc : Thread Cert.DeltaInReferenceIdeal.nD Cert.DeltaInReferenceIdeal.τ).loc Cert.DeltaInReferenceIdeal.main_arg1)
      ∧ r.2.mem ((c.tc : Thread Cert.DeltaInReferenceIdeal.nD Cert.DeltaInReferenceIdeal.τ).loc Cert.DeltaInReferenceIdeal.main_arg2) = m ((c.tc : Thread Cert.DeltaInReferenceIdeal.nD Cert.DeltaInReferenceIdeal.τ).loc Cert.DeltaInReferenceIdeal.main_arg2)
      ∧ r.2.mem ((c.tc : Thread Cert.DeltaInReferenceIdeal.nD Cert.DeltaInReferenceIdeal.τ).loc Cert.DeltaInReferenceIdeal.main_arg3) = m ((c.tc : Thread Cert.DeltaInReferenceIdeal.nD Cert.DeltaInReferenceIdeal.τ).loc Cert.DeltaInReferenceIdeal.main_arg3))
      ∧ r.2.sem = fun _ => 0)

def quiescent_DeltaInReferenceIdeal_pre_finite_delta_in [hDeltaInReferenceIdeal : Cert.DeltaInReferenceIdeal.Facts] [hPre_finite_delta_in : Cert.Pre_finite_delta_in.Facts] : Prop :=
  ∀ (m : (ℓ : Loc Cert.DeltaInReferenceIdeal.nD Cert.DeltaInReferenceIdeal.τ Cert.DeltaInReferenceIdeal.sig) → Buf (Elt Ideal) ℓ) (g : Dev Cert.DeltaInReferenceIdeal.nD → PrngReg), Pre_DeltaInReferenceIdeal_finite_delta_in m →
    θ_run (Cert.DeltaInReferenceIdeal.defs (F := Ideal)) (onTc (τ := Cert.DeltaInReferenceIdeal.τ) (Cert.DeltaInReferenceIdeal.main (F := Ideal))) ⟨m, fun _ => 0, g⟩ (fun r => (∀ c : Dev Cert.DeltaInReferenceIdeal.nD,
      r.2.mem ((c.tc : Thread Cert.DeltaInReferenceIdeal.nD Cert.DeltaInReferenceIdeal.τ).loc Cert.DeltaInReferenceIdeal.main_arg0) = m ((c.tc : Thread Cert.DeltaInReferenceIdeal.nD Cert.DeltaInReferenceIdeal.τ).loc Cert.DeltaInReferenceIdeal.main_arg0)
      ∧ r.2.mem ((c.tc : Thread Cert.DeltaInReferenceIdeal.nD Cert.DeltaInReferenceIdeal.τ).loc Cert.DeltaInReferenceIdeal.main_arg1) = m ((c.tc : Thread Cert.DeltaInReferenceIdeal.nD Cert.DeltaInReferenceIdeal.τ).loc Cert.DeltaInReferenceIdeal.main_arg1)
      ∧ r.2.mem ((c.tc : Thread Cert.DeltaInReferenceIdeal.nD Cert.DeltaInReferenceIdeal.τ).loc Cert.DeltaInReferenceIdeal.main_arg2) = m ((c.tc : Thread Cert.DeltaInReferenceIdeal.nD Cert.DeltaInReferenceIdeal.τ).loc Cert.DeltaInReferenceIdeal.main_arg2)
      ∧ r.2.mem ((c.tc : Thread Cert.DeltaInReferenceIdeal.nD Cert.DeltaInReferenceIdeal.τ).loc Cert.DeltaInReferenceIdeal.main_arg3) = m ((c.tc : Thread Cert.DeltaInReferenceIdeal.nD Cert.DeltaInReferenceIdeal.τ).loc Cert.DeltaInReferenceIdeal.main_arg3))
      ∧ r.2.sem = fun _ => 0)

def quiescent_MidTail [hMidTail : Cert.MidTail.Facts] : Prop :=
  ∀ (m : (ℓ : Loc Cert.MidTail.nD Cert.MidTail.τ Cert.MidTail.sig) → Buf (Elt Bits) ℓ) (g : Dev Cert.MidTail.nD → PrngReg), Pre_MidTail m →
    θ_run (Cert.MidTail.defs (F := Bits)) (onTc (τ := Cert.MidTail.τ) (Cert.MidTail.main (F := Bits))) ⟨m, fun _ => 0, g⟩ (fun r => (∀ c : Dev Cert.MidTail.nD,
      r.2.mem ((c.tc : Thread Cert.MidTail.nD Cert.MidTail.τ).loc Cert.MidTail.main_arg0) = m ((c.tc : Thread Cert.MidTail.nD Cert.MidTail.τ).loc Cert.MidTail.main_arg0)
      ∧ r.2.mem ((c.tc : Thread Cert.MidTail.nD Cert.MidTail.τ).loc Cert.MidTail.main_arg1) = m ((c.tc : Thread Cert.MidTail.nD Cert.MidTail.τ).loc Cert.MidTail.main_arg1)
      ∧ r.2.mem ((c.tc : Thread Cert.MidTail.nD Cert.MidTail.τ).loc Cert.MidTail.main_arg2) = m ((c.tc : Thread Cert.MidTail.nD Cert.MidTail.τ).loc Cert.MidTail.main_arg2)
      ∧ r.2.mem ((c.tc : Thread Cert.MidTail.nD Cert.MidTail.τ).loc Cert.MidTail.main_arg3) = m ((c.tc : Thread Cert.MidTail.nD Cert.MidTail.τ).loc Cert.MidTail.main_arg3)
      ∧ r.2.mem ((c.tc : Thread Cert.MidTail.nD Cert.MidTail.τ).loc Cert.MidTail.main_arg4) = m ((c.tc : Thread Cert.MidTail.nD Cert.MidTail.τ).loc Cert.MidTail.main_arg4)
      ∧ r.2.mem ((c.tc : Thread Cert.MidTail.nD Cert.MidTail.τ).loc Cert.MidTail.main_arg5) = m ((c.tc : Thread Cert.MidTail.nD Cert.MidTail.τ).loc Cert.MidTail.main_arg5)
      ∧ r.2.mem ((c.tc : Thread Cert.MidTail.nD Cert.MidTail.τ).loc Cert.MidTail.main_arg6) = m ((c.tc : Thread Cert.MidTail.nD Cert.MidTail.τ).loc Cert.MidTail.main_arg6)
      ∧ r.2.mem ((c.tc : Thread Cert.MidTail.nD Cert.MidTail.τ).loc Cert.MidTail.main_arg7) = m ((c.tc : Thread Cert.MidTail.nD Cert.MidTail.τ).loc Cert.MidTail.main_arg7)
      ∧ r.2.mem ((c.tc : Thread Cert.MidTail.nD Cert.MidTail.τ).loc Cert.MidTail.main_arg8) = m ((c.tc : Thread Cert.MidTail.nD Cert.MidTail.τ).loc Cert.MidTail.main_arg8)
      ∧ r.2.mem ((c.tc : Thread Cert.MidTail.nD Cert.MidTail.τ).loc Cert.MidTail.main_arg9) = m ((c.tc : Thread Cert.MidTail.nD Cert.MidTail.τ).loc Cert.MidTail.main_arg9)
      ∧ r.2.mem ((c.tc : Thread Cert.MidTail.nD Cert.MidTail.τ).loc Cert.MidTail.main_arg10) = m ((c.tc : Thread Cert.MidTail.nD Cert.MidTail.τ).loc Cert.MidTail.main_arg10)
      ∧ r.2.mem ((c.tc : Thread Cert.MidTail.nD Cert.MidTail.τ).loc Cert.MidTail.main_arg11) = m ((c.tc : Thread Cert.MidTail.nD Cert.MidTail.τ).loc Cert.MidTail.main_arg11))
      ∧ r.2.sem = fun _ => 0)

def quiescent_MidTailIdeal [hMidTailIdeal : Cert.MidTailIdeal.Facts] : Prop :=
  ∀ (m : (ℓ : Loc Cert.MidTailIdeal.nD Cert.MidTailIdeal.τ Cert.MidTailIdeal.sig) → Buf (Elt Ideal) ℓ) (g : Dev Cert.MidTailIdeal.nD → PrngReg), Pre_MidTailIdeal m →
    θ_run (Cert.MidTailIdeal.defs (F := Ideal)) (onTc (τ := Cert.MidTailIdeal.τ) (Cert.MidTailIdeal.main (F := Ideal))) ⟨m, fun _ => 0, g⟩ (fun r => (∀ c : Dev Cert.MidTailIdeal.nD,
      r.2.mem ((c.tc : Thread Cert.MidTailIdeal.nD Cert.MidTailIdeal.τ).loc Cert.MidTailIdeal.main_arg0) = m ((c.tc : Thread Cert.MidTailIdeal.nD Cert.MidTailIdeal.τ).loc Cert.MidTailIdeal.main_arg0)
      ∧ r.2.mem ((c.tc : Thread Cert.MidTailIdeal.nD Cert.MidTailIdeal.τ).loc Cert.MidTailIdeal.main_arg1) = m ((c.tc : Thread Cert.MidTailIdeal.nD Cert.MidTailIdeal.τ).loc Cert.MidTailIdeal.main_arg1)
      ∧ r.2.mem ((c.tc : Thread Cert.MidTailIdeal.nD Cert.MidTailIdeal.τ).loc Cert.MidTailIdeal.main_arg2) = m ((c.tc : Thread Cert.MidTailIdeal.nD Cert.MidTailIdeal.τ).loc Cert.MidTailIdeal.main_arg2)
      ∧ r.2.mem ((c.tc : Thread Cert.MidTailIdeal.nD Cert.MidTailIdeal.τ).loc Cert.MidTailIdeal.main_arg3) = m ((c.tc : Thread Cert.MidTailIdeal.nD Cert.MidTailIdeal.τ).loc Cert.MidTailIdeal.main_arg3)
      ∧ r.2.mem ((c.tc : Thread Cert.MidTailIdeal.nD Cert.MidTailIdeal.τ).loc Cert.MidTailIdeal.main_arg4) = m ((c.tc : Thread Cert.MidTailIdeal.nD Cert.MidTailIdeal.τ).loc Cert.MidTailIdeal.main_arg4)
      ∧ r.2.mem ((c.tc : Thread Cert.MidTailIdeal.nD Cert.MidTailIdeal.τ).loc Cert.MidTailIdeal.main_arg5) = m ((c.tc : Thread Cert.MidTailIdeal.nD Cert.MidTailIdeal.τ).loc Cert.MidTailIdeal.main_arg5)
      ∧ r.2.mem ((c.tc : Thread Cert.MidTailIdeal.nD Cert.MidTailIdeal.τ).loc Cert.MidTailIdeal.main_arg6) = m ((c.tc : Thread Cert.MidTailIdeal.nD Cert.MidTailIdeal.τ).loc Cert.MidTailIdeal.main_arg6)
      ∧ r.2.mem ((c.tc : Thread Cert.MidTailIdeal.nD Cert.MidTailIdeal.τ).loc Cert.MidTailIdeal.main_arg7) = m ((c.tc : Thread Cert.MidTailIdeal.nD Cert.MidTailIdeal.τ).loc Cert.MidTailIdeal.main_arg7)
      ∧ r.2.mem ((c.tc : Thread Cert.MidTailIdeal.nD Cert.MidTailIdeal.τ).loc Cert.MidTailIdeal.main_arg8) = m ((c.tc : Thread Cert.MidTailIdeal.nD Cert.MidTailIdeal.τ).loc Cert.MidTailIdeal.main_arg8)
      ∧ r.2.mem ((c.tc : Thread Cert.MidTailIdeal.nD Cert.MidTailIdeal.τ).loc Cert.MidTailIdeal.main_arg9) = m ((c.tc : Thread Cert.MidTailIdeal.nD Cert.MidTailIdeal.τ).loc Cert.MidTailIdeal.main_arg9)
      ∧ r.2.mem ((c.tc : Thread Cert.MidTailIdeal.nD Cert.MidTailIdeal.τ).loc Cert.MidTailIdeal.main_arg10) = m ((c.tc : Thread Cert.MidTailIdeal.nD Cert.MidTailIdeal.τ).loc Cert.MidTailIdeal.main_arg10)
      ∧ r.2.mem ((c.tc : Thread Cert.MidTailIdeal.nD Cert.MidTailIdeal.τ).loc Cert.MidTailIdeal.main_arg11) = m ((c.tc : Thread Cert.MidTailIdeal.nD Cert.MidTailIdeal.τ).loc Cert.MidTailIdeal.main_arg11))
      ∧ r.2.sem = fun _ => 0)

def quiescent_MidTailIdeal_pre_finite_mid_tail [hMidTailIdeal : Cert.MidTailIdeal.Facts] [hPre_finite_mid_tail : Cert.Pre_finite_mid_tail.Facts] : Prop :=
  ∀ (m : (ℓ : Loc Cert.MidTailIdeal.nD Cert.MidTailIdeal.τ Cert.MidTailIdeal.sig) → Buf (Elt Ideal) ℓ) (g : Dev Cert.MidTailIdeal.nD → PrngReg), Pre_MidTailIdeal_finite_mid_tail m →
    θ_run (Cert.MidTailIdeal.defs (F := Ideal)) (onTc (τ := Cert.MidTailIdeal.τ) (Cert.MidTailIdeal.main (F := Ideal))) ⟨m, fun _ => 0, g⟩ (fun r => (∀ c : Dev Cert.MidTailIdeal.nD,
      r.2.mem ((c.tc : Thread Cert.MidTailIdeal.nD Cert.MidTailIdeal.τ).loc Cert.MidTailIdeal.main_arg0) = m ((c.tc : Thread Cert.MidTailIdeal.nD Cert.MidTailIdeal.τ).loc Cert.MidTailIdeal.main_arg0)
      ∧ r.2.mem ((c.tc : Thread Cert.MidTailIdeal.nD Cert.MidTailIdeal.τ).loc Cert.MidTailIdeal.main_arg1) = m ((c.tc : Thread Cert.MidTailIdeal.nD Cert.MidTailIdeal.τ).loc Cert.MidTailIdeal.main_arg1)
      ∧ r.2.mem ((c.tc : Thread Cert.MidTailIdeal.nD Cert.MidTailIdeal.τ).loc Cert.MidTailIdeal.main_arg2) = m ((c.tc : Thread Cert.MidTailIdeal.nD Cert.MidTailIdeal.τ).loc Cert.MidTailIdeal.main_arg2)
      ∧ r.2.mem ((c.tc : Thread Cert.MidTailIdeal.nD Cert.MidTailIdeal.τ).loc Cert.MidTailIdeal.main_arg3) = m ((c.tc : Thread Cert.MidTailIdeal.nD Cert.MidTailIdeal.τ).loc Cert.MidTailIdeal.main_arg3)
      ∧ r.2.mem ((c.tc : Thread Cert.MidTailIdeal.nD Cert.MidTailIdeal.τ).loc Cert.MidTailIdeal.main_arg4) = m ((c.tc : Thread Cert.MidTailIdeal.nD Cert.MidTailIdeal.τ).loc Cert.MidTailIdeal.main_arg4)
      ∧ r.2.mem ((c.tc : Thread Cert.MidTailIdeal.nD Cert.MidTailIdeal.τ).loc Cert.MidTailIdeal.main_arg5) = m ((c.tc : Thread Cert.MidTailIdeal.nD Cert.MidTailIdeal.τ).loc Cert.MidTailIdeal.main_arg5)
      ∧ r.2.mem ((c.tc : Thread Cert.MidTailIdeal.nD Cert.MidTailIdeal.τ).loc Cert.MidTailIdeal.main_arg6) = m ((c.tc : Thread Cert.MidTailIdeal.nD Cert.MidTailIdeal.τ).loc Cert.MidTailIdeal.main_arg6)
      ∧ r.2.mem ((c.tc : Thread Cert.MidTailIdeal.nD Cert.MidTailIdeal.τ).loc Cert.MidTailIdeal.main_arg7) = m ((c.tc : Thread Cert.MidTailIdeal.nD Cert.MidTailIdeal.τ).loc Cert.MidTailIdeal.main_arg7)
      ∧ r.2.mem ((c.tc : Thread Cert.MidTailIdeal.nD Cert.MidTailIdeal.τ).loc Cert.MidTailIdeal.main_arg8) = m ((c.tc : Thread Cert.MidTailIdeal.nD Cert.MidTailIdeal.τ).loc Cert.MidTailIdeal.main_arg8)
      ∧ r.2.mem ((c.tc : Thread Cert.MidTailIdeal.nD Cert.MidTailIdeal.τ).loc Cert.MidTailIdeal.main_arg9) = m ((c.tc : Thread Cert.MidTailIdeal.nD Cert.MidTailIdeal.τ).loc Cert.MidTailIdeal.main_arg9)
      ∧ r.2.mem ((c.tc : Thread Cert.MidTailIdeal.nD Cert.MidTailIdeal.τ).loc Cert.MidTailIdeal.main_arg10) = m ((c.tc : Thread Cert.MidTailIdeal.nD Cert.MidTailIdeal.τ).loc Cert.MidTailIdeal.main_arg10)
      ∧ r.2.mem ((c.tc : Thread Cert.MidTailIdeal.nD Cert.MidTailIdeal.τ).loc Cert.MidTailIdeal.main_arg11) = m ((c.tc : Thread Cert.MidTailIdeal.nD Cert.MidTailIdeal.τ).loc Cert.MidTailIdeal.main_arg11))
      ∧ r.2.sem = fun _ => 0)

def quiescent_MidTailReferenceIdeal [hMidTailReferenceIdeal : Cert.MidTailReferenceIdeal.Facts] : Prop :=
  ∀ (m : (ℓ : Loc Cert.MidTailReferenceIdeal.nD Cert.MidTailReferenceIdeal.τ Cert.MidTailReferenceIdeal.sig) → Buf (Elt Ideal) ℓ) (g : Dev Cert.MidTailReferenceIdeal.nD → PrngReg), Pre_MidTailReferenceIdeal m →
    θ_run (Cert.MidTailReferenceIdeal.defs (F := Ideal)) (onTc (τ := Cert.MidTailReferenceIdeal.τ) (Cert.MidTailReferenceIdeal.main (F := Ideal))) ⟨m, fun _ => 0, g⟩ (fun r => (∀ c : Dev Cert.MidTailReferenceIdeal.nD,
      r.2.mem ((c.tc : Thread Cert.MidTailReferenceIdeal.nD Cert.MidTailReferenceIdeal.τ).loc Cert.MidTailReferenceIdeal.main_arg0) = m ((c.tc : Thread Cert.MidTailReferenceIdeal.nD Cert.MidTailReferenceIdeal.τ).loc Cert.MidTailReferenceIdeal.main_arg0)
      ∧ r.2.mem ((c.tc : Thread Cert.MidTailReferenceIdeal.nD Cert.MidTailReferenceIdeal.τ).loc Cert.MidTailReferenceIdeal.main_arg1) = m ((c.tc : Thread Cert.MidTailReferenceIdeal.nD Cert.MidTailReferenceIdeal.τ).loc Cert.MidTailReferenceIdeal.main_arg1)
      ∧ r.2.mem ((c.tc : Thread Cert.MidTailReferenceIdeal.nD Cert.MidTailReferenceIdeal.τ).loc Cert.MidTailReferenceIdeal.main_arg2) = m ((c.tc : Thread Cert.MidTailReferenceIdeal.nD Cert.MidTailReferenceIdeal.τ).loc Cert.MidTailReferenceIdeal.main_arg2)
      ∧ r.2.mem ((c.tc : Thread Cert.MidTailReferenceIdeal.nD Cert.MidTailReferenceIdeal.τ).loc Cert.MidTailReferenceIdeal.main_arg3) = m ((c.tc : Thread Cert.MidTailReferenceIdeal.nD Cert.MidTailReferenceIdeal.τ).loc Cert.MidTailReferenceIdeal.main_arg3)
      ∧ r.2.mem ((c.tc : Thread Cert.MidTailReferenceIdeal.nD Cert.MidTailReferenceIdeal.τ).loc Cert.MidTailReferenceIdeal.main_arg4) = m ((c.tc : Thread Cert.MidTailReferenceIdeal.nD Cert.MidTailReferenceIdeal.τ).loc Cert.MidTailReferenceIdeal.main_arg4)
      ∧ r.2.mem ((c.tc : Thread Cert.MidTailReferenceIdeal.nD Cert.MidTailReferenceIdeal.τ).loc Cert.MidTailReferenceIdeal.main_arg5) = m ((c.tc : Thread Cert.MidTailReferenceIdeal.nD Cert.MidTailReferenceIdeal.τ).loc Cert.MidTailReferenceIdeal.main_arg5)
      ∧ r.2.mem ((c.tc : Thread Cert.MidTailReferenceIdeal.nD Cert.MidTailReferenceIdeal.τ).loc Cert.MidTailReferenceIdeal.main_arg6) = m ((c.tc : Thread Cert.MidTailReferenceIdeal.nD Cert.MidTailReferenceIdeal.τ).loc Cert.MidTailReferenceIdeal.main_arg6)
      ∧ r.2.mem ((c.tc : Thread Cert.MidTailReferenceIdeal.nD Cert.MidTailReferenceIdeal.τ).loc Cert.MidTailReferenceIdeal.main_arg7) = m ((c.tc : Thread Cert.MidTailReferenceIdeal.nD Cert.MidTailReferenceIdeal.τ).loc Cert.MidTailReferenceIdeal.main_arg7)
      ∧ r.2.mem ((c.tc : Thread Cert.MidTailReferenceIdeal.nD Cert.MidTailReferenceIdeal.τ).loc Cert.MidTailReferenceIdeal.main_arg8) = m ((c.tc : Thread Cert.MidTailReferenceIdeal.nD Cert.MidTailReferenceIdeal.τ).loc Cert.MidTailReferenceIdeal.main_arg8)
      ∧ r.2.mem ((c.tc : Thread Cert.MidTailReferenceIdeal.nD Cert.MidTailReferenceIdeal.τ).loc Cert.MidTailReferenceIdeal.main_arg9) = m ((c.tc : Thread Cert.MidTailReferenceIdeal.nD Cert.MidTailReferenceIdeal.τ).loc Cert.MidTailReferenceIdeal.main_arg9)
      ∧ r.2.mem ((c.tc : Thread Cert.MidTailReferenceIdeal.nD Cert.MidTailReferenceIdeal.τ).loc Cert.MidTailReferenceIdeal.main_arg10) = m ((c.tc : Thread Cert.MidTailReferenceIdeal.nD Cert.MidTailReferenceIdeal.τ).loc Cert.MidTailReferenceIdeal.main_arg10)
      ∧ r.2.mem ((c.tc : Thread Cert.MidTailReferenceIdeal.nD Cert.MidTailReferenceIdeal.τ).loc Cert.MidTailReferenceIdeal.main_arg11) = m ((c.tc : Thread Cert.MidTailReferenceIdeal.nD Cert.MidTailReferenceIdeal.τ).loc Cert.MidTailReferenceIdeal.main_arg11))
      ∧ r.2.sem = fun _ => 0)

def quiescent_MidTailReferenceIdeal_pre_finite_mid_tail [hMidTailReferenceIdeal : Cert.MidTailReferenceIdeal.Facts] [hPre_finite_mid_tail : Cert.Pre_finite_mid_tail.Facts] : Prop :=
  ∀ (m : (ℓ : Loc Cert.MidTailReferenceIdeal.nD Cert.MidTailReferenceIdeal.τ Cert.MidTailReferenceIdeal.sig) → Buf (Elt Ideal) ℓ) (g : Dev Cert.MidTailReferenceIdeal.nD → PrngReg), Pre_MidTailReferenceIdeal_finite_mid_tail m →
    θ_run (Cert.MidTailReferenceIdeal.defs (F := Ideal)) (onTc (τ := Cert.MidTailReferenceIdeal.τ) (Cert.MidTailReferenceIdeal.main (F := Ideal))) ⟨m, fun _ => 0, g⟩ (fun r => (∀ c : Dev Cert.MidTailReferenceIdeal.nD,
      r.2.mem ((c.tc : Thread Cert.MidTailReferenceIdeal.nD Cert.MidTailReferenceIdeal.τ).loc Cert.MidTailReferenceIdeal.main_arg0) = m ((c.tc : Thread Cert.MidTailReferenceIdeal.nD Cert.MidTailReferenceIdeal.τ).loc Cert.MidTailReferenceIdeal.main_arg0)
      ∧ r.2.mem ((c.tc : Thread Cert.MidTailReferenceIdeal.nD Cert.MidTailReferenceIdeal.τ).loc Cert.MidTailReferenceIdeal.main_arg1) = m ((c.tc : Thread Cert.MidTailReferenceIdeal.nD Cert.MidTailReferenceIdeal.τ).loc Cert.MidTailReferenceIdeal.main_arg1)
      ∧ r.2.mem ((c.tc : Thread Cert.MidTailReferenceIdeal.nD Cert.MidTailReferenceIdeal.τ).loc Cert.MidTailReferenceIdeal.main_arg2) = m ((c.tc : Thread Cert.MidTailReferenceIdeal.nD Cert.MidTailReferenceIdeal.τ).loc Cert.MidTailReferenceIdeal.main_arg2)
      ∧ r.2.mem ((c.tc : Thread Cert.MidTailReferenceIdeal.nD Cert.MidTailReferenceIdeal.τ).loc Cert.MidTailReferenceIdeal.main_arg3) = m ((c.tc : Thread Cert.MidTailReferenceIdeal.nD Cert.MidTailReferenceIdeal.τ).loc Cert.MidTailReferenceIdeal.main_arg3)
      ∧ r.2.mem ((c.tc : Thread Cert.MidTailReferenceIdeal.nD Cert.MidTailReferenceIdeal.τ).loc Cert.MidTailReferenceIdeal.main_arg4) = m ((c.tc : Thread Cert.MidTailReferenceIdeal.nD Cert.MidTailReferenceIdeal.τ).loc Cert.MidTailReferenceIdeal.main_arg4)
      ∧ r.2.mem ((c.tc : Thread Cert.MidTailReferenceIdeal.nD Cert.MidTailReferenceIdeal.τ).loc Cert.MidTailReferenceIdeal.main_arg5) = m ((c.tc : Thread Cert.MidTailReferenceIdeal.nD Cert.MidTailReferenceIdeal.τ).loc Cert.MidTailReferenceIdeal.main_arg5)
      ∧ r.2.mem ((c.tc : Thread Cert.MidTailReferenceIdeal.nD Cert.MidTailReferenceIdeal.τ).loc Cert.MidTailReferenceIdeal.main_arg6) = m ((c.tc : Thread Cert.MidTailReferenceIdeal.nD Cert.MidTailReferenceIdeal.τ).loc Cert.MidTailReferenceIdeal.main_arg6)
      ∧ r.2.mem ((c.tc : Thread Cert.MidTailReferenceIdeal.nD Cert.MidTailReferenceIdeal.τ).loc Cert.MidTailReferenceIdeal.main_arg7) = m ((c.tc : Thread Cert.MidTailReferenceIdeal.nD Cert.MidTailReferenceIdeal.τ).loc Cert.MidTailReferenceIdeal.main_arg7)
      ∧ r.2.mem ((c.tc : Thread Cert.MidTailReferenceIdeal.nD Cert.MidTailReferenceIdeal.τ).loc Cert.MidTailReferenceIdeal.main_arg8) = m ((c.tc : Thread Cert.MidTailReferenceIdeal.nD Cert.MidTailReferenceIdeal.τ).loc Cert.MidTailReferenceIdeal.main_arg8)
      ∧ r.2.mem ((c.tc : Thread Cert.MidTailReferenceIdeal.nD Cert.MidTailReferenceIdeal.τ).loc Cert.MidTailReferenceIdeal.main_arg9) = m ((c.tc : Thread Cert.MidTailReferenceIdeal.nD Cert.MidTailReferenceIdeal.τ).loc Cert.MidTailReferenceIdeal.main_arg9)
      ∧ r.2.mem ((c.tc : Thread Cert.MidTailReferenceIdeal.nD Cert.MidTailReferenceIdeal.τ).loc Cert.MidTailReferenceIdeal.main_arg10) = m ((c.tc : Thread Cert.MidTailReferenceIdeal.nD Cert.MidTailReferenceIdeal.τ).loc Cert.MidTailReferenceIdeal.main_arg10)
      ∧ r.2.mem ((c.tc : Thread Cert.MidTailReferenceIdeal.nD Cert.MidTailReferenceIdeal.τ).loc Cert.MidTailReferenceIdeal.main_arg11) = m ((c.tc : Thread Cert.MidTailReferenceIdeal.nD Cert.MidTailReferenceIdeal.τ).loc Cert.MidTailReferenceIdeal.main_arg11))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11))
      ∧ r.2.sem = fun _ => 0)

def quiescent_TailReferenceIdeal_pre_finite_tail [hTailReferenceIdeal : Cert.TailReferenceIdeal.Facts] [hPre_finite_tail : Cert.Pre_finite_tail.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_tail m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11))
      ∧ r.2.sem = fun _ => 0)

def preserves_Swa_SwaIdeal : Prop :=
  IdealRules.named_const.Statement Cert.SwaIdeal.κ "slope0" .f32 0xBF8293EE#32 ((-(((1 / 2) * (Real.sqrt 2)) * (Real.log 2)⁻¹) : ℝ) : EReal)
  ∧ IdealRules.named_const.Statement Cert.SwaIdeal.κ "slope1" .f32 0xBF38AA3B#32 ((-((1 / 2) * (Real.log 2)⁻¹) : ℝ) : EReal)
  ∧ IdealRules.named_const.Statement Cert.SwaIdeal.κ "slope2" .f32 0xBF0293EE#32 ((-(((1 / 4) * (Real.sqrt 2)) * (Real.log 2)⁻¹) : ℝ) : EReal)
  ∧ IdealRules.named_const.Statement Cert.SwaIdeal.κ "slope3" .f32 0xBEB8AA3B#32 ((-((1 / 4) * (Real.log 2)⁻¹) : ℝ) : EReal)
  ∧ IdealRules.named_const.Statement Cert.SwaIdeal.κ "slope4" .f32 0xBE8293EE#32 ((-(((1 / 8) * (Real.sqrt 2)) * (Real.log 2)⁻¹) : ℝ) : EReal)
  ∧ IdealRules.named_const.Statement Cert.SwaIdeal.κ "slope5" .f32 0xBE38AA3B#32 ((-((1 / 8) * (Real.log 2)⁻¹) : ℝ) : EReal)
  ∧ IdealRules.named_const.Statement Cert.SwaIdeal.κ "slope6" .f32 0xBE0293EE#32 ((-(((1 / 16) * (Real.sqrt 2)) * (Real.log 2)⁻¹) : ℝ) : EReal)
  ∧ IdealRules.named_const.Statement Cert.SwaIdeal.κ "slope7" .f32 0xBDB8AA3B#32 ((-((1 / 16) * (Real.log 2)⁻¹) : ℝ) : EReal)
  ∧ IdealRules.named_const.Statement Cert.SwaIdeal.κ "slope8" .f32 0xBD8293EE#32 ((-(((1 / 32) * (Real.sqrt 2)) * (Real.log 2)⁻¹) : ℝ) : EReal)
  ∧ IdealRules.named_const.Statement Cert.SwaIdeal.κ "slope9" .f32 0xBD38AA3B#32 ((-((1 / 32) * (Real.log 2)⁻¹) : ℝ) : EReal)
  ∧ IdealRules.named_const.Statement Cert.SwaIdeal.κ "slope10" .f32 0xBD0293EE#32 ((-(((1 / 64) * (Real.sqrt 2)) * (Real.log 2)⁻¹) : ℝ) : EReal)
  ∧ IdealRules.named_const.Statement Cert.SwaIdeal.κ "slope11" .f32 0xBCB8AA3B#32 ((-((1 / 64) * (Real.log 2)⁻¹) : ℝ) : EReal)
  ∧ IdealRules.named_const.Statement Cert.SwaIdeal.κ "slope12" .f32 0xBC8293EE#32 ((-(((1 / 128) * (Real.sqrt 2)) * (Real.log 2)⁻¹) : ℝ) : EReal)
  ∧ IdealRules.named_const.Statement Cert.SwaIdeal.κ "slope13" .f32 0xBC38AA3B#32 ((-((1 / 128) * (Real.log 2)⁻¹) : ℝ) : EReal)
  ∧ IdealRules.named_const.Statement Cert.SwaIdeal.κ "slope14" .f32 0xBC0293EE#32 ((-(((1 / 256) * (Real.sqrt 2)) * (Real.log 2)⁻¹) : ℝ) : EReal)
  ∧ IdealRules.named_const.Statement Cert.SwaIdeal.κ "slope15" .f32 0xBBB8AA3B#32 ((-((1 / 256) * (Real.log 2)⁻¹) : ℝ) : EReal)
  ∧ IdealRules.named_const.Statement Cert.SwaIdeal.κ "scale" .f32 0x3E38AA3B#32 (((1 / 8) * (Real.log 2)⁻¹ : ℝ) : EReal)
  ∧ IdealRules.named_const.Statement Cert.SwaIdeal.κ "log2e" .f32 0x3FB8AA3B#32 (((Real.log 2)⁻¹ : ℝ) : EReal)

def algebraic_SwaIdeal_SwaReferenceIdeal_pre_finite_attention [hSwaIdeal : Cert.SwaIdeal.Facts] [hSwaReferenceIdeal : Cert.SwaReferenceIdeal.Facts] [hPre_finite_attention : Cert.Pre_finite_attention.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal_finite_attention m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v86) = v0 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v20) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_DeltaIn_DeltaInIdeal : Prop :=
  True

def algebraic_DeltaInIdeal_DeltaInReferenceIdeal_pre_finite_delta_in [hDeltaInIdeal : Cert.DeltaInIdeal.Facts] [hDeltaInReferenceIdeal : Cert.DeltaInReferenceIdeal.Facts] [hPre_finite_delta_in : Cert.Pre_finite_delta_in.Facts] : Prop :=
  ∀ (m : (ℓ : Loc Cert.DeltaInIdeal.nD Cert.DeltaInIdeal.τ Cert.DeltaInIdeal.sig) → Buf (Elt Ideal) ℓ) (g : Dev Cert.DeltaInIdeal.nD → PrngReg)
    (m' : (ℓ : Loc Cert.DeltaInReferenceIdeal.nD Cert.DeltaInReferenceIdeal.τ Cert.DeltaInReferenceIdeal.sig) → Buf (Elt Ideal) ℓ) (g' : Dev Cert.DeltaInReferenceIdeal.nD → PrngReg), Pre_DeltaInIdeal_finite_delta_in m →
    (∀ c : Dev Cert.DeltaInIdeal.nD,
      m' ((c.tc : Thread Cert.DeltaInReferenceIdeal.nD Cert.DeltaInReferenceIdeal.τ).loc Cert.DeltaInReferenceIdeal.main_arg0) = m ((c.tc : Thread Cert.DeltaInIdeal.nD Cert.DeltaInIdeal.τ).loc Cert.DeltaInIdeal.main_arg0)
      ∧ m' ((c.tc : Thread Cert.DeltaInReferenceIdeal.nD Cert.DeltaInReferenceIdeal.τ).loc Cert.DeltaInReferenceIdeal.main_arg1) = m ((c.tc : Thread Cert.DeltaInIdeal.nD Cert.DeltaInIdeal.τ).loc Cert.DeltaInIdeal.main_arg1)
      ∧ m' ((c.tc : Thread Cert.DeltaInReferenceIdeal.nD Cert.DeltaInReferenceIdeal.τ).loc Cert.DeltaInReferenceIdeal.main_arg2) = m ((c.tc : Thread Cert.DeltaInIdeal.nD Cert.DeltaInIdeal.τ).loc Cert.DeltaInIdeal.main_arg2)
      ∧ m' ((c.tc : Thread Cert.DeltaInReferenceIdeal.nD Cert.DeltaInReferenceIdeal.τ).loc Cert.DeltaInReferenceIdeal.main_arg3) = m ((c.tc : Thread Cert.DeltaInIdeal.nD Cert.DeltaInIdeal.τ).loc Cert.DeltaInIdeal.main_arg3)) →
    ∃ (v0 : (c : Dev Cert.DeltaInIdeal.nD) → Buf (Elt Ideal) ((c.tc : Thread Cert.DeltaInIdeal.nD Cert.DeltaInIdeal.τ).loc Cert.DeltaInIdeal.main_v6)),
      θ_run (Cert.DeltaInIdeal.defs (F := Ideal)) (onTc (τ := Cert.DeltaInIdeal.τ) (Cert.DeltaInIdeal.main (F := Ideal))) ⟨m, fun _ => 0, g⟩ (fun r => ∀ c : Dev Cert.DeltaInIdeal.nD,
          r.2.mem ((c.tc : Thread Cert.DeltaInIdeal.nD Cert.DeltaInIdeal.τ).loc Cert.DeltaInIdeal.main_v6) = v0 c
          ∧ r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
          ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
          ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
          ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ θ_run (Cert.DeltaInReferenceIdeal.defs (F := Ideal)) (onTc (τ := Cert.DeltaInReferenceIdeal.τ) (Cert.DeltaInReferenceIdeal.main (F := Ideal))) ⟨m', fun _ => 0, g'⟩ (fun r => ∀ c : Dev Cert.DeltaInReferenceIdeal.nD,
          r.2.mem ((c.tc : Thread Cert.DeltaInReferenceIdeal.nD Cert.DeltaInReferenceIdeal.τ).loc Cert.DeltaInReferenceIdeal.main_v77) = v0 c
          ∧ r.2.mem ((c.tc : Thread Cert.DeltaInReferenceIdeal.nD Cert.DeltaInReferenceIdeal.τ).loc Cert.DeltaInReferenceIdeal.main_arg0) = m' ((c.tc : Thread Cert.DeltaInReferenceIdeal.nD Cert.DeltaInReferenceIdeal.τ).loc Cert.DeltaInReferenceIdeal.main_arg0)
          ∧ r.2.mem ((c.tc : Thread Cert.DeltaInReferenceIdeal.nD Cert.DeltaInReferenceIdeal.τ).loc Cert.DeltaInReferenceIdeal.main_arg1) = m' ((c.tc : Thread Cert.DeltaInReferenceIdeal.nD Cert.DeltaInReferenceIdeal.τ).loc Cert.DeltaInReferenceIdeal.main_arg1)
          ∧ r.2.mem ((c.tc : Thread Cert.DeltaInReferenceIdeal.nD Cert.DeltaInReferenceIdeal.τ).loc Cert.DeltaInReferenceIdeal.main_arg2) = m' ((c.tc : Thread Cert.DeltaInReferenceIdeal.nD Cert.DeltaInReferenceIdeal.τ).loc Cert.DeltaInReferenceIdeal.main_arg2)
          ∧ r.2.mem ((c.tc : Thread Cert.DeltaInReferenceIdeal.nD Cert.DeltaInReferenceIdeal.τ).loc Cert.DeltaInReferenceIdeal.main_arg3) = m' ((c.tc : Thread Cert.DeltaInReferenceIdeal.nD Cert.DeltaInReferenceIdeal.τ).loc Cert.DeltaInReferenceIdeal.main_arg3))

def preserves_MidTail_MidTailIdeal : Prop :=
  True

def algebraic_MidTailIdeal_MidTailReferenceIdeal_pre_finite_mid_tail [hMidTailIdeal : Cert.MidTailIdeal.Facts] [hMidTailReferenceIdeal : Cert.MidTailReferenceIdeal.Facts] [hPre_finite_mid_tail : Cert.Pre_finite_mid_tail.Facts] : Prop :=
  ∀ (m : (ℓ : Loc Cert.MidTailIdeal.nD Cert.MidTailIdeal.τ Cert.MidTailIdeal.sig) → Buf (Elt Ideal) ℓ) (g : Dev Cert.MidTailIdeal.nD → PrngReg)
    (m' : (ℓ : Loc Cert.MidTailReferenceIdeal.nD Cert.MidTailReferenceIdeal.τ Cert.MidTailReferenceIdeal.sig) → Buf (Elt Ideal) ℓ) (g' : Dev Cert.MidTailReferenceIdeal.nD → PrngReg), Pre_MidTailIdeal_finite_mid_tail m →
    (∀ c : Dev Cert.MidTailIdeal.nD,
      m' ((c.tc : Thread Cert.MidTailReferenceIdeal.nD Cert.MidTailReferenceIdeal.τ).loc Cert.MidTailReferenceIdeal.main_arg0) = m ((c.tc : Thread Cert.MidTailIdeal.nD Cert.MidTailIdeal.τ).loc Cert.MidTailIdeal.main_arg0)
      ∧ m' ((c.tc : Thread Cert.MidTailReferenceIdeal.nD Cert.MidTailReferenceIdeal.τ).loc Cert.MidTailReferenceIdeal.main_arg1) = m ((c.tc : Thread Cert.MidTailIdeal.nD Cert.MidTailIdeal.τ).loc Cert.MidTailIdeal.main_arg1)
      ∧ m' ((c.tc : Thread Cert.MidTailReferenceIdeal.nD Cert.MidTailReferenceIdeal.τ).loc Cert.MidTailReferenceIdeal.main_arg2) = m ((c.tc : Thread Cert.MidTailIdeal.nD Cert.MidTailIdeal.τ).loc Cert.MidTailIdeal.main_arg2)
      ∧ m' ((c.tc : Thread Cert.MidTailReferenceIdeal.nD Cert.MidTailReferenceIdeal.τ).loc Cert.MidTailReferenceIdeal.main_arg3) = m ((c.tc : Thread Cert.MidTailIdeal.nD Cert.MidTailIdeal.τ).loc Cert.MidTailIdeal.main_arg3)
      ∧ m' ((c.tc : Thread Cert.MidTailReferenceIdeal.nD Cert.MidTailReferenceIdeal.τ).loc Cert.MidTailReferenceIdeal.main_arg4) = m ((c.tc : Thread Cert.MidTailIdeal.nD Cert.MidTailIdeal.τ).loc Cert.MidTailIdeal.main_arg4)
      ∧ m' ((c.tc : Thread Cert.MidTailReferenceIdeal.nD Cert.MidTailReferenceIdeal.τ).loc Cert.MidTailReferenceIdeal.main_arg5) = m ((c.tc : Thread Cert.MidTailIdeal.nD Cert.MidTailIdeal.τ).loc Cert.MidTailIdeal.main_arg5)
      ∧ m' ((c.tc : Thread Cert.MidTailReferenceIdeal.nD Cert.MidTailReferenceIdeal.τ).loc Cert.MidTailReferenceIdeal.main_arg6) = m ((c.tc : Thread Cert.MidTailIdeal.nD Cert.MidTailIdeal.τ).loc Cert.MidTailIdeal.main_arg6)
      ∧ m' ((c.tc : Thread Cert.MidTailReferenceIdeal.nD Cert.MidTailReferenceIdeal.τ).loc Cert.MidTailReferenceIdeal.main_arg7) = m ((c.tc : Thread Cert.MidTailIdeal.nD Cert.MidTailIdeal.τ).loc Cert.MidTailIdeal.main_arg7)
      ∧ m' ((c.tc : Thread Cert.MidTailReferenceIdeal.nD Cert.MidTailReferenceIdeal.τ).loc Cert.MidTailReferenceIdeal.main_arg8) = m ((c.tc : Thread Cert.MidTailIdeal.nD Cert.MidTailIdeal.τ).loc Cert.MidTailIdeal.main_arg8)
      ∧ m' ((c.tc : Thread Cert.MidTailReferenceIdeal.nD Cert.MidTailReferenceIdeal.τ).loc Cert.MidTailReferenceIdeal.main_arg9) = m ((c.tc : Thread Cert.MidTailIdeal.nD Cert.MidTailIdeal.τ).loc Cert.MidTailIdeal.main_arg9)
      ∧ m' ((c.tc : Thread Cert.MidTailReferenceIdeal.nD Cert.MidTailReferenceIdeal.τ).loc Cert.MidTailReferenceIdeal.main_arg10) = m ((c.tc : Thread Cert.MidTailIdeal.nD Cert.MidTailIdeal.τ).loc Cert.MidTailIdeal.main_arg10)
      ∧ m' ((c.tc : Thread Cert.MidTailReferenceIdeal.nD Cert.MidTailReferenceIdeal.τ).loc Cert.MidTailReferenceIdeal.main_arg11) = m ((c.tc : Thread Cert.MidTailIdeal.nD Cert.MidTailIdeal.τ).loc Cert.MidTailIdeal.main_arg11)) →
    ∃ (v0 : (c : Dev Cert.MidTailIdeal.nD) → Buf (Elt Ideal) ((c.tc : Thread Cert.MidTailIdeal.nD Cert.MidTailIdeal.τ).loc Cert.MidTailIdeal.main_v10)),
      θ_run (Cert.MidTailIdeal.defs (F := Ideal)) (onTc (τ := Cert.MidTailIdeal.τ) (Cert.MidTailIdeal.main (F := Ideal))) ⟨m, fun _ => 0, g⟩ (fun r => ∀ c : Dev Cert.MidTailIdeal.nD,
          r.2.mem ((c.tc : Thread Cert.MidTailIdeal.nD Cert.MidTailIdeal.τ).loc Cert.MidTailIdeal.main_v10) = v0 c
          ∧ r.2.mem ((c.tc : Thread Cert.MidTailIdeal.nD Cert.MidTailIdeal.τ).loc Cert.MidTailIdeal.main_arg0) = m ((c.tc : Thread Cert.MidTailIdeal.nD Cert.MidTailIdeal.τ).loc Cert.MidTailIdeal.main_arg0)
          ∧ r.2.mem ((c.tc : Thread Cert.MidTailIdeal.nD Cert.MidTailIdeal.τ).loc Cert.MidTailIdeal.main_arg1) = m ((c.tc : Thread Cert.MidTailIdeal.nD Cert.MidTailIdeal.τ).loc Cert.MidTailIdeal.main_arg1)
          ∧ r.2.mem ((c.tc : Thread Cert.MidTailIdeal.nD Cert.MidTailIdeal.τ).loc Cert.MidTailIdeal.main_arg2) = m ((c.tc : Thread Cert.MidTailIdeal.nD Cert.MidTailIdeal.τ).loc Cert.MidTailIdeal.main_arg2)
          ∧ r.2.mem ((c.tc : Thread Cert.MidTailIdeal.nD Cert.MidTailIdeal.τ).loc Cert.MidTailIdeal.main_arg3) = m ((c.tc : Thread Cert.MidTailIdeal.nD Cert.MidTailIdeal.τ).loc Cert.MidTailIdeal.main_arg3)
          ∧ r.2.mem ((c.tc : Thread Cert.MidTailIdeal.nD Cert.MidTailIdeal.τ).loc Cert.MidTailIdeal.main_arg4) = m ((c.tc : Thread Cert.MidTailIdeal.nD Cert.MidTailIdeal.τ).loc Cert.MidTailIdeal.main_arg4)
          ∧ r.2.mem ((c.tc : Thread Cert.MidTailIdeal.nD Cert.MidTailIdeal.τ).loc Cert.MidTailIdeal.main_arg5) = m ((c.tc : Thread Cert.MidTailIdeal.nD Cert.MidTailIdeal.τ).loc Cert.MidTailIdeal.main_arg5)
          ∧ r.2.mem ((c.tc : Thread Cert.MidTailIdeal.nD Cert.MidTailIdeal.τ).loc Cert.MidTailIdeal.main_arg6) = m ((c.tc : Thread Cert.MidTailIdeal.nD Cert.MidTailIdeal.τ).loc Cert.MidTailIdeal.main_arg6)
          ∧ r.2.mem ((c.tc : Thread Cert.MidTailIdeal.nD Cert.MidTailIdeal.τ).loc Cert.MidTailIdeal.main_arg7) = m ((c.tc : Thread Cert.MidTailIdeal.nD Cert.MidTailIdeal.τ).loc Cert.MidTailIdeal.main_arg7)
          ∧ r.2.mem ((c.tc : Thread Cert.MidTailIdeal.nD Cert.MidTailIdeal.τ).loc Cert.MidTailIdeal.main_arg8) = m ((c.tc : Thread Cert.MidTailIdeal.nD Cert.MidTailIdeal.τ).loc Cert.MidTailIdeal.main_arg8)
          ∧ r.2.mem ((c.tc : Thread Cert.MidTailIdeal.nD Cert.MidTailIdeal.τ).loc Cert.MidTailIdeal.main_arg9) = m ((c.tc : Thread Cert.MidTailIdeal.nD Cert.MidTailIdeal.τ).loc Cert.MidTailIdeal.main_arg9)
          ∧ r.2.mem ((c.tc : Thread Cert.MidTailIdeal.nD Cert.MidTailIdeal.τ).loc Cert.MidTailIdeal.main_arg10) = m ((c.tc : Thread Cert.MidTailIdeal.nD Cert.MidTailIdeal.τ).loc Cert.MidTailIdeal.main_arg10)
          ∧ r.2.mem ((c.tc : Thread Cert.MidTailIdeal.nD Cert.MidTailIdeal.τ).loc Cert.MidTailIdeal.main_arg11) = m ((c.tc : Thread Cert.MidTailIdeal.nD Cert.MidTailIdeal.τ).loc Cert.MidTailIdeal.main_arg11))
      ∧ θ_run (Cert.MidTailReferenceIdeal.defs (F := Ideal)) (onTc (τ := Cert.MidTailReferenceIdeal.τ) (Cert.MidTailReferenceIdeal.main (F := Ideal))) ⟨m', fun _ => 0, g'⟩ (fun r => ∀ c : Dev Cert.MidTailReferenceIdeal.nD,
          r.2.mem ((c.tc : Thread Cert.MidTailReferenceIdeal.nD Cert.MidTailReferenceIdeal.τ).loc Cert.MidTailReferenceIdeal.main_v91) = v0 c
          ∧ r.2.mem ((c.tc : Thread Cert.MidTailReferenceIdeal.nD Cert.MidTailReferenceIdeal.τ).loc Cert.MidTailReferenceIdeal.main_arg0) = m' ((c.tc : Thread Cert.MidTailReferenceIdeal.nD Cert.MidTailReferenceIdeal.τ).loc Cert.MidTailReferenceIdeal.main_arg0)
          ∧ r.2.mem ((c.tc : Thread Cert.MidTailReferenceIdeal.nD Cert.MidTailReferenceIdeal.τ).loc Cert.MidTailReferenceIdeal.main_arg1) = m' ((c.tc : Thread Cert.MidTailReferenceIdeal.nD Cert.MidTailReferenceIdeal.τ).loc Cert.MidTailReferenceIdeal.main_arg1)
          ∧ r.2.mem ((c.tc : Thread Cert.MidTailReferenceIdeal.nD Cert.MidTailReferenceIdeal.τ).loc Cert.MidTailReferenceIdeal.main_arg2) = m' ((c.tc : Thread Cert.MidTailReferenceIdeal.nD Cert.MidTailReferenceIdeal.τ).loc Cert.MidTailReferenceIdeal.main_arg2)
          ∧ r.2.mem ((c.tc : Thread Cert.MidTailReferenceIdeal.nD Cert.MidTailReferenceIdeal.τ).loc Cert.MidTailReferenceIdeal.main_arg3) = m' ((c.tc : Thread Cert.MidTailReferenceIdeal.nD Cert.MidTailReferenceIdeal.τ).loc Cert.MidTailReferenceIdeal.main_arg3)
          ∧ r.2.mem ((c.tc : Thread Cert.MidTailReferenceIdeal.nD Cert.MidTailReferenceIdeal.τ).loc Cert.MidTailReferenceIdeal.main_arg4) = m' ((c.tc : Thread Cert.MidTailReferenceIdeal.nD Cert.MidTailReferenceIdeal.τ).loc Cert.MidTailReferenceIdeal.main_arg4)
          ∧ r.2.mem ((c.tc : Thread Cert.MidTailReferenceIdeal.nD Cert.MidTailReferenceIdeal.τ).loc Cert.MidTailReferenceIdeal.main_arg5) = m' ((c.tc : Thread Cert.MidTailReferenceIdeal.nD Cert.MidTailReferenceIdeal.τ).loc Cert.MidTailReferenceIdeal.main_arg5)
          ∧ r.2.mem ((c.tc : Thread Cert.MidTailReferenceIdeal.nD Cert.MidTailReferenceIdeal.τ).loc Cert.MidTailReferenceIdeal.main_arg6) = m' ((c.tc : Thread Cert.MidTailReferenceIdeal.nD Cert.MidTailReferenceIdeal.τ).loc Cert.MidTailReferenceIdeal.main_arg6)
          ∧ r.2.mem ((c.tc : Thread Cert.MidTailReferenceIdeal.nD Cert.MidTailReferenceIdeal.τ).loc Cert.MidTailReferenceIdeal.main_arg7) = m' ((c.tc : Thread Cert.MidTailReferenceIdeal.nD Cert.MidTailReferenceIdeal.τ).loc Cert.MidTailReferenceIdeal.main_arg7)
          ∧ r.2.mem ((c.tc : Thread Cert.MidTailReferenceIdeal.nD Cert.MidTailReferenceIdeal.τ).loc Cert.MidTailReferenceIdeal.main_arg8) = m' ((c.tc : Thread Cert.MidTailReferenceIdeal.nD Cert.MidTailReferenceIdeal.τ).loc Cert.MidTailReferenceIdeal.main_arg8)
          ∧ r.2.mem ((c.tc : Thread Cert.MidTailReferenceIdeal.nD Cert.MidTailReferenceIdeal.τ).loc Cert.MidTailReferenceIdeal.main_arg9) = m' ((c.tc : Thread Cert.MidTailReferenceIdeal.nD Cert.MidTailReferenceIdeal.τ).loc Cert.MidTailReferenceIdeal.main_arg9)
          ∧ r.2.mem ((c.tc : Thread Cert.MidTailReferenceIdeal.nD Cert.MidTailReferenceIdeal.τ).loc Cert.MidTailReferenceIdeal.main_arg10) = m' ((c.tc : Thread Cert.MidTailReferenceIdeal.nD Cert.MidTailReferenceIdeal.τ).loc Cert.MidTailReferenceIdeal.main_arg10)
          ∧ r.2.mem ((c.tc : Thread Cert.MidTailReferenceIdeal.nD Cert.MidTailReferenceIdeal.τ).loc Cert.MidTailReferenceIdeal.main_arg11) = m' ((c.tc : Thread Cert.MidTailReferenceIdeal.nD Cert.MidTailReferenceIdeal.τ).loc Cert.MidTailReferenceIdeal.main_arg11))

def preserves_Tail_TailIdeal : Prop :=
  True

def algebraic_TailIdeal_TailReferenceIdeal_pre_finite_tail [hTailIdeal : Cert.TailIdeal.Facts] [hTailReferenceIdeal : Cert.TailReferenceIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_tail m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v104) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11))

def Claim : Prop :=
  ∃ (hSwa : Cert.Swa.Facts) (hSwaIdeal : Cert.SwaIdeal.Facts) (hSwaReferenceIdeal : Cert.SwaReferenceIdeal.Facts) (hProject : Cert.Project.Facts) (hProjectIdeal : Cert.ProjectIdeal.Facts) (hProjectReferenceIdeal : Cert.ProjectReferenceIdeal.Facts) (hDeltaIn : Cert.DeltaIn.Facts) (hDeltaInIdeal : Cert.DeltaInIdeal.Facts) (hDeltaInReferenceIdeal : Cert.DeltaInReferenceIdeal.Facts) (hMidTail : Cert.MidTail.Facts) (hMidTailIdeal : Cert.MidTailIdeal.Facts) (hMidTailReferenceIdeal : Cert.MidTailReferenceIdeal.Facts) (hTail : Cert.Tail.Facts) (hTailIdeal : Cert.TailIdeal.Facts) (hTailReferenceIdeal : Cert.TailReferenceIdeal.Facts) (hPre_finite_attention : Cert.Pre_finite_attention.Facts) (hPre_finite_delta_in : Cert.Pre_finite_delta_in.Facts) (hPre_finite_mid_tail : Cert.Pre_finite_mid_tail.Facts) (hPre_finite_tail : Cert.Pre_finite_tail.Facts),
    quiescent_Swa (hSwa := hSwa)
    ∧ quiescent_SwaIdeal (hSwaIdeal := hSwaIdeal)
    ∧ quiescent_SwaIdeal_pre_finite_attention (hSwaIdeal := hSwaIdeal) (hPre_finite_attention := hPre_finite_attention)
    ∧ quiescent_SwaReferenceIdeal (hSwaReferenceIdeal := hSwaReferenceIdeal)
    ∧ quiescent_SwaReferenceIdeal_pre_finite_attention (hSwaReferenceIdeal := hSwaReferenceIdeal) (hPre_finite_attention := hPre_finite_attention)
    ∧ quiescent_Project (hProject := hProject)
    ∧ quiescent_ProjectIdeal (hProjectIdeal := hProjectIdeal)
    ∧ quiescent_ProjectReferenceIdeal (hProjectReferenceIdeal := hProjectReferenceIdeal)
    ∧ quiescent_DeltaIn (hDeltaIn := hDeltaIn)
    ∧ quiescent_DeltaInIdeal (hDeltaInIdeal := hDeltaInIdeal)
    ∧ quiescent_DeltaInIdeal_pre_finite_delta_in (hDeltaInIdeal := hDeltaInIdeal) (hPre_finite_delta_in := hPre_finite_delta_in)
    ∧ quiescent_DeltaInReferenceIdeal (hDeltaInReferenceIdeal := hDeltaInReferenceIdeal)
    ∧ quiescent_DeltaInReferenceIdeal_pre_finite_delta_in (hDeltaInReferenceIdeal := hDeltaInReferenceIdeal) (hPre_finite_delta_in := hPre_finite_delta_in)
    ∧ quiescent_MidTail (hMidTail := hMidTail)
    ∧ quiescent_MidTailIdeal (hMidTailIdeal := hMidTailIdeal)
    ∧ quiescent_MidTailIdeal_pre_finite_mid_tail (hMidTailIdeal := hMidTailIdeal) (hPre_finite_mid_tail := hPre_finite_mid_tail)
    ∧ quiescent_MidTailReferenceIdeal (hMidTailReferenceIdeal := hMidTailReferenceIdeal)
    ∧ quiescent_MidTailReferenceIdeal_pre_finite_mid_tail (hMidTailReferenceIdeal := hMidTailReferenceIdeal) (hPre_finite_mid_tail := hPre_finite_mid_tail)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailReferenceIdeal (hTailReferenceIdeal := hTailReferenceIdeal)
    ∧ quiescent_TailReferenceIdeal_pre_finite_tail (hTailReferenceIdeal := hTailReferenceIdeal) (hPre_finite_tail := hPre_finite_tail)
    ∧ preserves_Swa_SwaIdeal
    ∧ algebraic_SwaIdeal_SwaReferenceIdeal_pre_finite_attention (hSwaIdeal := hSwaIdeal) (hSwaReferenceIdeal := hSwaReferenceIdeal) (hPre_finite_attention := hPre_finite_attention)
    ∧ preserves_Project_ProjectIdeal
    ∧ algebraic_ProjectIdeal_ProjectReferenceIdeal (hProjectIdeal := hProjectIdeal) (hProjectReferenceIdeal := hProjectReferenceIdeal)
    ∧ preserves_DeltaIn_DeltaInIdeal
    ∧ algebraic_DeltaInIdeal_DeltaInReferenceIdeal_pre_finite_delta_in (hDeltaInIdeal := hDeltaInIdeal) (hDeltaInReferenceIdeal := hDeltaInReferenceIdeal) (hPre_finite_delta_in := hPre_finite_delta_in)
    ∧ preserves_MidTail_MidTailIdeal
    ∧ algebraic_MidTailIdeal_MidTailReferenceIdeal_pre_finite_mid_tail (hMidTailIdeal := hMidTailIdeal) (hMidTailReferenceIdeal := hMidTailReferenceIdeal) (hPre_finite_mid_tail := hPre_finite_mid_tail)
    ∧ preserves_Tail_TailIdeal
    ∧ algebraic_TailIdeal_TailReferenceIdeal_pre_finite_tail (hTailIdeal := hTailIdeal) (hTailReferenceIdeal := hTailReferenceIdeal) (hPre_finite_tail := hPre_finite_tail)
-- ==== Pre_finite_attention.lean ====
abbrev S32768x1536 : Shape := ⟨2, ![32768, 1536]⟩
abbrev S16 : Shape := ⟨1, ![16]⟩
abbrev S32768x1280 : Shape := ⟨2, ![32768, 1280]⟩
abbrev S_ : Shape := ⟨0, ![]⟩

class Facts : Prop where
  slices_S32768x1536_S32768x1280_0_0 : S32768x1536.Slices ![0, 0] S32768x1280
  bitsLt_bf16_f32 : FTy.bits .bf16 < FTy.bits .f32
  bcast_S_S32768x1280 : S_.BroadcastsInDim S32768x1280 (![] : Fin 0 → Fin S32768x1280.rank)
  reducesTo_S32768x1280_S_d0_1 : S32768x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1536 .bf16) (main_arg1 : FVec F S16 .f32) : IVec S_ 1 :=
  let main_v0 : FVec F S32768x1280 .bf16 := (extractStridedSlice S32768x1280 ![0, 0] · slices_S32768x1536_S32768x1280_0_0) main_arg0
  let main_v1 : FVec F S32768x1280 .f32 := (extf .f32 · bitsLt_bf16_f32) main_v0
  let main_v2 : FVec F S32768x1280 .f32 := Host.absf main_v1
  let main_cst : FVec F S_ .f32 := constant S_ .f32 0x7F800000#32
  let main_v3 : FVec F S32768x1280 .f32 := broadcastInDim S32768x1280 ![] bcast_S_S32768x1280 main_cst
  let main_v4 : IVec S32768x1280 1 := cmpf .olt main_v2 main_v3
  let main_c : IVec S_ 1 := constantI S_ 1 1#1
  let main_v5 : IVec S_ 1 := (fun x v => Host.reduce IntOp.andi x v reducesTo_S32768x1280_S_d0_1 h_S_) main_v4 main_c
  let main_cst_0 : FVec F S_ .f32 := constant S_ .f32 0x7F800000#32
  let main_v6 : FVec F S16 .f32 := broadcastInDim S16 ![] bcast_S_S16 main_cst_0
  let main_v7 : IVec S16 1 := cmpf .olt main_arg1 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v5 main_v8
  main_v9
-- ==== Pre_finite_delta_in.lean ====
abbrev S32768x1024 : Shape := ⟨2, ![32768, 1024]⟩
abbrev S2x1024 : Shape := ⟨2, ![2, 1024]⟩
abbrev S1x1024x4224 : Shape := ⟨3, ![1, 1024, 4224]⟩
abbrev S1x4x3072 : Shape := ⟨3, ![1, 4, 3072]⟩
abbrev S1x1024 : Shape := ⟨2, ![1, 1024]⟩
abbrev S1024 : Shape := ⟨1, ![1024]⟩
abbrev S_ : Shape := ⟨0, ![]⟩
abbrev S1x1024x3072 : Shape := ⟨3, ![1, 1024, 3072]⟩
abbrev S1024x3072 : Shape := ⟨2, ![1024, 3072]⟩
abbrev S4x3072 : Shape := ⟨2, ![4, 3072]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S1x1024x4224_S1x1024x3072_0_0_0 : S1x1024x4224.Slices ![0, 0, 0] S1x1024x3072
  shapeCasts_S1x1024x3072_S1024x3072 : S1x1024x3072.ShapeCasts S1024x3072
  bitsLt_bf16_f32 : FTy.bits .bf16 < FTy.bits .f32
  bcast_S_S1024x3072 : S_.BroadcastsInDim S1024x3072 (![] : Fin 0 → Fin S1024x3072.rank)
  reducesTo_S1024x3072_S_d0_1 : S1024x3072.ReducesTo [0, 1] S_
  shapeCasts_S1x4x3072_S4x3072 : S1x4x3072.ShapeCasts S4x3072
  bcast_S_S4x3072 : S_.BroadcastsInDim S4x3072 (![] : Fin 0 → Fin S4x3072.rank)
  reducesTo_S4x3072_S_d0_1 : S4x3072.ReducesTo [0, 1] S_

variable [Facts]

def fn_part1 {F : FTy → Type} [FloatOps F] (main_v13 : IVec S_ 1) (main_v17 : IVec S4x3072 1) (main_c_3 : IVec S_ 1) : IVec S_ 1 :=
  let main_v18 : IVec S_ 1 := (fun x v => Host.reduce IntOp.andi x v reducesTo_S4x3072_S_d0_1 h_S_) main_v17 main_c_3
  let main_v19 : IVec S_ 1 := andi main_v13 main_v18
  main_v19

def fn {F : FTy → Type} [FloatOps F] (main_arg0 : FVec F S32768x1024 .f32) (main_arg1 : FVec F S2x1024 .f32) (main_arg2 : FVec F S1x1024x4224 .bf16) (main_arg3 : FVec F S1x4x3072 .f32) : IVec S_ 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x3072 .bf16 := (extractStridedSlice S1x1024x3072 ![0, 0, 0] · slices_S1x1024x4224_S1x1024x3072_0_0_0) main_arg2
  let main_v7 : FVec F S1024x3072 .bf16 := shapeCast S1024x3072 main_v6 shapeCasts_S1x1024x3072_S1024x3072
  let main_v8 : FVec F S1024x3072 .f32 := (extf .f32 · bitsLt_bf16_f32) main_v7
  let main_v9 : FVec F S1024x3072 .f32 := Host.absf main_v8
  let main_cst_0 : FVec F S_ .f32 := constant S_ .f32 0x7F800000#32
  let main_v10 : FVec F S1024x3072 .f32 := broadcastInDim S1024x3072 ![] bcast_S_S1024x3072 main_cst_0
  let main_v11 : IVec S1024x3072 1 := cmpf .olt main_v9 main_v10
  let main_c_1 : IVec S_ 1 := constantI S_ 1 1#1
  let main_v12 : IVec S_ 1 := (fun x v => Host.reduce IntOp.andi x v reducesTo_S1024x3072_S_d0_1 h_S_) main_v11 main_c_1
  let main_v13 : IVec S_ 1 := andi main_v5 main_v12
  let main_v14 : FVec F S4x3072 .f32 := shapeCast S4x3072 main_arg3 shapeCasts_S1x4x3072_S4x3072
  let main_v15 : FVec F S4x3072 .f32 := Host.absf main_v14
  let main_cst_2 : FVec F S_ .f32 := constant S_ .f32 0x7F800000#32
  let main_v16 : FVec F S4x3072 .f32 := broadcastInDim S4x3072 ![] bcast_S_S4x3072 main_cst_2
  let main_v17 : IVec S4x3072 1 := cmpf .olt main_v15 main_v16
  let main_c_3 : IVec S_ 1 := constantI S_ 1 1#1
  fn_part1 (F := F) main_v13 main_v17 main_c_3
-- ==== Pre_finite_mid_tail.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x5632_S1x1024x5632_0_0_0 : S2x1024x5632.Slices ![0, 0, 0] S1x1024x5632
  shapeCasts_S1x1024x5632_S1024x5632 : S1x1024x5632.ShapeCasts S1024x5632
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  slices_S2x3x5632_S1x3x5632_0_0_0 : S2x3x5632.Slices ![0, 0, 0] S1x3x5632
  shapeCasts_S1x3x5632_S3x5632 : S1x3x5632.ShapeCasts S3x5632
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_v13 : IVec S_ 1) (main_v18 : IVec S3x5632 1) : IVec S_ 1 :=
  let main_c_3 : IVec S_ 1 := constantI S_ 1 1#1
  let main_v19 : IVec S_ 1 := (fun x v => Host.reduce IntOp.andi x v reducesTo_S3x5632_S_d0_1 h_S_) main_v18 main_c_3
  let main_v20 : IVec S_ 1 := andi main_v13 main_v19
  main_v20

def fn {F : FTy → Type} [FloatOps F] (main_arg0 : FVec F S32768x1024 .f32) (main_arg1 : FVec F S32768x1024 .bf16) (main_arg2 : FVec F S2x8x4096x256 .f32) (main_arg3 : FVec F S1x1024x1024 .bf16) (main_arg4 : FVec F S2x1024 .f32) (main_arg5 : FVec F S2x1024x5632 .bf16) (main_arg6 : FVec F S2x3x5632 .f32) (main_arg7 : FVec F S2x2816x1024 .bf16) (main_arg8 : FVec F S2x1024 .f32) (main_arg9 : FVec F S2x1024x1024 .bf16) (main_arg10 : FVec F S2x256x1024 .bf16) (main_arg11 : FVec F S1024 .f32) : IVec S_ 1 :=
  let main_v0 : FVec F S1x1024 .f32 := (extractStridedSlice S1x1024 ![0, 0] · slices_S2x1024_S1x1024_0_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x5632 .bf16 := (extractStridedSlice S1x1024x5632 ![0, 0, 0] · slices_S2x1024x5632_S1x1024x5632_0_0_0) main_arg5
  let main_v7 : FVec F S1024x5632 .bf16 := shapeCast S1024x5632 main_v6 shapeCasts_S1x1024x5632_S1024x5632
  let main_v8 : FVec F S1024x5632 .f32 := (extf .f32 · bitsLt_bf16_f32) main_v7
  let main_v9 : FVec F S1024x5632 .f32 := Host.absf main_v8
  let main_cst_0 : FVec F S_ .f32 := constant S_ .f32 0x7F800000#32
  let main_v10 : FVec F S1024x5632 .f32 := broadcastInDim S1024x5632 ![] bcast_S_S1024x5632 main_cst_0
  let main_v11 : IVec S1024x5632 1 := cmpf .olt main_v9 main_v10
  let main_c_1 : IVec S_ 1 := constantI S_ 1 1#1
  let main_v12 : IVec S_ 1 := (fun x v => Host.reduce IntOp.andi x v reducesTo_S1024x5632_S_d0_1 h_S_) main_v11 main_c_1
  let main_v13 : IVec S_ 1 := andi main_v5 main_v12
  let main_v14 : FVec F S1x3x5632 .f32 := (extractStridedSlice S1x3x5632 ![0, 0, 0] · slices_S2x3x5632_S1x3x5632_0_0_0) main_arg6
  let main_v15 : FVec F S3x5632 .f32 := shapeCast S3x5632 main_v14 shapeCasts_S1x3x5632_S3x5632
  let main_v16 : FVec F S3x5632 .f32 := Host.absf main_v15
  let main_cst_2 : FVec F S_ .f32 := constant S_ .f32 0x7F800000#32
  let main_v17 : FVec F S3x5632 .f32 := broadcastInDim S3x5632 ![] bcast_S_S3x5632 main_cst_2
  let main_v18 : IVec S3x5632 1 := cmpf .olt main_v16 main_v17
  fn_part1 (F := F) main_v13 main_v18
-- ==== Pre_finite_tail.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x5632_S1x1024x5632_1_0_0 : S2x1024x5632.Slices ![1, 0, 0] S1x1024x5632
  shapeCasts_S1x1024x5632_S1024x5632 : S1x1024x5632.ShapeCasts S1024x5632
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  slices_S2x3x5632_S1x3x5632_1_0_0 : S2x3x5632.Slices ![1, 0, 0] S1x3x5632
  shapeCasts_S1x3x5632_S3x5632 : S1x3x5632.ShapeCasts S3x5632
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_v13 : IVec S_ 1) (main_v18 : IVec S3x5632 1) : IVec S_ 1 :=
  let main_c_3 : IVec S_ 1 := constantI S_ 1 1#1
  let main_v19 : IVec S_ 1 := (fun x v => Host.reduce IntOp.andi x v reducesTo_S3x5632_S_d0_1 h_S_) main_v18 main_c_3
  let main_v20 : IVec S_ 1 := andi main_v13 main_v19
  main_v20

def fn {F : FTy → Type} [FloatOps F] (main_arg0 : FVec F S32768x1024 .f32) (main_arg1 : FVec F S32768x1024 .bf16) (main_arg2 : FVec F S2x8x4096x256 .f32) (main_arg3 : FVec F S1x1024x1024 .bf16) (main_arg4 : FVec F S2x1024 .f32) (main_arg5 : FVec F S2x1024x5632 .bf16) (main_arg6 : FVec F S2x3x5632 .f32) (main_arg7 : FVec F S2x2816x1024 .bf16) (main_arg8 : FVec F S2x1024 .f32) (main_arg9 : FVec F S2x1024x1024 .bf16) (main_arg10 : FVec F S2x256x1024 .bf16) (main_arg11 : FVec F S1024 .f32) : IVec S_ 1 :=
  let main_v0 : FVec F S1x1024 .f32 := (extractStridedSlice S1x1024 ![1, 0] · slices_S2x1024_S1x1024_1_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x5632 .bf16 := (extractStridedSlice S1x1024x5632 ![1, 0, 0] · slices_S2x1024x5632_S1x1024x5632_1_0_0) main_arg5
  let main_v7 : FVec F S1024x5632 .bf16 := shapeCast S1024x5632 main_v6 shapeCasts_S1x1024x5632_S1024x5632
  let main_v8 : FVec F S1024x5632 .f32 := (extf .f32 · bitsLt_bf16_f32) main_v7
  let main_v9 : FVec F S1024x5632 .f32 := Host.absf main_v8
  let main_cst_0 : FVec F S_ .f32 := constant S_ .f32 0x7F800000#32
  let main_v10 : FVec F S1024x5632 .f32 := broadcastInDim S1024x5632 ![] bcast_S_S1024x5632 main_cst_0
  let main_v11 : IVec S1024x5632 1 := cmpf .olt main_v9 main_v10
  let main_c_1 : IVec S_ 1 := constantI S_ 1 1#1
  let main_v12 : IVec S_ 1 := (fun x v => Host.reduce IntOp.andi x v reducesTo_S1024x5632_S_d0_1 h_S_) main_v11 main_c_1
  let main_v13 : IVec S_ 1 := andi main_v5 main_v12
  let main_v14 : FVec F S1x3x5632 .f32 := (extractStridedSlice S1x3x5632 ![1, 0, 0] · slices_S2x3x5632_S1x3x5632_1_0_0) main_arg6
  let main_v15 : FVec F S3x5632 .f32 := shapeCast S3x5632 main_v14 shapeCasts_S1x3x5632_S3x5632
  let main_v16 : FVec F S3x5632 .f32 := Host.absf main_v15
  let main_cst_2 : FVec F S_ .f32 := constant S_ .f32 0x7F800000#32
  let main_v17 : FVec F S3x5632 .f32 := broadcastInDim S3x5632 ![] bcast_S_S3x5632 main_cst_2
  let main_v18 : IVec S3x5632 1 := cmpf .olt main_v16 main_v17
  fn_part1 (F := F) main_v13 main_v18
-- ==== Swa.lean ====
abbrev S32768x1536 : Shape := ⟨2, ![32768, 1536]⟩
abbrev S16 : Shape := ⟨1, ![16]⟩
abbrev S32768x1024 : Shape := ⟨2, ![32768, 1024]⟩
abbrev S512x1024 : Shape := ⟨2, ![512, 1024]⟩
abbrev S512x256 : Shape := ⟨2, ![512, 256]⟩
abbrev S128x256 : Shape := ⟨2, ![128, 256]⟩
abbrev S2x16x128x256 : Shape := ⟨4, ![2, 16, 128, 256]⟩
abbrev S1x1x128x256 : Shape := ⟨4, ![1, 1, 128, 256]⟩
abbrev S256x192 : Shape := ⟨2, ![256, 192]⟩
abbrev S128x64 : Shape := ⟨2, ![128, 64]⟩
abbrev S256x64 : Shape := ⟨2, ![256, 64]⟩
abbrev S512x64 : Shape := ⟨2, ![512, 64]⟩
abbrev S256x256 : Shape := ⟨2, ![256, 256]⟩
abbrev S1 : Shape := ⟨1, ![1]⟩
abbrev S128 : Shape := ⟨1, ![128]⟩
abbrev S128x1 : Shape := ⟨2, ![128, 1]⟩

abbrev nBuf : Space → Nat
  | .hbm => 3
  | .vmem => 13
  | .smem => 1
  | _ => 0

abbrev bufTy : (tb : Table) → Fin (tcTables nBuf tb) → BufTy
  | .hbm, ⟨0, _⟩ => ⟨S32768x1536, .bf16⟩
  | .hbm, ⟨1, _⟩ => ⟨S16, .f32⟩
  | .hbm, ⟨2, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S512x1024, .bf16⟩
  | .local _ .vmem, ⟨11, _⟩ => ⟨S512x1024, .bf16⟩
  | .local _ .vmem, ⟨12, _⟩ => ⟨S2x16x128x256, .f32⟩
  | .local _ .smem, ⟨0, _⟩ => ⟨S16, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v230 : Index := Scalar.indexCast v14
  let c0_220 : Index := 0#32
  let c0_221 : Index := 0#32
  let c0_222 : Index := 0#32
  ![v230.toNat, 0, 0, 0]
def k0_off2 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v248 : Index := Scalar.indexCast v14
  let c1_225 : Index := 1#32
  let c0_226 : Index := 0#32
  let c0_227 : Index := 0#32
  ![v248.toNat, 1, 0, 0]
def k0_off3 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v266 : Index := Scalar.indexCast v14
  let c2_230 : Index := 2#32
  let c0_231 : Index := 0#32
  let c0_232 : Index := 0#32
  ![v266.toNat, 2, 0, 0]
def k0_off4 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v284 : Index := Scalar.indexCast v14
  let c3_235 : Index := 3#32
  let c0_236 : Index := 0#32
  let c0_237 : Index := 0#32
  ![v284.toNat, 3, 0, 0]
def k0_off5 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v340 : Index := Scalar.indexCast v14
  let c4_253 : Index := 4#32
  let c0_254 : Index := 0#32
  let c0_255 : Index := 0#32
  ![v340.toNat, 4, 0, 0]
def k0_off6 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v358 : Index := Scalar.indexCast v14
  let c5_258 : Index := 5#32
  let c0_259 : Index := 0#32
  let c0_260 : Index := 0#32
  ![v358.toNat, 5, 0, 0]
def k0_off7 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v376 : Index := Scalar.indexCast v14
  let c6_263 : Index := 6#32
  let c0_264 : Index := 0#32
  let c0_265 : Index := 0#32
  ![v376.toNat, 6, 0, 0]
def k0_off8 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v394 : Index := Scalar.indexCast v14
  let c7_268 : Index := 7#32
  let c0_269 : Index := 0#32
  let c0_270 : Index := 0#32
  ![v394.toNat, 7, 0, 0]
def k0_off9 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v450 : Index := Scalar.indexCast v14
  let c8_286 : Index := 8#32
  let c0_287 : Index := 0#32
  let c0_288 : Index := 0#32
  ![v450.toNat, 8, 0, 0]
def k0_off10 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v468 : Index := Scalar.indexCast v14
  let c9_291 : Index := 9#32
  let c0_292 : Index := 0#32
  let c0_293 : Index := 0#32
  ![v468.toNat, 9, 0, 0]
def k0_off11 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v486 : Index := Scalar.indexCast v14
  let c10_296 : Index := 10#32
  let c0_297 : Index := 0#32
  let c0_298 : Index := 0#32
  ![v486.toNat, 10, 0, 0]
def k0_off12 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v504 : Index := Scalar.indexCast v14
  let c11_301 : Index := 11#32
  let c0_302 : Index := 0#32
  let c0_303 : Index := 0#32
  ![v504.toNat, 11, 0, 0]
def k0_off13 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v560 : Index := Scalar.indexCast v14
  let c12_319 : Index := 12#32
  let c0_320 : Index := 0#32
  let c0_321 : Index := 0#32
  ![v560.toNat, 12, 0, 0]
def k0_off14 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v578 : Index := Scalar.indexCast v14
  let c13_324 : Index := 13#32
  let c0_325 : Index := 0#32
  let c0_326 : Index := 0#32
  ![v578.toNat, 13, 0, 0]
def k0_off15 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v596 : Index := Scalar.indexCast v14
  let c14_329 : Index := 14#32
  let c0_330 : Index := 0#32
  let c0_331 : Index := 0#32
  ![v596.toNat, 14, 0, 0]
def k0_off16 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let v614 : Index := Scalar.indexCast v14
  let c15_334 : Index := 15#32
  let c0_335 : Index := 0#32
  let c0_336 : Index := 0#32
  ![v614.toNat, 15, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | "slope0" => some ((-(((1 / 2) * (Real.sqrt 2)) * (Real.log 2)⁻¹) : ℝ) : EReal)
  | "slope1" => some ((-((1 / 2) * (Real.log 2)⁻¹) : ℝ) : EReal)
  | "slope10" => some ((-(((1 / 64) * (Real.sqrt 2)) * (Real.log 2)⁻¹) : ℝ) : EReal)
  | "slope11" => some ((-((1 / 64) * (Real.log 2)⁻¹) : ℝ) : EReal)
  | "slope12" => some ((-(((1 / 128) * (Real.sqrt 2)) * (Real.log 2)⁻¹) : ℝ) : EReal)
  | "slope13" => some ((-((1 / 128) * (Real.log 2)⁻¹) : ℝ) : EReal)
  | "slope14" => some ((-(((1 / 256) * (Real.sqrt 2)) * (Real.log 2)⁻¹) : ℝ) : EReal)
  | "slope15" => some ((-((1 / 256) * (Real.log 2)⁻¹) : ℝ) : EReal)
  | "slope2" => some ((-(((1 / 4) * (Real.sqrt 2)) * (Real.log 2)⁻¹) : ℝ) : EReal)
  | "slope3" => some ((-((1 / 4) * (Real.log 2)⁻¹) : ℝ) : EReal)
  | "slope4" => some ((-(((1 / 8) * (Real.sqrt 2)) * (Real.log 2)⁻¹) : ℝ) : EReal)
  | "slope5" => some ((-((1 / 8) * (Real.log 2)⁻¹) : ℝ) : EReal)
  | "slope6" => some ((-(((1 / 16) * (Real.sqrt 2)) * (Real.log 2)⁻¹) : ℝ) : EReal)
  | "slope7" => some ((-((1 / 16) * (Real.log 2)⁻¹) : ℝ) : EReal)
  | "slope8" => some ((-(((1 / 32) * (Real.sqrt 2)) * (Real.log 2)⁻¹) : ℝ) : EReal)
  | "slope9" => some ((-((1 / 32) * (Real.log 2)⁻¹) : ℝ) : EReal)
  | _ => none
-- ==== SwaReferenceIdeal.lean ====
abbrev S32768x1536 : Shape := ⟨2, ![32768, 1536]⟩
abbrev S16 : Shape := ⟨1, ![16]⟩
abbrev S8x4096x1536 : Shape := ⟨3, ![8, 4096, 1536]⟩
abbrev S8x4096x1024 : Shape := ⟨3, ![8, 4096, 1024]⟩
abbrev S8x32x128x4x4x64 : Shape := ⟨6, ![8, 32, 128, 4, 4, 64]⟩
abbrev S8x4096x256 : Shape := ⟨3, ![8, 4096, 256]⟩
abbrev S8x32x128x4x64 : Shape := ⟨5, ![8, 32, 128, 4, 64]⟩
abbrev S8x31x128x4x64 : Shape := ⟨5, ![8, 31, 128, 4, 64]⟩
abbrev S_ : Shape := ⟨0, ![]⟩
abbrev S8x32x256x4x64 : Shape := ⟨5, ![8, 32, 256, 4, 64]⟩
abbrev S8x4x32x256x128x4 : Shape := ⟨6, ![8, 4, 32, 256, 128, 4]⟩
abbrev S8x4x4x32x128x256 : Shape := ⟨6, ![8, 4, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x4 : Shape := ⟨2, ![4, 4]⟩
abbrev S1x4x4x1x1x1 : Shape := ⟨6, ![1, 4, 4, 1, 1, 1]⟩
abbrev S1x1x1x1x128x256 : Shape := ⟨6, ![1, 1, 1, 1, 128, 256]⟩
abbrev S1x4x4x1x128x256 : Shape := ⟨6, ![1, 4, 4, 1, 128, 256]⟩
abbrev S8x4x4x32x128 : Shape := ⟨5, ![8, 4, 4, 32, 128]⟩
abbrev S8x4x4x32x128x1 : Shape := ⟨6, ![8, 4, 4, 32, 128, 1]⟩
abbrev S8x32x4x64x4x128 : Shape := ⟨6, ![8, 32, 4, 64, 4, 128]⟩
abbrev S32768x1024 : Shape := ⟨2, ![32768, 1024]⟩

abbrev nBuf : Space → Nat
  | .hbm => 110
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S16, .f32⟩
  | .hbm, ⟨2, _⟩ => ⟨S32768x1536, .f32⟩
  | .hbm, ⟨3, _⟩ => ⟨S8x4096x1536, .f32⟩
  | .hbm, ⟨4, _⟩ => ⟨S8x4096x1024, .f32⟩
  | .hbm, ⟨5, _⟩ => ⟨S8x32x128x4x4x64, .f32⟩
  | .hbm, ⟨6, _⟩ => ⟨S8x4096x256, .f32⟩
  | .hbm, ⟨7, _⟩ => ⟨S8x32x128x4x64, .f32⟩
  | .hbm, ⟨8, _⟩ => ⟨S8x4096x256, .f32⟩
  | .hbm, ⟨9, _⟩ => ⟨S8x32x128x4x64, .f32⟩
  | .hbm, ⟨10, _⟩ => ⟨S8x31x128x4x64, .f32⟩
  | .hbm, ⟨11, _⟩ => ⟨S_, .i32⟩
  | .hbm, ⟨12, _⟩ => ⟨S_, .f32⟩
  | .hbm, ⟨13, _⟩ => ⟨S8x32x128x4x64, .f32⟩
  | .hbm, ⟨14, _⟩ => ⟨S8x32x256x4x64, .f32⟩
  | .hbm, ⟨15, _⟩ => ⟨S8x31x128x4x64, .f32⟩
  | .hbm, ⟨16, _⟩ => ⟨S_, .i32⟩
  | .hbm, ⟨17, _⟩ => ⟨S_, .f32⟩
  | .hbm, ⟨18, _⟩ => ⟨S8x32x128x4x64, .f32⟩
  | .hbm, ⟨19, _⟩ => ⟨S8x32x256x4x64, .f32⟩
  | .hbm, ⟨20, _⟩ => ⟨S8x4x32x256x128x4, .f32⟩
  | .hbm, ⟨21, _⟩ => ⟨S8x4x4x32x128x256, .f32⟩
  | .hbm, ⟨22, _⟩ => ⟨S_, .f32⟩
  | .hbm, ⟨23, _⟩ => ⟨S8x4x4x32x128x256, .f32⟩
  | .hbm, ⟨24, _⟩ => ⟨S8x4x4x32x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1x1, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S4x4, .f32⟩
  | .hbm, ⟨75, _⟩ => ⟨S1x4x4x1x1x1, .f32⟩
  | .hbm, ⟨76, _⟩ => ⟨S128x256, .f32⟩
  | .hbm, ⟨77, _⟩ => ⟨S1x1x1x1x128x256, .f32⟩
  | .hbm, ⟨78, _⟩ => ⟨S1x4x4x1x128x256, .f32⟩
  | .hbm, ⟨79, _⟩ => ⟨S1x4x4x1x128x256, .f32⟩
  | .hbm, ⟨80, _⟩ => ⟨S1x4x4x1x128x256, .f32⟩
  | .hbm, ⟨81, _⟩ => ⟨S8x4x4x32x128x256, .f32⟩
  | .hbm, ⟨82, _⟩ => ⟨S8x4x4x32x128x256, .f32⟩
  | .hbm, ⟨83, _⟩ => ⟨S_, .f32⟩
  | .hbm, ⟨84, _⟩ => ⟨S_, .f32⟩
  | .hbm, ⟨85, _⟩ => ⟨S8x4x4x32x128x256, .i1⟩
  | .hbm, ⟨86, _⟩ => ⟨S8x4x4x32x128x256, .f32⟩
  | .hbm, ⟨87, _⟩ => ⟨S8x4x4x32x128x256, .f32⟩
  | .hbm, ⟨88, _⟩ => ⟨S1x4x4x1x1x1, .f32⟩
  | .hbm, ⟨89, _⟩ => ⟨S_, .f32⟩
  | .hbm, ⟨90, _⟩ => ⟨S8x4x4x32x128, .f32⟩
  | .hbm, ⟨91, _⟩ => ⟨S8x4x4x32x128x1, .f32⟩
  | .hbm, ⟨92, _⟩ => ⟨S8x4x4x32x128x1, .f32⟩
  | .hbm, ⟨93, _⟩ => ⟨S8x4x4x32x128x1, .f32⟩
  | .hbm, ⟨94, _⟩ => ⟨S8x4x4x32x128x256, .f32⟩
  | .hbm, ⟨95, _⟩ => ⟨S8x4x4x32x128x256, .f32⟩
  | .hbm, ⟨96, _⟩ => ⟨S8x4x4x32x128x256, .f32⟩
  | .hbm, ⟨97, _⟩ => ⟨S_, .f32⟩
  | .hbm, ⟨98, _⟩ => ⟨S8x4x4x32x128, .f32⟩
  | .hbm, ⟨99, _⟩ => ⟨S8x4x4x32x128x1, .f32⟩
  | .hbm, ⟨100, _⟩ => ⟨S8x4x4x32x128x1, .f32⟩
  | .hbm, ⟨101, _⟩ => ⟨S8x4x4x32x128x1, .f32⟩
  | .hbm, ⟨102, _⟩ => ⟨S8x4x4x32x128x1, .f32⟩
  | .hbm, ⟨103, _⟩ => ⟨S8x4x4x32x128x1, .f32⟩
  | .hbm, ⟨104, _⟩ => ⟨S8x4x4x32x128x256, .f32⟩
  | .hbm, ⟨105, _⟩ => ⟨S8x4x4x32x128x256, .f32⟩
  | .hbm, ⟨106, _⟩ => ⟨S8x32x4x64x4x128, .f32⟩
  | .hbm, ⟨107, _⟩ => ⟨S8x32x128x4x4x64, .f32⟩
  | .hbm, ⟨108, _⟩ => ⟨S32768x1024, .f32⟩
  | .hbm, ⟨109, _⟩ => ⟨S32768x1024, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Project.lean ====
abbrev S32768x1024 : Shape := ⟨2, ![32768, 1024]⟩
abbrev S2x1024 : Shape := ⟨2, ![2, 1024]⟩
abbrev S1x1024x1536 : Shape := ⟨3, ![1, 1024, 1536]⟩
abbrev S1x1024 : Shape := ⟨2, ![1, 1024]⟩
abbrev S1024 : Shape := ⟨1, ![1024]⟩
abbrev S32768x1536 : Shape := ⟨2, ![32768, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x1536, .bf16⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1536, .bf16⟩
  | .local _ .vmem, ⟨4, _⟩ => ⟨S512x1536, .bf16⟩
  | .local _ .vmem, ⟨5, _⟩ => ⟨S512x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S32768x1024 : Shape := ⟨2, ![32768, 1024]⟩
abbrev S2x1024 : Shape := ⟨2, ![2, 1024]⟩
abbrev S1x1024x1536 : Shape := ⟨3, ![1, 1024, 1536]⟩
abbrev S8x4096x1024 : Shape := ⟨3, ![8, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S8x4096x1536 : Shape := ⟨3, ![8, 4096, 1536]⟩
abbrev S32768x1536 : Shape := ⟨2, ![32768, 1536]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x1536, .bf16⟩
  | .hbm, ⟨3, _⟩ => ⟨S8x4096x1024, .f32⟩
  | .hbm, ⟨4, _⟩ => ⟨S1x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1x1024x1536, .f32⟩
  | .hbm, ⟨23, _⟩ => ⟨S1024x1536, .f32⟩
  | .hbm, ⟨24, _⟩ => ⟨S8x4096x1536, .f32⟩
  | .hbm, ⟨25, _⟩ => ⟨S32768x1536, .f32⟩
  | .hbm, ⟨26, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== DeltaIn.lean ====
abbrev S32768x1024 : Shape := ⟨2, ![32768, 1024]⟩
abbrev S2x1024 : Shape := ⟨2, ![2, 1024]⟩
abbrev S1x1024x4224 : Shape := ⟨3, ![1, 1024, 4224]⟩
abbrev S1x4x3072 : Shape := ⟨3, ![1, 4, 3072]⟩
abbrev S4x3072 : Shape := ⟨2, ![4, 3072]⟩
abbrev S_ : Shape := ⟨0, ![]⟩
abbrev S4x4224 : Shape := ⟨2, ![4, 4224]⟩
abbrev S1x1024 : Shape := ⟨2, ![1, 1024]⟩
abbrev S1024 : Shape := ⟨1, ![1024]⟩
abbrev S32768x4224 : Shape := ⟨2, ![32768, 4224]⟩
abbrev S512x1024 : Shape := ⟨2, ![512, 1024]⟩
abbrev S16x1024 : Shape := ⟨2, ![16, 1024]⟩
abbrev S512x4224 : Shape := ⟨2, ![512, 4224]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S1x1024x512 : Shape := ⟨3, ![1, 1024, 512]⟩
abbrev S1024x512 : Shape := ⟨2, ![1024, 512]⟩
abbrev S528x512 : Shape := ⟨2, ![528, 512]⟩
abbrev S4x512 : Shape := ⟨2, ![4, 512]⟩
abbrev S1x512 : Shape := ⟨2, ![1, 512]⟩
abbrev S512x512 : Shape := ⟨2, ![512, 512]⟩
abbrev S512x128 : Shape := ⟨2, ![512, 128]⟩
abbrev S1x1024x128 : Shape := ⟨3, ![1, 1024, 128]⟩
abbrev S1024x128 : Shape := ⟨2, ![1024, 128]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x4224, .bf16⟩
  | .hbm, ⟨3, _⟩ => ⟨S1x4x3072, .f32⟩
  | .hbm, ⟨4, _⟩ => ⟨S4x3072, .f32⟩
  | .hbm, ⟨5, _⟩ => ⟨S4x3072, .f32⟩
  | .hbm, ⟨6, _⟩ => ⟨S_, .i32⟩
  | .hbm, ⟨7, _⟩ => ⟨S_, .f32⟩
  | .hbm, ⟨8, _⟩ => ⟨S4x4224, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x4224, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024x4224, .bf16⟩
  | .local _ .vmem, ⟨6, _⟩ => ⟨S4x4224, .f32⟩
  | .local _ .vmem, ⟨7, _⟩ => ⟨S512x4224, .f32⟩
  | .local _ .vmem, ⟨8, _⟩ => ⟨S512x4224, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DeltaInReferenceIdeal.lean ====
abbrev S32768x1024 : Shape := ⟨2, ![32768, 1024]⟩
abbrev S2x1024 : Shape := ⟨2, ![2, 1024]⟩
abbrev S1x1024x4224 : Shape := ⟨3, ![1, 1024, 4224]⟩
abbrev S1x4x3072 : Shape := ⟨3, ![1, 4, 3072]⟩
abbrev S8x4096x1024 : Shape := ⟨3, ![8, 4096, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4224 : Shape := ⟨2, ![1024, 4224]⟩
abbrev S8x4096x4224 : Shape := ⟨3, ![8, 4096, 4224]⟩
abbrev S8x4096x3072 : Shape := ⟨3, ![8, 4096, 3072]⟩
abbrev S4x3072 : Shape := ⟨2, ![4, 3072]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x1152 : Shape := ⟨3, ![8, 4096, 1152]⟩
abbrev S32768x4224 : Shape := ⟨2, ![32768, 4224]⟩

abbrev nBuf : Space → Nat
  | .hbm => 100
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x4224, .bf16⟩
  | .hbm, ⟨3, _⟩ => ⟨S1x4x3072, .f32⟩
  | .hbm, ⟨4, _⟩ => ⟨S8x4096x1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x4224, .f32⟩
  | .hbm, ⟨24, _⟩ => ⟨S1024x4224, .f32⟩
  | .hbm, ⟨25, _⟩ => ⟨S8x4096x4224, .f32⟩
  | .hbm, ⟨26, _⟩ => ⟨S8x4096x3072, .f32⟩
  | .hbm, ⟨27, _⟩ => ⟨S4x3072, .f32⟩
  | .hbm, ⟨28, _⟩ => ⟨S_, .i32⟩
  | .hbm, ⟨29, _⟩ => ⟨S_, .f32⟩
  | .hbm, ⟨30, _⟩ => ⟨S8x4099x3072, .f32⟩
  | .hbm, ⟨31, _⟩ => ⟨S1x3072, .f32⟩
  | .hbm, ⟨32, _⟩ => ⟨S3072, .f32⟩
  | .hbm, ⟨33, _⟩ => ⟨S8x4096x3072, .f32⟩
  | .hbm, ⟨34, _⟩ => ⟨S1x1x3072, .f32⟩
  | .hbm, ⟨35, _⟩ => ⟨S8x4096x3072, .f32⟩
  | .hbm, ⟨36, _⟩ => ⟨S8x4096x3072, .f32⟩
  | .hbm, ⟨37, _⟩ => ⟨S1x3072, .f32⟩
  | .hbm, ⟨38, _⟩ => ⟨S3072, .f32⟩
  | .hbm, ⟨39, _⟩ => ⟨S8x4096x3072, .f32⟩
  | .hbm, ⟨40, _⟩ => ⟨S1x1x3072, .f32⟩
  | .hbm, ⟨41, _⟩ => ⟨S8x4096x3072, .f32⟩
  | .hbm, ⟨42, _⟩ => ⟨S8x4096x3072, .f32⟩
  | .hbm, ⟨43, _⟩ => ⟨S8x4096x3072, .f32⟩
  | .hbm, ⟨44, _⟩ => ⟨S1x3072, .f32⟩
  | .hbm, ⟨45, _⟩ => ⟨S3072, .f32⟩
  | .hbm, ⟨46, _⟩ => ⟨S8x4096x3072, .f32⟩
  | .hbm, ⟨47, _⟩ => ⟨S1x1x3072, .f32⟩
  | .hbm, ⟨48, _⟩ => ⟨S8x4096x3072, .f32⟩
  | .hbm, ⟨49, _⟩ => ⟨S8x4096x3072, .f32⟩
  | .hbm, ⟨50, _⟩ => ⟨S8x4096x3072, .f32⟩
  | .hbm, ⟨51, _⟩ => ⟨S1x3072, .f32⟩
  | .hbm, ⟨52, _⟩ => ⟨S3072, .f32⟩
  | .hbm, ⟨53, _⟩ => ⟨S8x4096x3072, .f32⟩
  | .hbm, ⟨54, _⟩ => ⟨S1x1x3072, .f32⟩
  | .hbm, ⟨55, _⟩ => ⟨S8x4096x3072, .f32⟩
  | .hbm, ⟨56, _⟩ => ⟨S8x4096x3072, .f32⟩
  | .hbm, ⟨57, _⟩ => ⟨S8x4096x3072, .f32⟩
  | .hbm, ⟨58, _⟩ => ⟨S8x4096x3072, .f32⟩
  | .hbm, ⟨59, _⟩ => ⟨S8x4096x3072, .f32⟩
  | .hbm, ⟨60, _⟩ => ⟨S_, .f32⟩
  | .hbm, ⟨61, _⟩ => ⟨S8x4096x3072, .f32⟩
  | .hbm, ⟨62, _⟩ => ⟨S8x4096x3072, .f32⟩
  | .hbm, ⟨63, _⟩ => ⟨S_, .f32⟩
  | .hbm, ⟨64, _⟩ => ⟨S8x4096x3072, .f32⟩
  | .hbm, ⟨65, _⟩ => ⟨S8x4096x3072, .f32⟩
  | .hbm, ⟨66, _⟩ => ⟨S8x4096x3072, .f32⟩
  | .hbm, ⟨67, _⟩ => ⟨S8x4096x1024, .f32⟩
  | .hbm, ⟨68, _⟩ => ⟨S8x4096x8x128, .f32⟩
  | .hbm, ⟨69, _⟩ => ⟨S8x4096x8x128, .f32⟩
  | .hbm, ⟨70, _⟩ => ⟨S_, .f32⟩
  | .hbm, ⟨71, _⟩ => ⟨S8x4096x8, .f32⟩
  | .hbm, ⟨72, _⟩ => ⟨S8x4096x8x1, .f32⟩
  | .hbm, ⟨73, _⟩ => ⟨S_, .f32⟩
  | .hbm, ⟨74, _⟩ => ⟨S8x4096x8x1, .f32⟩
  | .hbm, ⟨75, _⟩ => ⟨S8x4096x8x1, .f32⟩
  | .hbm, ⟨76, _⟩ => ⟨S8x4096x8x1, .f32⟩
  | .hbm, ⟨77, _⟩ => ⟨S8x4096x8x128, .f32⟩
  | .hbm, ⟨78, _⟩ => ⟨S8x4096x8x128, .f32⟩
  | .hbm, ⟨79, _⟩ => ⟨S_, .f32⟩
  | .hbm, ⟨80, _⟩ => ⟨S8x4096x8x128, .f32⟩
  | .hbm, ⟨81, _⟩ => ⟨S8x4096x8x128, .f32⟩
  | .hbm, ⟨82, _⟩ => ⟨S8x4096x1024, .f32⟩
  | .hbm, ⟨83, _⟩ => ⟨S8x4096x8x128, .f32⟩
  | .hbm, ⟨84, _⟩ => ⟨S8x4096x8x128, .f32⟩
  | .hbm, ⟨85, _⟩ => ⟨S_, .f32⟩
  | .hbm, ⟨86, _⟩ => ⟨S8x4096x8, .f32⟩
  | .hbm, ⟨87, _⟩ => ⟨S8x4096x8x1, .f32⟩
  | .hbm, ⟨88, _⟩ => ⟨S_, .f32⟩
  | .hbm, ⟨89, _⟩ => ⟨S8x4096x8x1, .f32⟩
  | .hbm, ⟨90, _⟩ => ⟨S8x4096x8x1, .f32⟩
  | .hbm, ⟨91, _⟩ => ⟨S8x4096x8x1, .f32⟩
  | .hbm, ⟨92, _⟩ => ⟨S8x4096x8x128, .f32⟩
  | .hbm, ⟨93, _⟩ => ⟨S8x4096x8x128, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S8x4096x1152, .f32⟩
  | .hbm, ⟨98, _⟩ => ⟨S8x4096x4224, .f32⟩
  | .hbm, ⟨99, _⟩ => ⟨S32768x4224, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== MidTail.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x32768x256 : Shape := ⟨3, ![2, 32768, 256]⟩
abbrev S1x1024 : Shape := ⟨2, ![1, 1024]⟩
abbrev S1x3x5632 : Shape := ⟨3, ![1, 3, 5632]⟩
abbrev S3x5632 : Shape := ⟨2, ![3, 5632]⟩
abbrev S512x1024 : Shape := ⟨2, ![512, 1024]⟩
abbrev S16x1024 : Shape := ⟨2, ![16, 1024]⟩
abbrev S1x512x256 : Shape := ⟨3, ![1, 512, 256]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S528x1024 : Shape := ⟨2, ![528, 1024]⟩
abbrev S1024x1024 : Shape := ⟨2, ![1024, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S528x2816 : Shape := ⟨2, ![528, 2816]⟩
abbrev S3x2816 : Shape := ⟨2, ![3, 2816]⟩
abbrev S1x2816 : Shape := ⟨2, ![1, 2816]⟩
abbrev S512x2816 : Shape := ⟨2, ![512, 2816]⟩
abbrev S2816x1024 : Shape := ⟨2, ![2816, 1024]⟩
abbrev S512x256 : Shape := ⟨2, ![512, 256]⟩
abbrev S256x1024 : Shape := ⟨2, ![256, 1024]⟩

abbrev nBuf : Space → Nat
  | .hbm => 23
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x8x4096x256, .f32⟩
  | .hbm, ⟨3, _⟩ => ⟨S1x1024x1024, .bf16⟩
  | .hbm, ⟨4, _⟩ => ⟨S2x1024, .f32⟩
  | .hbm, ⟨5, _⟩ => ⟨S2x1024x5632, .bf16⟩
  | .hbm, ⟨6, _⟩ => ⟨S2x3x5632, .f32⟩
  | .hbm, ⟨7, _⟩ => ⟨S2x2816x1024, .bf16⟩
  | .hbm, ⟨8, _⟩ => ⟨S2x1024, .f32⟩
  | .hbm, ⟨9, _⟩ => ⟨S2x1024x1024, .bf16⟩
  | .hbm, ⟨10, _⟩ => ⟨S2x256x1024, .bf16⟩
  | .hbm, ⟨11, _⟩ => ⟨S1024, .f32⟩
  | .hbm, ⟨12, _⟩ => ⟨S2x32768x256, .f32⟩
  | .hbm, ⟨13, _⟩ => ⟨S1x1024, .f32⟩
  | .hbm, ⟨14, _⟩ => ⟨S1024, .f32⟩
  | .hbm, ⟨15, _⟩ => ⟨S1x3x5632, .f32⟩
  | .hbm, ⟨16, _⟩ => ⟨S3x5632, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S1x512x256, .f32⟩
  | .local _ .vmem, ⟨9, _⟩ => ⟨S1x512x256, .f32⟩
  | .local _ .vmem, ⟨10, _⟩ => ⟨S1x1024x1024, .bf16⟩
  | .local _ .vmem, ⟨11, _⟩ => ⟨S1x1024, .f32⟩
  | .local _ .vmem, ⟨12, _⟩ => ⟨S1x1024x5632, .bf16⟩
  | .local _ .vmem, ⟨13, _⟩ => ⟨S3x5632, .f32⟩
  | .local _ .vmem, ⟨14, _⟩ => ⟨S1x2816x1024, .bf16⟩
  | .local _ .vmem, ⟨15, _⟩ => ⟨S1x1024, .f32⟩
  | .local _ .vmem, ⟨16, _⟩ => ⟨S1x1024x1024, .bf16⟩
  | .local _ .vmem, ⟨17, _⟩ => ⟨S1x256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidTailReferenceIdeal.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S8x4096x1024 : Shape := ⟨3, ![8, 4096, 1024]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩

abbrev nBuf : Space → Nat
  | .hbm => 122
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x8x4096x256, .f32⟩
  | .hbm, ⟨3, _⟩ => ⟨S1x1024x1024, .bf16⟩
  | .hbm, ⟨4, _⟩ => ⟨S2x1024, .f32⟩
  | .hbm, ⟨5, _⟩ => ⟨S2x1024x5632, .bf16⟩
  | .hbm, ⟨6, _⟩ => ⟨S2x3x5632, .f32⟩
  | .hbm, ⟨7, _⟩ => ⟨S2x2816x1024, .bf16⟩
  | .hbm, ⟨8, _⟩ => ⟨S2x1024, .f32⟩
  | .hbm, ⟨9, _⟩ => ⟨S2x1024x1024, .bf16⟩
  | .hbm, ⟨10, _⟩ => ⟨S2x256x1024, .bf16⟩
  | .hbm, ⟨11, _⟩ => ⟨S1024, .f32⟩
  | .hbm, ⟨12, _⟩ => ⟨S8x4096x1024, .f32⟩
  | .hbm, ⟨13, _⟩ => ⟨S32768x1024, .f32⟩
  | .hbm, ⟨14, _⟩ => ⟨S8x4096x1024, .f32⟩
  | .hbm, ⟨15, _⟩ => ⟨S1x1024x1024, .f32⟩
  | .hbm, ⟨16, _⟩ => ⟨S1024x1024, .f32⟩
  | .hbm, ⟨17, _⟩ => ⟨S8x4096x1024, .f32⟩
  | .hbm, ⟨18, _⟩ => ⟨S8x4096x1024, .f32⟩
  | .hbm, ⟨19, _⟩ => ⟨S1x1024, .f32⟩
  | .hbm, ⟨20, _⟩ => ⟨S1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S2x1024x5632, .f32⟩
  | .hbm, ⟨38, _⟩ => ⟨S1x1024x5632, .f32⟩
  | .hbm, ⟨39, _⟩ => ⟨S1024x5632, .f32⟩
  | .hbm, ⟨40, _⟩ => ⟨S1x3x5632, .f32⟩
  | .hbm, ⟨41, _⟩ => ⟨S3x5632, .f32⟩
  | .hbm, ⟨42, _⟩ => ⟨S2x2816x1024, .f32⟩
  | .hbm, ⟨43, _⟩ => ⟨S1x2816x1024, .f32⟩
  | .hbm, ⟨44, _⟩ => ⟨S2816x1024, .f32⟩
  | .hbm, ⟨45, _⟩ => ⟨S8x4096x5632, .f32⟩
  | .hbm, ⟨46, _⟩ => ⟨S_, .i32⟩
  | .hbm, ⟨47, _⟩ => ⟨S_, .f32⟩
  | .hbm, ⟨48, _⟩ => ⟨S8x4098x5632, .f32⟩
  | .hbm, ⟨49, _⟩ => ⟨S1x5632, .f32⟩
  | .hbm, ⟨50, _⟩ => ⟨S5632, .f32⟩
  | .hbm, ⟨51, _⟩ => ⟨S8x4096x5632, .f32⟩
  | .hbm, ⟨52, _⟩ => ⟨S1x1x5632, .f32⟩
  | .hbm, ⟨53, _⟩ => ⟨S8x4096x5632, .f32⟩
  | .hbm, ⟨54, _⟩ => ⟨S8x4096x5632, .f32⟩
  | .hbm, ⟨55, _⟩ => ⟨S1x5632, .f32⟩
  | .hbm, ⟨56, _⟩ => ⟨S5632, .f32⟩
  | .hbm, ⟨57, _⟩ => ⟨S8x4096x5632, .f32⟩
  | .hbm, ⟨58, _⟩ => ⟨S1x1x5632, .f32⟩
  | .hbm, ⟨59, _⟩ => ⟨S8x4096x5632, .f32⟩
  | .hbm, ⟨60, _⟩ => ⟨S8x4096x5632, .f32⟩
  | .hbm, ⟨61, _⟩ => ⟨S8x4096x5632, .f32⟩
  | .hbm, ⟨62, _⟩ => ⟨S1x5632, .f32⟩
  | .hbm, ⟨63, _⟩ => ⟨S5632, .f32⟩
  | .hbm, ⟨64, _⟩ => ⟨S8x4096x5632, .f32⟩
  | .hbm, ⟨65, _⟩ => ⟨S1x1x5632, .f32⟩
  | .hbm, ⟨66, _⟩ => ⟨S8x4096x5632, .f32⟩
  | .hbm, ⟨67, _⟩ => ⟨S8x4096x5632, .f32⟩
  | .hbm, ⟨68, _⟩ => ⟨S8x4096x5632, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x4096x1024, .f32⟩
  | .hbm, ⟨83, _⟩ => ⟨S1x1024, .f32⟩
  | .hbm, ⟨84, _⟩ => ⟨S1024, .f32⟩
  | .hbm, ⟨85, _⟩ => ⟨S8x4096x1024, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S2x1024x1024, .f32⟩
  | .hbm, ⟨102, _⟩ => ⟨S1x1024x1024, .f32⟩
  | .hbm, ⟨103, _⟩ => ⟨S1024x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S_, .f32⟩
  | .hbm, ⟨108, _⟩ => ⟨S8x4096x1024, .f32⟩
  | .hbm, ⟨109, _⟩ => ⟨S8x4096x1024, .f32⟩
  | .hbm, ⟨110, _⟩ => ⟨S_, .f32⟩
  | .hbm, ⟨111, _⟩ => ⟨S8x4096x1024, .f32⟩
  | .hbm, ⟨112, _⟩ => ⟨S8x4096x1024, .f32⟩
  | .hbm, ⟨113, _⟩ => ⟨S1x8x4096x256, .f32⟩
  | .hbm, ⟨114, _⟩ => ⟨S8x4096x256, .f32⟩
  | .hbm, ⟨115, _⟩ => ⟨S2x256x1024, .f32⟩
  | .hbm, ⟨116, _⟩ => ⟨S1x256x1024, .f32⟩
  | .hbm, ⟨117, _⟩ => ⟨S256x1024, .f32⟩
  | .hbm, ⟨118, _⟩ => ⟨S8x4096x1024, .f32⟩
  | .hbm, ⟨119, _⟩ => ⟨S8x4096x1024, .f32⟩
  | .hbm, ⟨120, _⟩ => ⟨S8x4096x1024, .f32⟩
  | .hbm, ⟨121, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_2 : Ref sig .tc := ⟨.hbm, 86, rfl⟩
abbrev main_v61 : Ref sig .tc := ⟨.hbm, 87, rfl⟩
abbrev main_v62 : Ref sig .tc := ⟨.hbm, 88, rfl⟩
abbrev main_cst_3 : Ref sig .tc := ⟨.hbm, 89, rfl⟩
abbrev main_v63 : Ref sig .tc := ⟨.hbm, 90, rfl⟩
abbrev main_v64 : Ref sig .tc := ⟨.hbm, 91, rfl⟩
abbrev main_cst_4 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_5 : Ref sig .tc := ⟨.hbm, 107, rfl⟩
abbrev main_v79 : Ref sig .tc := ⟨.hbm, 108, rfl⟩
abbrev main_v80 : Ref sig .tc := ⟨.hbm, 109, rfl⟩
abbrev main_cst_6 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Tail.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x32768x256 : Shape := ⟨3, ![2, 32768, 256]⟩
abbrev S1x1024 : Shape := ⟨2, ![1, 1024]⟩
abbrev S1x3x5632 : Shape := ⟨3, ![1, 3, 5632]⟩
abbrev S3x5632 : Shape := ⟨2, ![3, 5632]⟩
abbrev S512x1024 : Shape := ⟨2, ![512, 1024]⟩
abbrev S16x1024 : Shape := ⟨2, ![16, 1024]⟩
abbrev S1x512x256 : Shape := ⟨3, ![1, 512, 256]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S528x1024 : Shape := ⟨2, ![528, 1024]⟩
abbrev S1024x1024 : Shape := ⟨2, ![1024, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S528x2816 : Shape := ⟨2, ![528, 2816]⟩
abbrev S3x2816 : Shape := ⟨2, ![3, 2816]⟩
abbrev S1x2816 : Shape := ⟨2, ![1, 2816]⟩
abbrev S512x2816 : Shape := ⟨2, ![512, 2816]⟩
abbrev S2816x1024 : Shape := ⟨2, ![2816, 1024]⟩
abbrev S512x256 : Shape := ⟨2, ![512, 256]⟩
abbrev S256x1024 : Shape := ⟨2, ![256, 1024]⟩

abbrev nBuf : Space → Nat
  | .hbm => 23
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x8x4096x256, .f32⟩
  | .hbm, ⟨3, _⟩ => ⟨S1x1024x1024, .bf16⟩
  | .hbm, ⟨4, _⟩ => ⟨S2x1024, .f32⟩
  | .hbm, ⟨5, _⟩ => ⟨S2x1024x5632, .bf16⟩
  | .hbm, ⟨6, _⟩ => ⟨S2x3x5632, .f32⟩
  | .hbm, ⟨7, _⟩ => ⟨S2x2816x1024, .bf16⟩
  | .hbm, ⟨8, _⟩ => ⟨S2x1024, .f32⟩
  | .hbm, ⟨9, _⟩ => ⟨S2x1024x1024, .bf16⟩
  | .hbm, ⟨10, _⟩ => ⟨S2x256x1024, .bf16⟩
  | .hbm, ⟨11, _⟩ => ⟨S1024, .f32⟩
  | .hbm, ⟨12, _⟩ => ⟨S2x32768x256, .f32⟩
  | .hbm, ⟨13, _⟩ => ⟨S1x1024, .f32⟩
  | .hbm, ⟨14, _⟩ => ⟨S1024, .f32⟩
  | .hbm, ⟨15, _⟩ => ⟨S1x3x5632, .f32⟩
  | .hbm, ⟨16, _⟩ => ⟨S3x5632, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S1x512x256, .f32⟩
  | .local _ .vmem, ⟨9, _⟩ => ⟨S1x512x256, .f32⟩
  | .local _ .vmem, ⟨10, _⟩ => ⟨S1x1024x1024, .bf16⟩
  | .local _ .vmem, ⟨11, _⟩ => ⟨S1x1024, .f32⟩
  | .local _ .vmem, ⟨12, _⟩ => ⟨S1x1024x5632, .bf16⟩
  | .local _ .vmem, ⟨13, _⟩ => ⟨S3x5632, .f32⟩
  | .local _ .vmem, ⟨14, _⟩ => ⟨S1x2816x1024, .bf16⟩
  | .local _ .vmem, ⟨15, _⟩ => ⟨S1x1024, .f32⟩
  | .local _ .vmem, ⟨16, _⟩ => ⟨S1x1024x1024, .bf16⟩
  | .local _ .vmem, ⟨17, _⟩ => ⟨S1x256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== TailReferenceIdeal.lean ====
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S8x4096x1024 : Shape := ⟨3, ![8, 4096, 1024]⟩
abbrev S1024x1024 : Shape := ⟨2, ![1024, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩

abbrev nBuf : Space → Nat
  | .hbm => 138
  | .vmem => 0
  | .smem => 0
  | _ => 0

abbrev hbmTy0_0 (i : Nat) : BufTy := match i % 128 with
  | 0 => ⟨S32768x1024, .f32⟩
  | 1 => ⟨S32768x1024, .bf16⟩
  | 2 => ⟨S2x8x4096x256, .f32⟩
  | 3 => ⟨S1x1024x1024, .bf16⟩
  | 4 => ⟨S2x1024, .f32⟩
  | 5 => ⟨S2x1024x5632, .bf16⟩
  | 6 => ⟨S2x3x5632, .f32⟩
  | 7 => ⟨S2x2816x1024, .bf16⟩
  | 8 => ⟨S2x1024, .f32⟩
  | 9 => ⟨S2x1024x1024, .bf16⟩
  | 10 => ⟨S2x256x1024, .bf16⟩
  | 11 => ⟨S1024, .f32⟩
  | 12 => ⟨S8x4096x1024, .f32⟩
  | 13 => ⟨S32768x1024, .f32⟩
  | 14 => ⟨S8x4096x1024, .f32⟩
  | 15 => ⟨S1x1024x1024, .f32⟩
  | 16 => ⟨S1024x1024, .f32⟩
  | 17 => ⟨S8x4096x1024, .f32⟩
  | 18 => ⟨S8x4096x1024, .f32⟩
  | 19 => ⟨S1x1024, .f32⟩
  | 20 => ⟨S1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x1, .f32⟩
  | 32 => ⟨S8x4096x1024, .f32⟩
  | 33 => ⟨S8x4096x1024, .f32⟩
  | 34 => ⟨S1x1x1024, .f32⟩
  | 35 => ⟨S8x4096x1024, .f32⟩
  | 36 => ⟨S8x4096x1024, .f32⟩
  | 37 => ⟨S2x1024x5632, .f32⟩
  | 38 => ⟨S1x1024x5632, .f32⟩
  | 39 => ⟨S1024x5632, .f32⟩
  | 40 => ⟨S1x3x5632, .f32⟩
  | 41 => ⟨S3x5632, .f32⟩
  | 42 => ⟨S2x2816x1024, .f32⟩
  | 43 => ⟨S1x2816x1024, .f32⟩
  | 44 => ⟨S2816x1024, .f32⟩
  | 45 => ⟨S8x4096x5632, .f32⟩
  | 46 => ⟨S_, .i32⟩
  | 47 => ⟨S_, .f32⟩
  | 48 => ⟨S8x4098x5632, .f32⟩
  | 49 => ⟨S1x5632, .f32⟩
  | 50 => ⟨S5632, .f32⟩
  | 51 => ⟨S8x4096x5632, .f32⟩
  | 52 => ⟨S1x1x5632, .f32⟩
  | 53 => ⟨S8x4096x5632, .f32⟩
  | 54 => ⟨S8x4096x5632, .f32⟩
  | 55 => ⟨S1x5632, .f32⟩
  | 56 => ⟨S5632, .f32⟩
  | 57 => ⟨S8x4096x5632, .f32⟩
  | 58 => ⟨S1x1x5632, .f32⟩
  | 59 => ⟨S8x4096x5632, .f32⟩
  | 60 => ⟨S8x4096x5632, .f32⟩
  | 61 => ⟨S8x4096x5632, .f32⟩
  | 62 => ⟨S1x5632, .f32⟩
  | 63 => ⟨S5632, .f32⟩
  | 64 => ⟨S8x4096x5632, .f32⟩
  | 65 => ⟨S1x1x5632, .f32⟩
  | 66 => ⟨S8x4096x5632, .f32⟩
  | 67 => ⟨S8x4096x5632, .f32⟩
  | 68 => ⟨S8x4096x5632, .f32⟩
  | 69 => ⟨S8x4096x2816, .f32⟩
  | 70 => ⟨S8x4096x2816, .f32⟩
  | 71 => ⟨S8x4096x2816, .f32⟩
  | 72 => ⟨S8x4096x2816, .f32⟩
  | 73 => ⟨S_, .f32⟩
  | 74 => ⟨S8x4096x2816, .f32⟩
  | 75 => ⟨S8x4096x2816, .f32⟩
  | 76 => ⟨S_, .f32⟩
  | 77 => ⟨S8x4096x2816, .f32⟩
  | 78 => ⟨S8x4096x2816, .f32⟩
  | 79 => ⟨S8x4096x2816, .f32⟩
  | 80 => ⟨S8x4096x2816, .f32⟩
  | 81 => ⟨S8x4096x1024, .f32⟩
  | 82 => ⟨S8x4096x1024, .f32⟩
  | 83 => ⟨S1x1024, .f32⟩
  | 84 => ⟨S1024, .f32⟩
  | 85 => ⟨S8x4096x1024, .f32⟩
  | 86 => ⟨S_, .f32⟩
  | 87 => ⟨S8x4096, .f32⟩
  | 88 => ⟨S8x4096x1, .f32⟩
  | 89 => ⟨S_, .f32⟩
  | 90 => ⟨S8x4096x1, .f32⟩
  | 91 => ⟨S8x4096x1, .f32⟩
  | 92 => ⟨S_, .f32⟩
  | 93 => ⟨S8x4096x1, .f32⟩
  | 94 => ⟨S8x4096x1, .f32⟩
  | 95 => ⟨S8x4096x1, .f32⟩
  | 96 => ⟨S8x4096x1024, .f32⟩
  | 97 => ⟨S8x4096x1024, .f32⟩
  | 98 => ⟨S1x1x1024, .f32⟩
  | 99 => ⟨S8x4096x1024, .f32⟩
  | 100 => ⟨S8x4096x1024, .f32⟩
  | 101 => ⟨S2x1024x1024, .f32⟩
  | 102 => ⟨S1x1024x1024, .f32⟩
  | 103 => ⟨S1024x1024, .f32⟩
  | 104 => ⟨S8x4096x1024, .f32⟩
  | 105 => ⟨S8x4096x1024, .f32⟩
  | 106 => ⟨S8x4096x1024, .f32⟩
  | 107 => ⟨S_, .f32⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S1x8x4096x256, .f32⟩
  | 114 => ⟨S8x4096x256, .f32⟩
  | 115 => ⟨S2x256x1024, .f32⟩
  | 116 => ⟨S1x256x1024, .f32⟩
  | 117 => ⟨S256x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S_, .f32⟩
  | 123 => ⟨S8x4096, .f32⟩
  | 124 => ⟨S8x4096x1, .f32⟩
  | 125 => ⟨S_, .f32⟩
  | 126 => ⟨S8x4096x1, .f32⟩
  | 127 => ⟨S8x4096x1, .f32⟩
  | _ => ⟨S32768x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S8x4096x1, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | 9 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_2 : Ref sig .tc := ⟨.hbm, 86, rfl⟩
abbrev main_v61 : Ref sig .tc := ⟨.hbm, 87, rfl⟩
abbrev main_v62 : Ref sig .tc := ⟨.hbm, 88, rfl⟩
abbrev main_cst_3 : Ref sig .tc := ⟨.hbm, 89, rfl⟩
abbrev main_v63 : Ref sig .tc := ⟨.hbm, 90, rfl⟩
abbrev main_v64 : Ref sig .tc := ⟨.hbm, 91, rfl⟩
abbrev main_cst_4 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_5 : Ref sig .tc := ⟨.hbm, 107, rfl⟩
abbrev main_v79 : Ref sig .tc := ⟨.hbm, 108, rfl⟩
abbrev main_v80 : Ref sig .tc := ⟨.hbm, 109, rfl⟩
abbrev main_cst_6 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_7 : Ref sig .tc := ⟨.hbm, 122, rfl⟩
abbrev main_v92 : Ref sig .tc := ⟨.hbm, 123, rfl⟩
abbrev main_v93 : Ref sig .tc := ⟨.hbm, 124, rfl⟩
abbrev main_cst_8 : Ref sig .tc := ⟨.hbm, 125, rfl⟩
abbrev main_v94 : Ref sig .tc := ⟨.hbm, 126, rfl⟩
abbrev main_v95 : Ref sig .tc := ⟨.hbm, 127, rfl⟩
abbrev main_cst_9 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Proof.TailMath.lean ====
/- The mathematics of the layer's tail, as plain functions over rows and columns of extended reals: output projection
   and residual, RMS norm, causal convolution of width 3 within each sequence of 4096 rows, gated unit, down projection,
   per-layer embedding, final norm. Both programs are shown to compute `out`. -/
module

public import Idealize.ShloMosaic.Lib.Pointwise
public import Idealize.ShloMosaic.Lib.IdealHost

@[expose] public section

noncomputable section

namespace Cert.TailMath

open Idealize.ShloMosaic

/-- The operands, by row and column. -/
structure In where
  h : Fin 32768 → Fin 1024 → EReal
  mix : Fin 32768 → Fin 1024 → EReal
  p : Fin 32768 → Fin 256 → EReal
  wo : Fin 1024 → Fin 1024 → EReal
  gf : Fin 1024 → EReal
  wup : Fin 1024 → Fin 5632 → EReal
  cw : Fin 3 → Fin 5632 → EReal
  wd : Fin 2816 → Fin 1024 → EReal
  gp : Fin 1024 → EReal
  wg : Fin 1024 → Fin 1024 → EReal
  wp : Fin 256 → Fin 1024 → EReal
  gl : Fin 1024 → EReal

/-- The RMS norm of a row, times a gain. -/
def rms (v g : Fin 1024 → EReal) (k : Fin 1024) : EReal :=
  v k * Ideal.rsqrt (Ideal.div (∑ j : Fin 1024, v j * v j) (Ideal.ofBits .f32 0x44800000#32) + Ideal.ofBits .f32 0x358637BD#32) * g k

/-- The logistic function as the host writes it. -/
def sigma (x : EReal) : EReal := Ideal.div 1 (1 + Ideal.exp (-x))

variable (a : In)

/-- The residual stream after the mixer's output projection. -/
def h1 (R : Fin 32768) (k : Fin 1024) : EReal := a.h R k + ∑ j : Fin 1024, a.mix R j * a.wo j k
/-- The normed row that the feed-forward layer reads. -/
def xn (R : Fin 32768) : Fin 1024 → EReal := rms (h1 a R) a.gf
/-- The up projection. -/
def u (R : Fin 32768) (n : Fin 5632) : EReal := ∑ k : Fin 1024, xn a R k * a.wup k n
/-- The up projection `d` rows back in the row's sequence, zero before the sequence's first row. -/
def uBack (d : Nat) (R : Fin 32768) (n : Fin 5632) : EReal :=
  if h : R.val % 4096 < d then 0 else u a ⟨R.val - d, by omega⟩ n
/-- The causal convolution of width 3. -/
def y (R : Fin 32768) (n : Fin 5632) : EReal :=
  a.cw 0 n * uBack a 2 R n + a.cw 1 n * uBack a 1 R n + a.cw 2 n * u a R n
/-- The gated unit. -/
def act (R : Fin 32768) (n : Fin 2816) : EReal :=
  y a R ⟨n, by omega⟩ * sigma (y a R ⟨n, by omega⟩) * y a R ⟨2816 + n, by omega⟩
/-- The residual stream after the feed-forward layer. -/
def h2 (R : Fin 32768) (k : Fin 1024) : EReal := h1 a R k + ∑ n : Fin 2816, act a R n * a.wd n k
/-- The gate of the per-layer embedding. -/
def gate (R : Fin 32768) (k : Fin 1024) : EReal := sigma (∑ j : Fin 1024, rms (h2 a R) a.gp j * a.wg j k)
/-- The residual stream after the per-layer embedding. -/
def h3 (R : Fin 32768) (k : Fin 1024) : EReal := h2 a R k + gate a R k * ∑ j : Fin 256, a.p R j * a.wp j k
/-- The layer's result. -/
def out (R : Fin 32768) (k : Fin 1024) : EReal := rms (h3 a R) a.gl k

/-! ## Real values -/

/-- An extended real that is a real number. -/
def Fin' (x : EReal) : Prop := ∃ r : ℝ, x = (r : EReal)

theorem Fin'.zero : Fin' 0 := ⟨0, rfl⟩
theorem Fin'.add {x y : EReal} (hx : Fin' x) (hy : Fin' y) : Fin' (x + y) := by
  obtain ⟨r, rfl⟩ := hx; obtain ⟨s, rfl⟩ := hy; exact ⟨r + s, by norm_cast⟩
theorem Fin'.mul {x y : EReal} (hx : Fin' x) (hy : Fin' y) : Fin' (x * y) := by
  obtain ⟨r, rfl⟩ := hx; obtain ⟨s, rfl⟩ := hy; exact ⟨r * s, by norm_cast⟩
theorem Fin'.sum {ι : Type} (s : Finset ι) (f : ι → EReal) (h : ∀ i, Fin' (f i)) : Fin' (∑ i ∈ s, f i) := by
  classical
  induction s using Finset.induction_on with
  | empty => exact Fin'.zero
  | insert i s hi ih => rw [Finset.sum_insert hi]; exact (h i).add ih

/-- An extended real whose absolute value is below infinity is a real number. -/
theorem Fin'.of_abs {x : EReal} (h : x ≠ ⊤ ∧ x ≠ ⊥) : Fin' x := ⟨x.toReal, (EReal.coe_toReal h.1 h.2).symm⟩

/-- The pattern of 1024. -/
theorem c1024 : Ideal.ofBits .f32 0x44800000#32 = ((1024 : ℝ) : EReal) := by
  simp [Ideal.ofBits, Ideal.ieee, -EReal.coe_mul]; norm_num
/-- The pattern of one half. -/
theorem chalf : Ideal.ofBits .f32 0x3F000000#32 = ((1 / 2 : ℝ) : EReal) := by
  simp [Ideal.ofBits, Ideal.ieee, -EReal.coe_mul]; norm_num
/-- The epsilon of the norms is a positive real. -/
theorem ceps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The sum of reals, as an extended real. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- A square is not negative. -/
theorem sq_nonneg (x : EReal) : 0 ≤ x * x := by
  induction x using EReal.rec with
  | bot => rw [EReal.bot_mul_bot]; exact le_top
  | top => rw [EReal.top_mul_top]; exact le_top
  | coe r => exact_mod_cast mul_self_nonneg r

/-- The norm of any row with a real gain is real: a row with an infinite entry is normed to zero. -/
theorem rms_fin (v : Fin 1024 → EReal) {g : Fin 1024 → EReal} (hg : ∀ k, Fin' (g k)) (k : Fin 1024) : Fin' (rms v g k) := by
  unfold rms
  refine Fin'.mul ?_ (hg k)
  obtain ⟨e, he, hee⟩ := ceps
  rw [c1024, hee]
  unfold Ideal.div
  rw [if_neg (by norm_num), ← EReal.coe_inv]
  by_cases hv : ∀ j, Fin' (v j)
  · refine (hv k).mul ?_
    choose r hr using hv
    have hs : (∑ j : Fin 1024, v j * v j) = ((∑ j : Fin 1024, r j * r j : ℝ) : EReal) := by
      rw [coe_sum]
      exact Finset.sum_congr rfl fun j _ => by rw [hr j]; norm_cast
    have h0 : 0 ≤ ∑ j : Fin 1024, r j * r j := Finset.sum_nonneg fun j _ => mul_self_nonneg _
    rw [hs, ← EReal.coe_mul, ← EReal.coe_add]
    have hp : 0 < (∑ j : Fin 1024, r j * r j) * (1024 : ℝ)⁻¹ + e := by positivity
    refine ⟨(Real.sqrt ((∑ j : Fin 1024, r j * r j) * (1024 : ℝ)⁻¹ + e))⁻¹, ?_⟩
    show (if _ < (0 : ℝ) then (⊥ : EReal) else if _ = (0 : ℝ) then ⊤ else _) = _
    rw [if_neg hp.le.not_gt, if_neg hp.ne']
  · obtain ⟨j, hj⟩ := not_forall.mp hv
    have hq : v j * v j = ⊤ := by
      rcases eq_or_ne (v j) ⊤ with h | h
      · rw [h, EReal.top_mul_top]
      · rcases eq_or_ne (v j) ⊥ with h' | h'
        · rw [h', EReal.bot_mul_bot]
        · exact absurd (Fin'.of_abs ⟨h, h'⟩) hj
    have ht : (∑ j : Fin 1024, v j * v j) = ⊤ :=
      top_le_iff.mp (hq ▸ Finset.single_le_sum (f := fun j => v j * v j) (fun i _ => sq_nonneg (v i)) (Finset.mem_univ j))
    have hr : Ideal.rsqrt ⊤ = 0 := rfl
    rw [ht, EReal.top_mul_coe_of_pos (by norm_num), EReal.top_add_coe, hr, mul_zero]
    exact Fin'.zero

/-! ## The logistic function by the hyperbolic tangent -/

/-- For reals, `1 / (1 + e^(-r))` is `(1 + tanh (r / 2)) / 2`. -/
theorem real_sigma (r : ℝ) : (1 + Real.exp (-r))⁻¹ = 1 / 2 + 1 / 2 * Real.tanh (1 / 2 * r) := by
  rw [Real.tanh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = E at *
  generalize Real.exp (-(1 / 2 * r)) = D at *
  field_simp
  nlinarith

/-- The logistic function at a real. -/
theorem sigma_coe (r : ℝ) : sigma (r : EReal) = ((1 / 2 + 1 / 2 * Real.tanh (1 / 2 * r) : ℝ) : EReal) := by
  rw [← real_sigma]; exact Ideal.logistic_coe r

/-- The logistic function, at any extended real, as the kernel writes it. -/
theorem sigma_eq (x : EReal) :
    Ideal.ofBits .f32 0x3F000000#32 + Ideal.ofBits .f32 0x3F000000#32 * Ideal.tanh (Ideal.ofBits .f32 0x3F000000#32 * x) = sigma x := by
  rw [chalf]
  induction x using EReal.rec with
  | bot =>
    rw [EReal.coe_mul_bot_of_pos (by norm_num)]
    show _ = Ideal.logistic ⊥
    rw [Ideal.tanh_bot, Ideal.logistic_bot]
    rw [show (-1 : EReal) = ((-1 : ℝ) : EReal) from rfl, ← EReal.coe_mul, ← EReal.coe_add]; norm_num
  | top =>
    rw [EReal.coe_mul_top_of_pos (by norm_num)]
    show _ = Ideal.logistic ⊤
    rw [Ideal.tanh_top, Ideal.logistic_top, mul_one, ← EReal.coe_add]; norm_num
  | coe r =>
    rw [sigma_coe, ← EReal.coe_mul, Ideal.tanh_coe, ← EReal.coe_mul, ← EReal.coe_add]

/-- The gated unit's first factor at a real, as the kernel writes it. -/
theorem silu_eq {x : EReal} (hx : Fin' x) :
    Ideal.ofBits .f32 0x3F000000#32 * x + Ideal.ofBits .f32 0x3F000000#32 * x * Ideal.tanh (Ideal.ofBits .f32 0x3F000000#32 * x) = x * sigma x := by
  obtain ⟨r, rfl⟩ := hx
  rw [chalf, sigma_coe, ← EReal.coe_mul, Ideal.tanh_coe, ← EReal.coe_mul, ← EReal.coe_add, ← EReal.coe_mul]
  congr 1; ring

/-! ## The convolution's result is real -/

/-- The operands that the gated unit's argument is made of are real. -/
structure Finite : Prop where
  gf : ∀ k, Fin' (a.gf k)
  wup : ∀ k n, Fin' (a.wup k n)
  cw : ∀ i n, Fin' (a.cw i n)

variable {a}

theorem u_fin (H : Finite a) (R n) : Fin' (u a R n) :=
  Fin'.sum _ _ fun k => (rms_fin (h1 a R) H.gf k).mul (H.wup k n)
theorem uBack_fin (H : Finite a) (d R n) : Fin' (uBack a d R n) := by
  unfold uBack; split
  · exact Fin'.zero
  · exact u_fin H _ _
theorem y_fin (H : Finite a) (R n) : Fin' (y a R n) :=
  (((H.cw 0 n).mul (uBack_fin H 2 R n)).add ((H.cw 1 n).mul (uBack_fin H 1 R n))).add ((H.cw 2 n).mul (u_fin H R n))

end Cert.TailMath

end
-- ==== Proof.TailTile.lean ====
/- The kernel's tile of 512 rows, read entry by entry: what the body leaves in the output block is `TailMath.out` of the
   rows the tile stands for. The tile's 16 halo rows before its first row are the sequence's previous rows, or, at a
   sequence's first tile, zero after the norm. -/
module

public import proofs.«01_k».proof.Proof.TailMath
public import proofs.«01_k».proof.Proof.Gen.TailIdeal.Frame

@[expose] public section

set_option maxRecDepth 16384

noncomputable section

namespace Cert.TailIdeal.Tile

open Cert.TailIdeal Cert.TailIdeal.Gen Cert.TailMath Idealize.ShloMosaic Idealize.ShloMosaic.TcCoe Idealize.SL.Sem

/-! ## The body's vectors at an index, over any operands -/

theorem pay2_at (v0 : Vec Ideal S16x1024 .bf16) (v1 : Vec Ideal S512x1024 .bf16) (v3 : Vec Ideal S16x1024 .f32)
    (v4 : Vec Ideal S512x1024 .f32) (v6 : Vec Ideal S1x1024x1024 .bf16) (q : Fin 528) (k : Fin 1024) :
    k0_pay2 v0 v1 v3 v4 v6 (ix2 q k) =
      (if h : q.val < 16 then v3 (ix2 ⟨q, h⟩ k) else v4 (ix2 ⟨q - 16, by omega⟩ k))
        + ∑ j : Fin 1024, (if h : q.val < 16 then v0 (ix2 ⟨q, h⟩ j) else v1 (ix2 ⟨q - 16, by omega⟩ j)) * v6 (ix3 0 j k) := by
  pointwise [k0_pay2]

theorem pay4_at (v0 : Vec Ideal S16x1024 .bf16) (v1 : Vec Ideal S512x1024 .bf16) (v3 : Vec Ideal S16x1024 .f32)
    (v4 : Vec Ideal S512x1024 .f32) (v6 : Vec Ideal S1x1024x1024 .bf16) (v21 : Vec Ideal S1x1024 .f32) (q : Fin 16) (k : Fin 1024) :
    k0_pay4 v0 v1 v3 v4 v6 (ix2 q k) * k0_pay5 v21 (ix2 q k)
      = rms (fun k => k0_pay2 v0 v1 v3 v4 v6 (ix2 ⟨q, by omega⟩ k)) (fun k => v21 (ix2 0 k)) k := by
  unfold rms
  pointwise [k0_pay4, k0_pay5, k0_pay3]

theorem pay6_at (v9 : FVec Ideal S528x1024 .f32) (v20 : BitVec 1) (v22 : FVec Ideal S1x1024 .f32) (v33 : FVec Ideal S16x1024 .f32)
    (v34 : FVec Ideal S16x1024 .f32) (q : Fin 528) (k : Fin 1024) :
    k0_pay6 v9 v20 v22 v33 v34 (ix2 q k) =
      if h : q.val < 16 then Scalar.select v20 (0 : EReal) (v33 (ix2 ⟨q, h⟩ k) * v34 (ix2 ⟨q, h⟩ k))
      else rms (fun k => v9 (ix2 q k)) (fun k => v22 (ix2 0 k)) k := by
  unfold rms
  by_cases h : q.val < 16
  · pointwise [k0_pay6]
    rw [dif_pos h, dif_pos h]
  · pointwise [k0_pay6]
    rw [dif_neg h, dif_neg h]
    have e : 16 + (q.val - 16) = q.val := by omega
    simp only [e, Fin.eta]

/-- The convolution of one half of the up-projection's columns, at a row of the tile and a column. -/
def conv (v53 : Fin 528 → Fin 1024 → EReal) (w : Fin 1024 → EReal) (c : Fin 3 → EReal) (r : Fin 512) : EReal :=
  c 2 * (∑ x, v53 ⟨16 + r, by omega⟩ x * w x) + c 1 * (∑ x, v53 ⟨(16 + r + 528 - 1) % 528, by omega⟩ x * w x)
    + c 0 * (∑ x, v53 ⟨(16 + r + 528 - 2) % 528, by omega⟩ x * w x)

theorem pay7_at (v9 : FVec Ideal S528x1024 .f32) (v20 : BitVec 1) (v22 : FVec Ideal S1x1024 .f32) (v33 : FVec Ideal S16x1024 .f32)
    (v34 : FVec Ideal S16x1024 .f32) (v54 : Vec Ideal S1x1024x2816 .bf16) (v57 : Vec Ideal S3x2816 .f32) (r : Fin 512) (n : Fin 2816) :
    k0_pay7 v9 v20 v22 v33 v34 v54 v57 (ix2 r n) =
      Ideal.ofBits .f32 0x3F000000#32 * conv (fun q x => k0_pay6 v9 v20 v22 v33 v34 (ix2 q x)) (fun x => v54 (ix3 0 x n)) (fun d => v57 (ix2 d n)) r
        + Ideal.ofBits .f32 0x3F000000#32 * conv (fun q x => k0_pay6 v9 v20 v22 v33 v34 (ix2 q x)) (fun x => v54 (ix3 0 x n)) (fun d => v57 (ix2 d n)) r
          * Ideal.tanh (Ideal.ofBits .f32 0x3F000000#32 * conv (fun q x => k0_pay6 v9 v20 v22 v33 v34 (ix2 q x)) (fun x => v54 (ix3 0 x n)) (fun d => v57 (ix2 d n)) r) := by
  unfold conv
  pointwise [k0_pay7]

theorem pay8_at (v9 : FVec Ideal S528x1024 .f32) (v53 : FVec Ideal S528x1024 .bf16) (v77 : FVec Ideal S512x2816 .f32)
    (v78 : Vec Ideal S1x1024x2816 .bf16) (v81 : Vec Ideal S3x2816 .f32) (v100 : Vec Ideal S1x2816x1024 .bf16) (r : Fin 512) (k : Fin 1024) :
    k0_pay8 v9 v53 v77 v78 v81 v100 (ix2 r k) =
      v9 (ix2 ⟨16 + r, by omega⟩ k)
        + ∑ n : Fin 2816, v77 (ix2 r n) * conv (fun q x => v53 (ix2 q x)) (fun x => v78 (ix3 0 x n)) (fun d => v81 (ix2 d n)) r * v100 (ix3 0 n k) := by
  unfold conv
  pointwise [k0_pay8]

theorem pay9_at (v9 : FVec Ideal S528x1024 .f32) (v53 : FVec Ideal S528x1024 .bf16) (v77 : FVec Ideal S512x2816 .f32)
    (v78 : Vec Ideal S1x1024x2816 .bf16) (v81 : Vec Ideal S3x2816 .f32) (v100 : Vec Ideal S1x2816x1024 .bf16) (v104 : Vec Ideal S1x1024 .f32)
    (r : Fin 512) (k : Fin 1024) :
    k0_pay9 v9 v53 v77 v78 v81 v100 v104 (ix2 r k) =
      rms (fun k => k0_pay8 v9 v53 v77 v78 v81 v100 (ix2 r k)) (fun k => v104 (ix2 0 k)) k := by
  unfold rms
  pointwise [k0_pay9]

theorem pay1_at (v103 : FVec Ideal S512x1024 .f32) (v118 : FVec Ideal S512x1024 .bf16) (v119 : Vec Ideal S1x1024x1024 .bf16)
    (v129 : Vec Ideal S1x512x256 .f32) (v132 : Vec Ideal S1x256x1024 .bf16) (v137 : Vec Ideal S1x1024 .f32) (r : Fin 512) (k : Fin 1024) :
    k0_pay1 v103 v118 (k0_pay10 v119) (constant S512x1024 .f32 0x00000000#32) v129 v132 v137 (ix2 r k) =
      rms (fun k => v103 (ix2 r k) + sigma (∑ j : Fin 1024, v118 (ix2 r j) * v119 (ix3 0 j k)) * ∑ j : Fin 256, v129 (ix3 0 r j) * v132 (ix3 0 j k))
        (fun k => v137 (ix2 0 k)) k := by
  unfold rms
  simp only [← sigma_eq]
  pointwise [k0_pay1, k0_pay10]

/-! ## A tile of 512 rows -/

/-- The kernel's test for a sequence's first tile, of the tile's number. -/
def first (n : Nat) : BitVec 1 := Scalar.cmpi .eq (Scalar.select (Scalar.andi (Scalar.xori (Scalar.cmpi .slt (Scalar.remsi (BitVec.ofNat 32 n) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n) (Scalar.select (Scalar.cmpi .eq 8#32 0#32) 1#32 8#32)) 0#32)) (Scalar.addi (Scalar.remsi (BitVec.ofNat 32 n) (Scalar.select (Scalar.cmpi .eq 8#32 0#32) 1#32 8#32)) (Scalar.select (Scalar.cmpi .eq 8#32 0#32) 1#32 8#32)) (Scalar.remsi (BitVec.ofNat 32 n) (Scalar.select (Scalar.cmpi .eq 8#32 0#32) 1#32 8#32))) 0#32

theorem first_eq : ∀ n : Fin 64, first n.val = if n.val % 8 = 0 then 1#1 else 0#1 := by decide +kernel

/-- The input blocks of tile `T` hold the operands: the rows from `512 T`, the 16 rows before them unless the tile is a
    sequence's first, and the weights whole. -/
structure Holds (a : In) (T : Fin 64) (i : grid0.Coords) (x0 : Vec Ideal S512x1024 .f32) (x1 : Vec Ideal S16x1024 .f32) (x2 : Vec Ideal S512x1024 .bf16) (x3 : Vec Ideal S16x1024 .bf16) (x4 : Vec Ideal S1x512x256 .f32) (x5 : Vec Ideal S1x1024x1024 .bf16) (x6 : Vec Ideal S1x1024 .f32) (x7 : Vec Ideal S1x1024x5632 .bf16) (x8 : Vec Ideal S3x5632 .f32) (x9 : Vec Ideal S1x2816x1024 .bf16) (x10 : Vec Ideal S1x1024 .f32) (x11 : Vec Ideal S1x1024x1024 .bf16) (x12 : Vec Ideal S1x256x1024 .bf16) (x13 : Vec Ideal S1x1024 .f32) : Prop where
  t : (i 0).val = T.val
  b0 : ∀ (r : Fin 512) (k : Fin 1024), x0 (ix2 r k) = a.h ⟨512 * T + r, by omega⟩ k
  b1 : T.val % 8 ≠ 0 → ∀ (q : Fin 16) (k : Fin 1024), x1 (ix2 q k) = a.h ⟨512 * T + q - 16, by omega⟩ k
  b2 : ∀ (r : Fin 512) (k : Fin 1024), x2 (ix2 r k) = a.mix ⟨512 * T + r, by omega⟩ k
  b3 : T.val % 8 ≠ 0 → ∀ (q : Fin 16) (k : Fin 1024), x3 (ix2 q k) = a.mix ⟨512 * T + q - 16, by omega⟩ k
  b4 : ∀ (r : Fin 512) (j : Fin 256), x4 (ix3 0 r j) = a.p ⟨512 * T + r, by omega⟩ j
  b5 : ∀ (j k : Fin 1024), x5 (ix3 0 j k) = a.wo j k
  b6 : ∀ (k : Fin 1024), x6 (ix2 0 k) = a.gf k
  b7 : ∀ (k : Fin 1024) (n : Fin 5632), x7 (ix3 0 k n) = a.wup k n
  b8 : ∀ (d : Fin 3) (n : Fin 5632), x8 (ix2 d n) = a.cw d n
  b9 : ∀ (n : Fin 2816) (k : Fin 1024), x9 (ix3 0 n k) = a.wd n k
  b10 : ∀ (k : Fin 1024), x10 (ix2 0 k) = a.gp k
  b11 : ∀ (j k : Fin 1024), x11 (ix3 0 j k) = a.wg j k
  b12 : ∀ (j : Fin 256) (k : Fin 1024), x12 (ix3 0 j k) = a.wp j k
  b13 : ∀ (k : Fin 1024), x13 (ix2 0 k) = a.gl k

variable {a : In} {T : Fin 64} {i : grid0.Coords} {x0 : Vec Ideal S512x1024 .f32} {x1 : Vec Ideal S16x1024 .f32} {x2 : Vec Ideal S512x1024 .bf16} {x3 : Vec Ideal S16x1024 .bf16} {x4 : Vec Ideal S1x512x256 .f32} {x5 : Vec Ideal S1x1024x1024 .bf16} {x6 : Vec Ideal S1x1024 .f32} {x7 : Vec Ideal S1x1024x5632 .bf16} {x8 : Vec Ideal S3x5632 .f32} {x9 : Vec Ideal S1x2816x1024 .bf16} {x10 : Vec Ideal S1x1024 .f32} {x11 : Vec Ideal S1x1024x1024 .bf16} {x12 : Vec Ideal S1x256x1024 .bf16} {x13 : Vec Ideal S1x1024 .f32}
variable (H : Holds a T i x0 x1 x2 x3 x4 x5 x6 x7 x8 x9 x10 x11 x12 x13)
include H

/-- The residual stream on the tile's rows and, unless it is a sequence's first, its halo's. -/
theorem h1_at (q : Fin 528) (hq : T.val % 8 ≠ 0 ∨ 16 ≤ q.val) (k : Fin 1024) :
    k0_pay11 i x0 x1 x2 x3 x4 x5 x6 x7 x8 x9 x10 x11 x12 x13 (ix2 q k) = h1 a ⟨512 * T + q - 16, by omega⟩ k := by
  unfold k0_pay11
  rw [pay2_at]
  unfold h1
  by_cases h : q.val < 16
  · have hT : T.val % 8 ≠ 0 := hq.resolve_right (by omega)
    simp only [dif_pos h]
    pointwise
    simp only [H.b1 hT, H.b3 hT, H.b5]
  · simp only [dif_neg h]
    pointwise
    simp only [H.b0, H.b2, H.b5]
    have e : 512 * T.val + (q.val - 16) = 512 * T.val + q.val - 16 := by omega
    simp only [e]

/-- The normed rows: zero in the halo of a sequence's first tile. -/
theorem xn_at (q : Fin 528) (k : Fin 1024) :
    k0_pay15 i x0 x1 x2 x3 x4 x5 x6 x7 x8 x9 x10 x11 x12 x13 (ix2 q k) = if T.val % 8 = 0 ∧ q.val < 16 then 0 else xn a ⟨512 * T + q - 16, by omega⟩ k := by
  show k0_pay6 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) (ix2 q k) = _
  rw [pay6_at, H.t, first_eq T]
  unfold xn
  by_cases h : q.val < 16
  · rw [dif_pos h]
    by_cases hT : T.val % 8 = 0
    · rw [if_pos hT, if_pos ⟨hT, h⟩]; rfl
    · rw [if_neg hT, if_neg (fun c => hT c.1)]
      show k0_pay13 i x0 x1 x2 x3 x4 x5 x6 x7 x8 x9 x10 x11 x12 x13 _ * k0_pay14 i x0 x1 x2 x3 x4 x5 x6 x7 x8 x9 x10 x11 x12 x13 _ = _
      unfold k0_pay13 k0_pay14
      rw [pay4_at]
      congr 1
      · funext k
        exact h1_at H q (.inl hT) k
      · funext k
        pointwise
        exact H.b6 k
  · rw [dif_neg h, if_neg (fun c => h c.2)]
    congr 1
    · funext k
      exact h1_at H q (.inr (by omega)) k
    · funext k
      unfold k0_pay12
      pointwise [k0_pay3]
      exact H.b6 k

/-- A normed row of the tile, `d` rows back, times a column of the up projection. -/
theorem up_at (d : Nat) (hd : d ≤ 2) (r : Fin 512) (q : Fin 528) (hq : q.val = 16 + r.val - d) (n : Fin 5632) :
    ∑ x : Fin 1024, k0_pay15 i x0 x1 x2 x3 x4 x5 x6 x7 x8 x9 x10 x11 x12 x13 (ix2 q x) * a.wup x n = uBack a d ⟨512 * T + r, by omega⟩ n := by
  unfold uBack
  by_cases hz : T.val % 8 = 0 ∧ q.val < 16
  · rw [dif_pos (by show (512 * T.val + r.val) % 4096 < d; omega)]
    refine Finset.sum_eq_zero fun x _ => ?_
    rw [xn_at H, if_pos hz, zero_mul]
  · rw [dif_neg (by show ¬ (512 * T.val + r.val) % 4096 < d; omega)]
    unfold u
    refine Finset.sum_congr rfl fun x _ => ?_
    rw [xn_at H, if_neg hz]
    have e : 512 * T.val + q.val - 16 = 512 * T.val + r.val - d := by omega
    simp only [e]

omit H in
theorem uBack_zero (R : Fin 32768) (n : Fin 5632) : uBack a 0 R n = u a R n := by
  unfold uBack; rw [dif_neg (by omega)]; rfl

/-- The convolution on the tile's rows. -/
theorem conv_at (r : Fin 512) (n : Fin 5632) :
    conv (fun q x => k0_pay15 i x0 x1 x2 x3 x4 x5 x6 x7 x8 x9 x10 x11 x12 x13 (ix2 q x)) (fun x => a.wup x n) (fun d => a.cw d n) r = y a ⟨512 * T + r, by omega⟩ n := by
  unfold conv y
  rw [up_at H 0 (by omega) r _ (by show 16 + r.val = _; omega), up_at H 1 (by omega) r _ (by show (16 + r.val + 528 - 1) % 528 = _; omega),
    up_at H 2 (by omega) r _ (by show (16 + r.val + 528 - 2) % 528 = _; omega), uBack_zero]
  rw [add_comm (_ + _) (a.cw 0 n * _), add_comm (a.cw 2 n * _), ← add_assoc]

/-- The gated unit's first factor. -/
theorem silu_at (F : Finite a) (r : Fin 512) (n : Fin 2816) :
    k0_pay16 i x0 x1 x2 x3 x4 x5 x6 x7 x8 x9 x10 x11 x12 x13 (ix2 r n) = y a ⟨512 * T + r, by omega⟩ ⟨n, by omega⟩ * sigma (y a ⟨512 * T + r, by omega⟩ ⟨n, by omega⟩) := by
  have e := conv_at H r ⟨n, by omega⟩
  show k0_pay7 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) _ _ (ix2 r n) = _
  rw [pay7_at]
  have e' : conv (fun q x => k0_pay6 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) (ix2 q x))
      (fun x => View.ld x7 r0_4 (ix3 0 x n)) (fun d => View.ld x8 r0_5 (ix2 d n)) r = y a ⟨512 * T + r, by omega⟩ ⟨n, by omega⟩ := by
    have e7 : (fun x : Fin 1024 => View.ld x7 r0_4 (ix3 0 x n)) = fun x => a.wup x ⟨n, by omega⟩ := by
      funext x; pointwise; exact H.b7 x _
    have e8 : (fun d : Fin 3 => View.ld x8 r0_5 (ix2 d n)) = fun d => a.cw d ⟨n, by omega⟩ := by
      funext d; pointwise; exact H.b8 d _
    rw [e7, e8]
    exact e
  rw [e', silu_eq (y_fin F _ _)]

/-- The residual stream after the feed-forward layer. -/
theorem h2_at (F : Finite a) (r : Fin 512) (k : Fin 1024) :
    k0_pay8 (k0_pay11 i x0 x1 x2 x3 x4 x5 x6 x7 x8 x9 x10 x11 x12 x13) (k0_pay15 i x0 x1 x2 x3 x4 x5 x6 x7 x8 x9 x10 x11 x12 x13) (k0_pay16 i x0 x1 x2 x3 x4 x5 x6 x7 x8 x9 x10 x11 x12 x13) (View.ld x7 r0_6) (View.ld x8 r0_7) (View.ld x9 r0_8) (ix2 r k) = h2 a ⟨512 * T + r, by omega⟩ k := by
  rw [pay8_at, h1_at H _ (.inr (by show 16 ≤ 16 + r.val; omega))]
  unfold h2
  have e : 512 * T.val + (16 + r.val) - 16 = 512 * T.val + r.val := by omega
  simp only [e]
  congr 1
  refine Finset.sum_congr rfl fun n _ => ?_
  have e7 : (fun x : Fin 1024 => View.ld x7 r0_6 (ix3 0 x n)) = fun x => a.wup x ⟨2816 + n, by omega⟩ := by
    funext x; pointwise; exact H.b7 x _
  have e8 : (fun d : Fin 3 => View.ld x8 r0_7 (ix2 d n)) = fun d => a.cw d ⟨2816 + n, by omega⟩ := by
    funext d; pointwise; exact H.b8 d _
  have e9 : View.ld x9 r0_8 (ix3 0 n k) = a.wd n k := by
    pointwise; exact H.b9 n k
  rw [e7, e8, e9, conv_at H, silu_at H F]
  rfl

/-- What the body leaves in the output block is the layer's result on the tile's rows. -/
theorem out_at (F : Finite a) (r : Fin 512) (k : Fin 1024) :
    out0_14 i x0 x1 x2 x3 x4 x5 x6 x7 x8 x9 x10 x11 x12 x13 (ix2 r k) = out a ⟨512 * T + r, by omega⟩ k := by
  unfold out0_14
  rw [View.canon_unit_zero (funext fun a => by fin_cases a <;> rfl)]
  rw [pay1_at]
  unfold out
  congr 1
  · funext k
    rw [h2_at H F]
    unfold h3 gate
    have eg : (∑ j : Fin 1024, k0_pay9 (k0_pay11 i x0 x1 x2 x3 x4 x5 x6 x7 x8 x9 x10 x11 x12 x13) (k0_pay15 i x0 x1 x2 x3 x4 x5 x6 x7 x8 x9 x10 x11 x12 x13) (k0_pay16 i x0 x1 x2 x3 x4 x5 x6 x7 x8 x9 x10 x11 x12 x13) (View.ld x7 r0_6) (View.ld x8 r0_7) (View.ld x9 r0_8) (View.ld x10 r0_3) (ix2 r j) * View.ld x11 r0_2 (ix3 0 j k))
        = ∑ j : Fin 1024, rms (h2 a ⟨512 * T + r, by omega⟩) a.gp j * a.wg j k := by
      refine Finset.sum_congr rfl fun j _ => ?_
      rw [pay9_at]
      congr 1
      · congr 1
        · funext k; exact h2_at H F r k
        · funext k; pointwise; exact H.b10 k
      · pointwise; exact H.b11 j k
    have ep : (∑ j : Fin 256, View.ld x4 r0_9 (ix3 0 r j) * View.ld x12 r0_10 (ix3 0 j k)) = ∑ j : Fin 256, a.p ⟨512 * T + r, by omega⟩ j * a.wp j k := by
      refine Finset.sum_congr rfl fun j _ => ?_
      pointwise
      rw [H.b4, H.b12]
    rw [eg, ep]
  · funext k
    pointwise
    exact H.b13 k

end Cert.TailIdeal.Tile

end
-- ==== Proof.TailKernel.lean ====
/- The kernel's result array after the run: `TailMath.out` of the operands, read off the argument arrays. -/
module

public import proofs.«01_k».proof.Proof.TailTile
public import proofs.«01_k».proof.Proof.Gen.TailIdeal.Value
public import Idealize.ShloMosaic.Lib.Pipeline.ValueKit
public import Idealize.ShloMosaic.Lib.Claim

@[expose] public section

set_option maxRecDepth 16384

noncomputable section

namespace Cert.TailIdeal.Entry

open Cert.TailIdeal Cert.TailIdeal.Gen Cert.TailMath Idealize.ShloMosaic Idealize.ShloMosaic.TcCoe Idealize.SL.Sem
open Idealize.ShloMosaic.Pipeline (Dat)

variable (m : (ℓ : Loc nD τ sig) → Buf (Elt Ideal) ℓ) (c : Dev nD)

/-- The operands, read off the argument arrays: layer 1's slices of the arrays that hold both layers. -/
def operands : In where
  h R k := (m ((c : Thread nD τ).loc main_arg0) : Vec Ideal S32768x1024 .f32) (ix2 R k)
  mix R k := (m ((c : Thread nD τ).loc main_arg1) : Vec Ideal S32768x1024 .bf16) (ix2 R k)
  p R j := (m ((c : Thread nD τ).loc main_arg2) : Vec Ideal S2x8x4096x256 .f32) (ix4 1 ⟨R / 4096, by omega⟩ ⟨R % 4096, by omega⟩ j)
  wo j k := (m ((c : Thread nD τ).loc main_arg3) : Vec Ideal S1x1024x1024 .bf16) (ix3 0 j k)
  gf k := (m ((c : Thread nD τ).loc main_arg4) : Vec Ideal S2x1024 .f32) (ix2 1 k)
  wup k n := (m ((c : Thread nD τ).loc main_arg5) : Vec Ideal S2x1024x5632 .bf16) (ix3 1 k n)
  cw d n := (m ((c : Thread nD τ).loc main_arg6) : Vec Ideal S2x3x5632 .f32) (ix3 1 d n)
  wd n k := (m ((c : Thread nD τ).loc main_arg7) : Vec Ideal S2x2816x1024 .bf16) (ix3 1 n k)
  gp k := (m ((c : Thread nD τ).loc main_arg8) : Vec Ideal S2x1024 .f32) (ix2 1 k)
  wg j k := (m ((c : Thread nD τ).loc main_arg9) : Vec Ideal S2x1024x1024 .bf16) (ix3 1 j k)
  wp j k := (m ((c : Thread nD τ).loc main_arg10) : Vec Ideal S2x256x1024 .bf16) (ix3 1 j k)
  gl k := (m ((c : Thread nD τ).loc main_arg11) : Vec Ideal S1024 .f32) (ix1 k)

/-- Each window's block index at a point. -/
theorem idx : ∀ t : Fin grid0.N, (grid0.coords t 0).val = t.val ∧ win0_0.index t = ![t.val, 0] ∧ win0_1.index t = ![t.val * 32 - 1, 0]
    ∧ win0_2.index t = ![t.val, 0] ∧ win0_3.index t = ![t.val * 32 - 1, 0] ∧ win0_4.index t = ![1, t.val, 0]
    ∧ win0_5.index t = ![0, 0, 0] ∧ win0_6.index t = ![0, 0] ∧ win0_7.index t = ![1, 0, 0] ∧ win0_8.index t = ![0, 0]
    ∧ win0_9.index t = ![1, 0, 0] ∧ win0_10.index t = ![0, 0] ∧ win0_11.index t = ![1, 0, 0] ∧ win0_12.index t = ![1, 0, 0]
    ∧ win0_13.index t = ![0, 0] ∧ win0_14.index t = ![t.val, 0] := by decide +kernel

theorem lt64 (t : Fin cfg0.N) : t.val < 64 := t.isLt

theorem blk0 (t : Fin cfg0.N) (r : Fin 512) (k : Fin 1024) : iblk m c 0 t (ix2 r k) = (operands m c).h ⟨512 * t + r, by have := lt64 t; omega⟩ k := by
  have e := (idx t).2.1
  have ht := lt64 t
  unfold operands; dsimp only
  blk_ext [iblk, V, e]

theorem blk1 (t : Fin cfg0.N) (hT : t.val % 8 ≠ 0) (q : Fin 16) (k : Fin 1024) : iblk m c 1 t (ix2 q k) = (operands m c).h ⟨512 * t + q - 16, by have := lt64 t; omega⟩ k := by
  have e := (idx t).2.2.1
  have ht := lt64 t
  unfold operands; dsimp only
  blk_ext [iblk, V, e]

theorem blk2 (t : Fin cfg0.N) (r : Fin 512) (k : Fin 1024) : iblk m c 2 t (ix2 r k) = (operands m c).mix ⟨512 * t + r, by have := lt64 t; omega⟩ k := by
  have e := (idx t).2.2.2.1
  have ht := lt64 t
  unfold operands; dsimp only
  blk_ext [iblk, V, e]

theorem blk3 (t : Fin cfg0.N) (hT : t.val % 8 ≠ 0) (q : Fin 16) (k : Fin 1024) : iblk m c 3 t (ix2 q k) = (operands m c).mix ⟨512 * t + q - 16, by have := lt64 t; omega⟩ k := by
  have e := (idx t).2.2.2.2.1
  have ht := lt64 t
  unfold operands; dsimp only
  blk_ext [iblk, V, e]

theorem blk4 (t : Fin cfg0.N) (r : Fin 512) (j : Fin 256) : iblk m c 4 t (ix3 0 r j) = (operands m c).p ⟨512 * t + r, by have := lt64 t; omega⟩ j := by
  have e := (idx t).2.2.2.2.2.1
  have ht := lt64 t
  unfold operands; dsimp only
  blk_ext! [iblk, V, e]

theorem blk5 (t : Fin cfg0.N) (j k : Fin 1024) : iblk m c 5 t (ix3 0 j k) = (operands m c).wo j k := by
  have e := (idx t).2.2.2.2.2.2.1
  have ht := lt64 t
  unfold operands; dsimp only
  blk_ext [iblk, V, e]

theorem blk6 (t : Fin cfg0.N) (k : Fin 1024) : iblk m c 6 t (ix2 0 k) = (operands m c).gf k := by
  have e := (idx t).2.2.2.2.2.2.2.1
  have ht := lt64 t
  unfold operands; dsimp only
  blk_ext! [iblk, V, e]

theorem blk7 (t : Fin cfg0.N) (k : Fin 1024) (n : Fin 5632) : iblk m c 7 t (ix3 0 k n) = (operands m c).wup k n := by
  have e := (idx t).2.2.2.2.2.2.2.2.1
  have ht := lt64 t
  unfold operands; dsimp only
  blk_ext [iblk, V, e]

theorem blk8 (t : Fin cfg0.N) (d : Fin 3) (n : Fin 5632) : iblk m c 8 t (ix2 d n) = (operands m c).cw d n := by
  have e := (idx t).2.2.2.2.2.2.2.2.2.1
  have ht := lt64 t
  unfold operands; dsimp only
  blk_ext! [iblk, V, e]

theorem blk9 (t : Fin cfg0.N) (n : Fin 2816) (k : Fin 1024) : iblk m c 9 t (ix3 0 n k) = (operands m c).wd n k := by
  have e := (idx t).2.2.2.2.2.2.2.2.2.2.1
  have ht := lt64 t
  unfold operands; dsimp only
  blk_ext [iblk, V, e]

theorem blk10 (t : Fin cfg0.N) (k : Fin 1024) : iblk m c 10 t (ix2 0 k) = (operands m c).gp k := by
  have e := (idx t).2.2.2.2.2.2.2.2.2.2.2.1
  have ht := lt64 t
  unfold operands; dsimp only
  blk_ext! [iblk, V, e]

theorem blk11 (t : Fin cfg0.N) (j k : Fin 1024) : iblk m c 11 t (ix3 0 j k) = (operands m c).wg j k := by
  have e := (idx t).2.2.2.2.2.2.2.2.2.2.2.2.1
  have ht := lt64 t
  unfold operands; dsimp only
  blk_ext [iblk, V, e]

theorem blk12 (t : Fin cfg0.N) (j : Fin 256) (k : Fin 1024) : iblk m c 12 t (ix3 0 j k) = (operands m c).wp j k := by
  have e := (idx t).2.2.2.2.2.2.2.2.2.2.2.2.2.1
  have ht := lt64 t
  unfold operands; dsimp only
  blk_ext [iblk, V, e]

theorem blk13 (t : Fin cfg0.N) (k : Fin 1024) : iblk m c 13 t (ix2 0 k) = (operands m c).gl k := by
  have e := (idx t).2.2.2.2.2.2.2.2.2.2.2.2.2.2.1
  have ht := lt64 t
  unfold operands; dsimp only
  blk_ext! [iblk, V, e]

/-- The input blocks of a point hold the operands. -/
theorem tile (t : Fin cfg0.N) : Tile.Holds (operands m c) ⟨t.val, lt64 t⟩ (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t) (iblk m c 13 t) :=
  ⟨(idx t).1, blk0 m c t, blk1 m c t, blk2 m c t, blk3 m c t, blk4 m c t, blk5 m c t, blk6 m c t, blk7 m c t, blk8 m c t, blk9 m c t, blk10 m c t, blk11 m c t, blk12 m c t, blk13 m c t⟩

/-- The result array after the run. -/
theorem result (F : Finite (operands m c)) :
    (dats m 0 c).arrAt 14 cfg0.N = (fun i => out (operands m c) (i 0) (i 1) : Vec Ideal S32768x1024 .f32) := by
  refine (dats m 0 c).arrAt_eq_of_covers 14 _ (by decide +kernel) fun t hf y => ?_
  have e14 := (idx t).2.2.2.2.2.2.2.2.2.2.2.2.2.2.2
  blk_simp
  rw [after0_14]
  idx_vars y
  refine (Tile.out_at (tile m c t) F y0 y1).trans ?_
  congr 1
  · apply Fin.ext
    blk_simp [e14]
    show 512 * t.val + y0.val = _
    simp
    omega
  · apply Fin.ext
    blk_simp [e14]

end Cert.TailIdeal.Entry

end
-- ==== Proof.TailPre.lean ====
/- The precondition, read: the operands that reach the gated unit's argument are real numbers. -/
module

public import proofs.«01_k».proof.Proof.TailKernel
public import proofs.«01_k».proof.Proof.Gen.Pre_finite_tail
public import proofs.«01_k».proof.Defs
public import Idealize.ShloMosaic.Lib.ReduceAll
public import Idealize.ShloMosaic.Lib.Affine
public import Idealize.ShloMosaic.Lib.Pointwise

@[expose] public section

set_option maxRecDepth 16384

noncomputable section

namespace Cert.TailMath

open Idealize.ShloMosaic Idealize.ShloMosaic.TcCoe Idealize.SL.Sem

/-- The pattern of infinity. -/
theorem cinf : Ideal.ofBits .f32 0x7F800000#32 = ⊤ := by
  simp [Ideal.ofBits, Ideal.ieee]

/-- An absolute value below infinity: a real number. -/
theorem real_of_abs {x : EReal} (h : FloatOps.cmpf (F := Ideal) (φ := .f32) .olt (FloatOps.hostAbsf (F := Ideal) (φ := .f32) x) (Ideal.ofBits .f32 0x7F800000#32) = 1#1) : Fin' x := by
  rw [cinf] at h
  apply Fin'.of_abs
  constructor
  · rintro rfl
    revert h
    simp [FloatOps.cmpf, FloatOps.hostAbsf, Ideal.cmp]
  · rintro rfl
    revert h
    simp [FloatOps.cmpf, FloatOps.hostAbsf, Ideal.cmp]

/-- An array all of whose absolute values compare below infinity holds real numbers. -/
theorem all_real {s u t : Shape} {axes : List (Fin s.rank)} [Subsingleton t.Idx] (x b : FVec Ideal s .f32) (hb : ∀ i, b i = Ideal.ofBits .f32 0x7F800000#32)
    (init : u.Idx → BitVec 1) (h : s.ReducesTo axes t) (hu : 0 < u.numel) (j : t.Idx)
    (e : Host.reduce IntOp.andi (cmpf .olt (Host.absf x) b) init h hu j = 1#1) (i : s.Idx) : Fin' (x i) := by
  have h1 := Host.reduce_andi_all _ init h hu j e i
  apply real_of_abs
  rw [← hb i]
  exact h1

end Cert.TailMath

namespace Cert.TailIdeal.Entry

open Cert.TailIdeal Cert.TailMath Idealize.ShloMosaic Idealize.ShloMosaic.TcCoe Idealize.SL.Sem

attribute [local instance] Cert.Pre_finite_tail.Gen.facts

variable (m : (ℓ : Loc nD τ sig) → Buf (Elt Ideal) ℓ) (c : Dev nD)

/-- Under the precondition the operands that reach the gated unit's argument are real. -/
theorem finite (h : Cert.Pre_TailIdeal_finite_tail m) : Finite (operands m c) := by
  have h := congrFun (h c) (fun a => a.elim0)
  unfold Cert.Pre_finite_tail.fn Cert.Pre_finite_tail.fn_part1 at h
  dsimp only at h
  obtain ⟨h, h6⟩ := IntOp.andi_eq_one.mp h
  obtain ⟨h4, h5⟩ := IntOp.andi_eq_one.mp h
  have : Subsingleton Cert.Pre_finite_tail.S_.Idx := ⟨fun a b => funext fun i => i.elim0⟩
  have r4 := all_real _ _ (fun _ => rfl) _ _ _ _ h4
  have r5 := all_real _ _ (fun _ => rfl) _ _ _ _ h5
  have r6 := all_real _ _ (fun _ => rfl) _ _ _ _ h6
  clear h h4 h5 h6
  refine ⟨fun k => ?_, fun k n => ?_, fun d n => ?_⟩
  · have e := r4 (ix1 k)
    clear r4 r5 r6
    pointwise at e
    exact e
  · have e := r5 (ix2 k n)
    clear r4 r5 r6
    pointwise at e
    exact e
  · have e := r6 (ix2 d n)
    clear r4 r5 r6
    pointwise at e
    exact e

end Cert.TailIdeal.Entry

end
-- ==== Proof.TailRef.lean ====
/- The reference's terms, read entry by entry: its result is `TailMath.out` of the operands. -/
module

public import proofs.«01_k».proof.Proof.TailMath
public import Idealize.ShloMosaic.Lib.Tactic.CleanTypes
public import proofs.«01_k».proof.Proof.Gen.TailReferenceIdeal.Run

@[expose] public section

set_option maxRecDepth 16384

noncomputable section

namespace Cert.TailReferenceIdeal.Entry

open Cert.TailReferenceIdeal Cert.TailReferenceIdeal.Value Cert.TailMath Idealize.ShloMosaic Idealize.ShloMosaic.TcCoe Idealize.SL.Sem

variable (V0 : Valuation τ sig (Elt Ideal))

/-- The operands, read off the argument arrays: layer 1's slices of the arrays that hold both layers. -/
def operands : In where
  h R k := (V0 (Proc.devRef .tc main_arg0) : Vec Ideal S32768x1024 .f32) (ix2 R k)
  mix R k := (V0 (Proc.devRef .tc main_arg1) : Vec Ideal S32768x1024 .bf16) (ix2 R k)
  p R j := (V0 (Proc.devRef .tc main_arg2) : Vec Ideal S2x8x4096x256 .f32) (ix4 1 ⟨R / 4096, by omega⟩ ⟨R % 4096, by omega⟩ j)
  wo j k := (V0 (Proc.devRef .tc main_arg3) : Vec Ideal S1x1024x1024 .bf16) (ix3 0 j k)
  gf k := (V0 (Proc.devRef .tc main_arg4) : Vec Ideal S2x1024 .f32) (ix2 1 k)
  wup k n := (V0 (Proc.devRef .tc main_arg5) : Vec Ideal S2x1024x5632 .bf16) (ix3 1 k n)
  cw d n := (V0 (Proc.devRef .tc main_arg6) : Vec Ideal S2x3x5632 .f32) (ix3 1 d n)
  wd n k := (V0 (Proc.devRef .tc main_arg7) : Vec Ideal S2x2816x1024 .bf16) (ix3 1 n k)
  gp k := (V0 (Proc.devRef .tc main_arg8) : Vec Ideal S2x1024 .f32) (ix2 1 k)
  wg j k := (V0 (Proc.devRef .tc main_arg9) : Vec Ideal S2x1024x1024 .bf16) (ix3 1 j k)
  wp j k := (V0 (Proc.devRef .tc main_arg10) : Vec Ideal S2x256x1024 .bf16) (ix3 1 j k)
  gl k := (V0 (Proc.devRef .tc main_arg11) : Vec Ideal S1024 .f32) (ix1 k)

/-- Row `s` of sequence `b`, among all rows. -/
def row (b : Fin 8) (s : Fin 4096) : Fin 32768 := ⟨b * 4096 + s, by omega⟩

theorem h1_at (b : Fin 8) (s : Fin 4096) (k : Fin 1024) : res_main_v6 V0 (ix3 b s k) = h1 (operands V0) (row b s) k := by
  unfold h1 res_main_v6 operands row
  clean_types
  pointwise

/-- The padded up projection: zero in the two rows before a sequence. -/
theorem u_at (b : Fin 8) (s : Fin 4098) (n : Fin 5632) :
    res_main_v31 V0 (ix3 b s n) = if h : s.val < 2 then 0 else u (operands V0) (row b ⟨s - 2, by omega⟩) n := by
  unfold u xn rms res_main_v31
  clean_types
  pointwise
  by_cases h : s.val < 2
  · rw [dif_neg (by omega), dif_pos h]
    show ((((0#32 : BitVec 32).toInt : ℝ)) : EReal) = 0
    simp
  · rw [dif_pos (by omega), dif_neg h]
    simp only [h1_at]
    rfl

theorem back_at (d : Nat) (hd : d ≤ 2) (b : Fin 8) (s : Fin 4096) (q : Fin 4098) (hq : q.val = s.val + (2 - d)) (n : Fin 5632) :
    res_main_v31 V0 (ix3 b q n) = uBack (operands V0) d (row b s) n := by
  rw [u_at]
  unfold uBack row
  by_cases h : q.val < 2
  · rw [dif_pos h, dif_pos (by show (b.val * 4096 + s.val) % 4096 < d; omega)]
  · rw [dif_neg h, dif_neg (by show ¬ (b.val * 4096 + s.val) % 4096 < d; omega)]
    congr 1
    apply Fin.ext
    show b.val * 4096 + (q.val - 2) = b.val * 4096 + s.val - d
    omega

theorem y_at (b : Fin 8) (s : Fin 4096) (n : Fin 5632) : res_main_v51 V0 (ix3 b s n) = y (operands V0) (row b s) n := by
  have e0 : u (operands V0) (row b s) n = uBack (operands V0) 0 (row b s) n := by
    unfold uBack; rw [dif_neg (by omega)]; rfl
  unfold y res_main_v51 res_main_v26
  clean_types
  pointwise
  rw [e0, back_at V0 2 (by omega) b s ⟨s, by omega⟩ (by show s.val = _; omega), back_at V0 1 (by omega) b s ⟨1 + s, by omega⟩ (by show 1 + s.val = _; omega),
    back_at V0 0 (by omega) b s ⟨2 + s, by omega⟩ (by show 2 + s.val = _; omega)]
  rfl

theorem h2_at (b : Fin 8) (s : Fin 4096) (k : Fin 1024) : res_main_v57 V0 (ix3 b s k) = h2 (operands V0) (row b s) k := by
  unfold h2 res_main_v57 res_main_v52 act sigma
  clean_types
  pointwise
  simp only [h1_at, y_at]
  rfl

theorem h3_at (b : Fin 8) (s : Fin 4096) (k : Fin 1024) : res_main_v90 V0 (ix3 b s k) = h3 (operands V0) (row b s) k := by
  have ep : ∀ j : Fin 256, (operands V0).p (row b s) j = (V0 (Proc.devRef .tc main_arg2) : Vec Ideal S2x8x4096x256 .f32) (ix4 1 b s j) := by
    intro j
    have eb : (⟨(row b s).val / 4096, by omega⟩ : Fin 8) = b := Fin.ext (by show (b.val * 4096 + s.val) / 4096 = b.val; omega)
    have es : (⟨(row b s).val % 4096, by omega⟩ : Fin 4096) = s := Fin.ext (by show (b.val * 4096 + s.val) % 4096 = s.val; omega)
    show (V0 (Proc.devRef .tc main_arg2) : Vec Ideal S2x8x4096x256 .f32) (ix4 1 ⟨(row b s).val / 4096, by omega⟩ ⟨(row b s).val % 4096, by omega⟩ j) = _
    rw [eb, es]
  unfold h3 res_main_v90 gate sigma rms
  clean_types
  pointwise
  simp only [h2_at, ep]
  rfl

/-- The reference's result, as the generated run states it, is the layer's result. -/
theorem result_at (R : Fin 32768) (k : Fin 1024) :
    (shapeCast S32768x1024 (mulf (mulf (res_main_v90 V0) (broadcastInDim S8x4096x1024 ![0, 1, 2] Gen.bcast_S8x4096x1_S8x4096x1024_0_1_2 (Host.rsqrt (addf (Host.divf (broadcastInDim S8x4096x1 ![0, 1] Gen.bcast_S8x4096_S8x4096x1_0_1 (Host.reduceAdd (mulf (res_main_v90 V0) (res_main_v90 V0)) (constant S_ .f32 0x00000000#32) Gen.reducesTo_S8x4096x1024_S8x4096_d2 Gen.h_S_)) (broadcastInDim S8x4096x1 ![] Gen.bcast_S_S8x4096x1 (constant S_ .f32 0x44800000#32))) (broadcastInDim S8x4096x1 ![] Gen.bcast_S_S8x4096x1 (constant S_ .f32 0x358637BD#32)))))) (broadcastInDim S8x4096x1024 ![0, 1, 2] Gen.bcast_S1x1x1024_S8x4096x1024_0_1_2 (broadcastInDim S1x1x1024 ![2] Gen.bcast_S1024_S1x1x1024_2 (V0 (Proc.devRef .tc main_arg11))))) Gen.shapeCasts_S8x4096x1024_S32768x1024 : Vec Ideal S32768x1024 .f32) (ix2 R k)
      = out (operands V0) R k := by
  have eR : R = row ⟨R / 4096, by omega⟩ ⟨R % 4096, by omega⟩ := Fin.ext (by show R.val = R.val / 4096 * 4096 + R.val % 4096; omega)
  unfold out rms
  clean_types
  pointwise
  simp only [h3_at]
  rw [← eR]
  rfl

end Cert.TailReferenceIdeal.Entry

end
-- ==== Proof.TailClaims.lean ====
/- The tail's claims: the three frames, and that kernel and reference compute the same array. -/
module

public import proofs.«01_k».proof.Proof.TailPre
public import proofs.«01_k».proof.Proof.TailRef
public import proofs.«01_k».proof.Proof.Gen.TailIdeal.Value
public import proofs.«01_k».proof.Proof.Gen.Tail.Frame

@[expose] public section

set_option maxRecDepth 16384

noncomputable section

namespace Cert.TailClaims

open Cert.TailMath Idealize.ShloMosaic Idealize.ShloMosaic.TcCoe Idealize.ShloMosaic.StableHlo Idealize.SL.Sem

attribute [local instance] Cert.TailIdeal.Gen.facts Cert.TailReferenceIdeal.Gen.facts Cert.Pre_finite_tail.Gen.facts

/-- The reference computes as stated and its semaphores end at zero. -/
theorem frame_reference : Cert.quiescent_TailReferenceIdeal (hTailReferenceIdeal := Cert.TailReferenceIdeal.Gen.facts) := fun m ρ _ =>
  (θ_run Cert.TailReferenceIdeal.defs _ _).mono
    (fun r h => ⟨fun c => (h c).2, Idealize.ShloMosaic.sem_eq_zero_of_no_sems (by decide) r.2⟩)
    (Cert.TailReferenceIdeal.Value.run (F := Ideal) m ρ)

/-- Kernel and reference leave the same array: `TailMath.out` of the operands. -/
theorem algebraic : Cert.algebraic_TailIdeal_TailReferenceIdeal_pre_finite_tail (hTailIdeal := Cert.TailIdeal.Gen.facts)
    (hTailReferenceIdeal := Cert.TailReferenceIdeal.Gen.facts) (hPre_finite_tail := Cert.Pre_finite_tail.Gen.facts) := by
  intro m ρ m' ρ' hpre hagree
  refine ⟨fun c => (fun i => out (Cert.TailIdeal.Entry.operands m c) (i 0) (i 1) : Vec Ideal Cert.TailIdeal.S32768x1024 .f32),
    (θ_run Cert.TailIdeal.defs _ _).mono (fun _ h c => ⟨(h c).1.trans ?_, (h c).2⟩) (Cert.TailIdeal.Value.run_blocks (F := Ideal) m ρ),
    (θ_run Cert.TailReferenceIdeal.defs _ _).mono (fun _ h c => ⟨(h c).1.trans ?_, (h c).2⟩) (Cert.TailReferenceIdeal.Value.run (F := Ideal) m' ρ')⟩
  · exact Cert.TailIdeal.Entry.result m c (Cert.TailIdeal.Entry.finite m c hpre)
  · have e : Cert.TailReferenceIdeal.Entry.operands (launchContents m' c) = Cert.TailIdeal.Entry.operands m c := by
      obtain ⟨h0, h1, h2, h3, h4, h5, h6, h7, h8, h9, h10, h11⟩ := hagree c
      unfold Cert.TailReferenceIdeal.Entry.operands Cert.TailIdeal.Entry.operands
      congr 1
      · exact funext fun R => funext fun k => congrFun h0 (ix2 R k)
      · exact funext fun R => funext fun k => congrFun h1 (ix2 R k)
      · exact funext fun R => funext fun j => congrFun h2 (ix4 1 ⟨R / 4096, by omega⟩ ⟨R % 4096, by omega⟩ j)
      · exact funext fun j => funext fun k => congrFun h3 (ix3 0 j k)
      · exact funext fun k => congrFun h4 (ix2 1 k)
      · exact funext fun k => funext fun n => congrFun h5 (ix3 1 k n)
      · exact funext fun d => funext fun n => congrFun h6 (ix3 1 d n)
      · exact funext fun n => funext fun k => congrFun h7 (ix3 1 n k)
      · exact funext fun k => congrFun h8 (ix2 1 k)
      · exact funext fun j => funext fun k => congrFun h9 (ix3 1 j k)
      · exact funext fun j => funext fun k => congrFun h10 (ix3 1 j k)
      · exact funext fun k => congrFun h11 (ix1 k)
    funext i
    idx_vars i
    rw [← e]
    exact Cert.TailReferenceIdeal.Entry.result_at (launchContents m' c) i0 i1

end Cert.TailClaims

end
-- ==== Proof.SwaStep.lean ====
module

public import proofs.«01_k».proof.Proof.Gen.SwaIdeal.Frame
public import proofs.«01_k».proof.Proof.Gen.SwaIdeal.Skeleton
public import Idealize.ShloMosaic.Lib.WordCmp
public import Idealize.ShloMosaic.Lib.Ring
public import Idealize.ShloMosaic.Lib.Tactic
public import Idealize.ShloMosaic.Lib.Pipeline.ValueKit
public import Idealize.ShloMosaic.Lib.Pipeline.ValueKit.Tiles

/-! The first grid step's conditional of the attention kernel, run on its own: it leaves the bias table in the scratch. -/

@[expose] public section

set_option maxRecDepth 16384

noncomputable section

namespace Cert.SwaIdeal.Body

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first grid step's conditional: it fills the bias table, and is nothing at any other step. -/
def step0 (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let ⟨v1937, v1945, v1946⟩ : Σ' (v1937 : IVec S128x256 32) (v1945 : IVec S128x256 1), FVec F S128x256 .f32 ← k0_part1 i arg1 harg1 arg2 harg2 arg3 harg3 arg4 harg4 arg5 harg5 arg6 harg6 arg7 harg7 arg8 harg8
    let v2001 : FVec F S128x256 .f32 ← k0_part2 i arg1 harg1 arg2 harg2 arg3 harg3 arg4 harg4 arg5 harg5 arg6 harg6 arg7 harg7 arg8 harg8 v1937 v1945 v1946
    let v2035 : FVec F S128x256 .f32 ← k0_part3 i arg1 harg1 arg2 harg2 arg3 harg3 arg4 harg4 arg5 harg5 arg6 harg6 arg7 harg7 arg8 harg8 v1937 v1945 v1946 v2001
    let v2066 : FVec F S128x256 .f32 ← k0_part4 i arg1 harg1 arg2 harg2 arg3 harg3 arg4 harg4 arg5 harg5 arg6 harg6 arg7 harg7 arg8 harg8 v1937 v1945 v1946 v2035
    let v2096 : FVec F S128x256 .f32 ← k0_part5 i arg1 harg1 arg2 harg2 arg3 harg3 arg4 harg4 arg5 harg5 arg6 harg6 arg7 harg7 arg8 harg8 v1937 v1945 v1946 v2066
    let v2130 : FVec F S128x256 .f32 ← k0_part6 i arg1 harg1 arg2 harg2 arg3 harg3 arg4 harg4 arg5 harg5 arg6 harg6 arg7 harg7 arg8 harg8 v1937 v1945 v1946 v2096
    let ⟨v2160, v2162, cst_1005⟩ : Σ' (v2160 : IVec S128x256 1) (v2162 : FVec F S128x256 .f32), F .f32 ← k0_part7 i arg1 harg1 arg2 harg2 arg3 harg3 arg4 harg4 arg5 harg5 arg6 harg6 arg7 harg7 arg8 harg8 v1937 v1945 v1946 v2130
    let v2194 : IVec S128x256 1 ← k0_part8 i arg1 harg1 arg2 harg2 arg3 harg3 arg4 harg4 arg5 harg5 arg6 harg6 arg7 harg7 arg8 harg8 v1937 v1945 v1946 v2160 v2162 cst_1005
    let v2199 : Vec F S1x1x128x256 .f32 ← Prog.lift (.load arg8 (Rect.unit (s := S2x16x128x256) ![1, 14, 0, 0] S1x1x128x256.size inb_S2x16x128x256_S1x1x128x256_1_14_0_0).toLoadRect (View.loadsAt_vmem h_S1x1x128x256))
    Prog.lift (.store arg8 (Rect.unit (s := S2x16x128x256) ![1, 14, 0, 0] S1x1x128x256.size inb_S2x16x128x256_S1x1x128x256_1_14_0_0) (k0_pay45 v1946 v2194) Finset.univ (View.stores_vmem_bits_univ h_S1x1x128x256 rfl) (.inl rfl))
    let v2206 : Vec F S1x1x128x256 .f32 ← Prog.lift (.load arg8 (Rect.unit (s := S2x16x128x256) ![0, 15, 0, 0] S1x1x128x256.size inb_S2x16x128x256_S1x1x128x256_0_15_0_0).toLoadRect (View.loadsAt_vmem h_S1x1x128x256))
    Prog.lift (.store arg8 (Rect.unit (s := S2x16x128x256) ![0, 15, 0, 0] S1x1x128x256.size inb_S2x16x128x256_S1x1x128x256_0_15_0_0) (k0_pay46 v1945 v1946) Finset.univ (View.stores_vmem_bits_univ h_S1x1x128x256 rfl) (.inl rfl))
    let v2216 : Vec F S1x1x128x256 .f32 ← Prog.lift (.load arg8 (Rect.unit (s := S2x16x128x256) ![1, 15, 0, 0] S1x1x128x256.size inb_S2x16x128x256_S1x1x128x256_1_15_0_0).toLoadRect (View.loadsAt_vmem h_S1x1x128x256))
    Prog.lift (.store arg8 (Rect.unit (s := S2x16x128x256) ![1, 15, 0, 0] S1x1x128x256.size inb_S2x16x128x256_S1x1x128x256_1_15_0_0) (k0_pay47 v1937 v1945 v1946) Finset.univ (View.stores_vmem_bits_univ h_S1x1x128x256 rfl) (.inl rfl))
    pure ⟨⟩
  else do
    pure ⟨⟩

/-- The kernel's ninth part after that conditional. -/
def part9Rest (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    Prog (TpuEff nD τ sig (Elt F) Λ₀ .tc) (Σ' (v14 : BitVec 32) (v15 : FVec F S256x192 .bf16) (v28 : FVec F S512x256 .f32), Vec F S128x64 .bf16) := do
  let arg0 : BitVec 32 := BitVec.ofNat 32 (i 0).val
  let v3 : BitVec 1 := Scalar.cmpi .eq 8#32 0#32
  let v4 : BitVec 32 := Scalar.select v3 1#32 8#32
  let v5 : BitVec 32 := Scalar.remsi arg0 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 0#32
  let v14 : BitVec 32 := Scalar.extui v13
  let v16 : Vec F S128x64 .bf16 ← Prog.lift (.load arg5 (Rect.unit (s := S128x256) ![0, 0] S128x64.size inb_S128x256_S128x64_0_0).toLoadRect (View.loadsAt_vmem h_S128x64))
  let v17 : Vec F S128x64 .bf16 ← Prog.lift (.load arg3 (Rect.unit (s := S512x256) ![0, 0] S128x64.size inb_S512x256_S128x64_0_0).toLoadRect (View.loadsAt_vmem h_S128x64))
  let v19 : Vec F S128x64 .bf16 ← Prog.lift (.load arg2 (Rect.unit (s := S512x1024) ![0, 0] S128x64.size inb_S512x1024_S128x64_0_0).toLoadRect (View.loadsAt_vmem h_S128x64))
  let v20 : Vec F S128x64 .bf16 ← Prog.lift (.load arg2 (Rect.unit (s := S512x1024) ![0, 64] S128x64.size inb_S512x1024_S128x64_0_64).toLoadRect (View.loadsAt_vmem h_S128x64))
  let v21 : Vec F S128x64 .bf16 ← Prog.lift (.load arg2 (Rect.unit (s := S512x1024) ![0, 128] S128x64.size inb_S512x1024_S128x64_0_128).toLoadRect (View.loadsAt_vmem h_S128x64))
  let v22 : Vec F S128x64 .bf16 ← Prog.lift (.load arg2 (Rect.unit (s := S512x1024) ![0, 192] S128x64.size inb_S512x1024_S128x64_0_192).toLoadRect (View.loadsAt_vmem h_S128x64))
  let v29 : Vec F S128x64 .bf16 ← Prog.lift (.load arg5 (Rect.unit (s := S128x256) ![0, 64] S128x64.size inb_S128x256_S128x64_0_64).toLoadRect (View.loadsAt_vmem h_S128x64))
  pure ⟨v14, k0_pay48 (F := F), k0_pay49 v16 v17 v19 v20 v21 v22, v29⟩

/-- The ninth part is the conditional, then the rest of it. -/
theorem part9_split (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    k0_part9_skel (F := F) i arg1 harg1 arg2 harg2 arg3 harg3 arg4 harg4 arg5 harg5 arg6 harg6 arg7 harg7 arg8 harg8 = (step0 (F := F) i arg1 harg1 arg2 harg2 arg3 harg3 arg4 harg4 arg5 harg5 arg6 harg6 arg7 harg7 arg8 harg8 >>= fun _ => part9Rest (F := F) i arg1 harg1 arg2 harg2 arg3 harg3 arg4 harg4 arg5 harg5 arg6 harg6 arg7 harg7 arg8 harg8) := by
  unfold k0_part9_skel step0 part9Rest
  by_cases hc : (Scalar.cmpi .ne (Scalar.extui (Scalar.cmpi .eq (BitVec.ofNat 32 (i 0).val) 0#32)) 0#32) = 1#1
  · simp only [dif_pos hc, bind_assoc, pure_bind]
  · simp only [dif_neg hc, pure_bind]

/-- The condition of the first grid step, as the kernel computes it. -/
abbrev cond0 (i : grid0.Coords) : Prop := (Scalar.cmpi .ne (Scalar.extui (Scalar.cmpi .eq (BitVec.ofNat 32 (i 0).val) 0#32)) 0#32) = 1#1

/-- Each head's ALiBi slope times log2 e, negated, as the program names it. -/
def slope : (h : ℕ) → h < 16 → F .f32
  | 0, _ => Named.named κ "slope0" 0xBF8293EE#32
  | 1, _ => Named.named κ "slope1" 0xBF38AA3B#32
  | 2, _ => Named.named κ "slope2" 0xBF0293EE#32
  | 3, _ => Named.named κ "slope3" 0xBEB8AA3B#32
  | 4, _ => Named.named κ "slope4" 0xBE8293EE#32
  | 5, _ => Named.named κ "slope5" 0xBE38AA3B#32
  | 6, _ => Named.named κ "slope6" 0xBE0293EE#32
  | 7, _ => Named.named κ "slope7" 0xBDB8AA3B#32
  | 8, _ => Named.named κ "slope8" 0xBD8293EE#32
  | 9, _ => Named.named κ "slope9" 0xBD38AA3B#32
  | 10, _ => Named.named κ "slope10" 0xBD0293EE#32
  | 11, _ => Named.named κ "slope11" 0xBCB8AA3B#32
  | 12, _ => Named.named κ "slope12" 0xBC8293EE#32
  | 13, _ => Named.named κ "slope13" 0xBC38AA3B#32
  | 14, _ => Named.named κ "slope14" 0xBC0293EE#32
  | 15, _ => Named.named κ "slope15" 0xBBB8AA3B#32
  | _ + 16, h => absurd h (by omega)

/-- One head's bias at one query row and key column: the slope times the distance inside the band, -∞ outside it;
    where the first slot is nonzero the band also leaves out the previous block's keys. -/
def biasTile (b h : ℕ) (hh : h < 16) : FVec F S128x256 .f32 :=
  select (if b = 0 then k0_pay6 else andi k0_pay6 (cmpi .sge (iota .tc S128x256 32 [1] iota_S128x256_d1_w32) (broadcast S128x256 128#32)))
    (mulf (broadcast S128x256 (slope (F := F) h hh)) (k0_pay7 (F := F))) (broadcast S128x256 (Scalar.ofBits .f32 0xFF800000#32))

/-- The bias table: for either slot and every head, the bias at a query row and a key column. -/
def BIAS : Vec F S2x16x128x256 .f32 := fun y =>
  shapeCast S1x1x128x256 (biasTile (F := F) (y 0).val (y 1).val (y 1).isLt) shapeCasts_S128x256_S1x1x128x256
    (fun a => match a with
      | ⟨0, _⟩ => (0 : Fin 1) | ⟨1, _⟩ => (0 : Fin 1) | ⟨2, _⟩ => (y 2 : Fin 128) | ⟨3, _⟩ => (y 3 : Fin 256))

/-- The table read inside the tile of one slot and head. -/
theorem BIAS_at (y : S2x16x128x256.Idx) (b h : ℕ) (hh : h < 16) (x : S1x1x128x256.Idx) (e0 : ((y 0).val : ℕ) = b) (e1 : ((y 1).val : ℕ) = h)
    (e2 : ((y 2).val : ℕ) = (x 2).val) (e3 : ((y 3).val : ℕ) = (x 3).val) :
    shapeCast S1x1x128x256 (biasTile (F := F) b h hh) shapeCasts_S128x256_S1x1x128x256 x = BIAS (F := F) y := by
  subst e0; subst e1
  unfold BIAS
  congr 1
  funext a
  match a with
  | ⟨0, _⟩ => exact Fin.ext (by have := (x 0).isLt; show (x 0).val = 0; have h1 : (x 0).val < 1 := (x 0).isLt; omega)
  | ⟨1, _⟩ => exact Fin.ext (by show (x 1).val = 0; have h1 : (x 1).val < 1 := (x 1).isLt; omega)
  | ⟨2, _⟩ => exact Fin.ext e2.symm
  | ⟨3, _⟩ => exact Fin.ext e3.symm

/-- What a whole memref owns, from what reading it gives. -/
theorem pt_of_read (c : Dev nD) {sp : Space} {sh : Shape} {e : EltTy} (arg : Memref sig .tc sp sh e) (harg : arg.IsWhole)
    {f : arg.view.ty.Contents (Elt F)} {X : sh.Idx → Elt F e} (hf : arg.view.read (Elt F) f = X) :
    (View.loc (c : Thread nD τ) arg.view ↦[arg.view.set]{fullShare} f : sProp 𝕄)
      ⊢ (View.loc (c : Thread nD τ) arg.view ↦[arg.view.set]{fullShare} harg.unread X : sProp 𝕄) := by
  rw [harg.eq_unread hf]

set_option maxHeartbeats 2320000 in
/-- The conditional taken: whatever the scratch held, it holds the bias table afterwards. -/
theorem step0_taken (c : Dev nD) (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) (hc0 : cond0 i) (f8 : arg8.view.ty.Contents (Elt F)) (E : Set ℕ) :
    (View.loc (c : Thread nD τ) arg8.view ↦[arg8.view.set]{fullShare} f8)
      ⊢ wp frame (wpE (defs₀ (F := F)) Variants.none c none) E (step0 (F := F) i arg1 harg1 arg2 harg2 arg3 harg3 arg4 harg4 arg5 harg5 arg6 harg6 arg7 harg7 arg8 harg8)
          (fun _ => (View.loc (c : Thread nD τ) arg8.view ↦[arg8.view.set]{fullShare} harg8.unread (BIAS (F := F)) : sProp 𝕄)) := by
  unfold step0
  simp only [k0_part1_eq_skeleton, k0_part2_eq_skeleton, k0_part3_eq_skeleton, k0_part4_eq_skeleton, k0_part5_eq_skeleton, k0_part6_eq_skeleton, k0_part7_eq_skeleton, k0_part8_eq_skeleton]
  iintro HS0
  sl_exec (disch := first | sl_exact hc0)
  sl_step
  iapply (pt_of_read c arg8 harg8 ?_) $$ HS0
  refine (View.read_writes_eq_canon _ _ _ (View.cover_of_tiled_head _ _ _ (by rfl))).trans ?_
  funext y
  canon_tiles x h
  case piece0 => exact Eq.trans rfl (BIAS_at y 1 15 (by omega) x (by omega) (by omega) h2 h3)
  case piece1 => exact Eq.trans rfl (BIAS_at y 0 15 (by omega) x (by omega) (by omega) h2 h3)
  case piece2 => exact Eq.trans rfl (BIAS_at y 1 14 (by omega) x (by omega) (by omega) h2 h3)
  case piece3 => exact Eq.trans rfl (BIAS_at y 0 14 (by omega) x (by omega) (by omega) h2 h3)
  case piece4 => exact Eq.trans rfl (BIAS_at y 1 13 (by omega) x (by omega) (by omega) h2 h3)
  case piece5 => exact Eq.trans rfl (BIAS_at y 0 13 (by omega) x (by omega) (by omega) h2 h3)
  case piece6 => exact Eq.trans rfl (BIAS_at y 1 12 (by omega) x (by omega) (by omega) h2 h3)
  case piece7 => exact Eq.trans rfl (BIAS_at y 0 12 (by omega) x (by omega) (by omega) h2 h3)
  case piece8 => exact Eq.trans rfl (BIAS_at y 1 11 (by omega) x (by omega) (by omega) h2 h3)
  case piece9 => exact Eq.trans rfl (BIAS_at y 0 11 (by omega) x (by omega) (by omega) h2 h3)
  case piece10 => exact Eq.trans rfl (BIAS_at y 1 10 (by omega) x (by omega) (by omega) h2 h3)
  case piece11 => exact Eq.trans rfl (BIAS_at y 0 10 (by omega) x (by omega) (by omega) h2 h3)
  case piece12 => exact Eq.trans rfl (BIAS_at y 1 9 (by omega) x (by omega) (by omega) h2 h3)
  case piece13 => exact Eq.trans rfl (BIAS_at y 0 9 (by omega) x (by omega) (by omega) h2 h3)
  case piece14 => exact Eq.trans rfl (BIAS_at y 1 8 (by omega) x (by omega) (by omega) h2 h3)
  case piece15 => exact Eq.trans rfl (BIAS_at y 0 8 (by omega) x (by omega) (by omega) h2 h3)
  case piece16 => exact Eq.trans rfl (BIAS_at y 1 7 (by omega) x (by omega) (by omega) h2 h3)
  case piece17 => exact Eq.trans rfl (BIAS_at y 0 7 (by omega) x (by omega) (by omega) h2 h3)
  case piece18 => exact Eq.trans rfl (BIAS_at y 1 6 (by omega) x (by omega) (by omega) h2 h3)
  case piece19 => exact Eq.trans rfl (BIAS_at y 0 6 (by omega) x (by omega) (by omega) h2 h3)
  case piece20 => exact Eq.trans rfl (BIAS_at y 1 5 (by omega) x (by omega) (by omega) h2 h3)
  case piece21 => exact Eq.trans rfl (BIAS_at y 0 5 (by omega) x (by omega) (by omega) h2 h3)
  case piece22 => exact Eq.trans rfl (BIAS_at y 1 4 (by omega) x (by omega) (by omega) h2 h3)
  case piece23 => exact Eq.trans rfl (BIAS_at y 0 4 (by omega) x (by omega) (by omega) h2 h3)
  case piece24 => exact Eq.trans rfl (BIAS_at y 1 3 (by omega) x (by omega) (by omega) h2 h3)
  case piece25 => exact Eq.trans rfl (BIAS_at y 0 3 (by omega) x (by omega) (by omega) h2 h3)
  case piece26 => exact Eq.trans rfl (BIAS_at y 1 2 (by omega) x (by omega) (by omega) h2 h3)
  case piece27 => exact Eq.trans rfl (BIAS_at y 0 2 (by omega) x (by omega) (by omega) h2 h3)
  case piece28 => exact Eq.trans rfl (BIAS_at y 1 1 (by omega) x (by omega) (by omega) h2 h3)
  case piece29 => exact Eq.trans rfl (BIAS_at y 0 1 (by omega) x (by omega) (by omega) h2 h3)
  case piece30 => exact Eq.trans rfl (BIAS_at y 1 0 (by omega) x (by omega) (by omega) h2 h3)
  case piece31 => exact Eq.trans rfl (BIAS_at y 0 0 (by omega) x (by omega) (by omega) h2 h3)

end Cert.SwaIdeal.Body

end
-- ==== Proof.SwaRun.lean ====
module

public import proofs.«01_k».proof.Proof.SwaStep
public import proofs.«01_k».proof.Proof.Gen.SwaIdeal.Skeleton
public import Idealize.ShloMosaic.Lib.WordCmp
public import Idealize.ShloMosaic.Lib.Ring
public import Idealize.ShloMosaic.Lib.Tactic
public import Idealize.ShloMosaic.Lib.Pipeline.ValueKit
public import Idealize.ShloMosaic.Lib.Pipeline.ValueKit.Tiles

/-! The attention kernel's body run once, over any element type: what it leaves in the output block, as a function of the
    blocks that it reads. -/

@[expose] public section

set_option maxRecDepth 16384

noncomputable section

namespace Cert.SwaIdeal.Body

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One block of 128 query rows and one head's 64 columns of the query block. -/
def qTile (X : Vec F S512x1024 .bf16) (n h : ℕ) (hn : n < 4) (hh : h < 16) : Vec F S128x64 .bf16 :=
  View.ld X (Rect.unit (s := S512x1024) ![128 * n, 64 * h] S128x64.size
    (fun b => match b with
      | ⟨0, _⟩ => (by show 128 * n + 128 ≤ 512; omega) | ⟨1, _⟩ => (by show 64 * h + 64 ≤ 1024; omega)))

/-- The same of the key or value block: one block of rows, one key-value head's columns. -/
def kvTile (X : Vec F S512x256 .bf16) (n h : ℕ) (hn : n < 4) (hh : h < 4) : Vec F S128x64 .bf16 :=
  View.ld X (Rect.unit (s := S512x256) ![128 * n, 64 * h] S128x64.size
    (fun b => match b with
      | ⟨0, _⟩ => (by show 128 * n + 128 ≤ 512; omega) | ⟨1, _⟩ => (by show 64 * h + 64 ≤ 256; omega)))

/-- The keys or values of the block before: the halo block for the first one, the block's own rows for the others. -/
def prevTile (X : Vec F S512x256 .bf16) (P : Vec F S128x256 .bf16) (h : ℕ) (hh : h < 4) : (n : ℕ) → n < 4 → Vec F S128x64 .bf16
  | 0, _ => View.ld P (Rect.unit (s := S128x256) ![0, 64 * h] S128x64.size
      (fun b => match b with
        | ⟨0, _⟩ => (by show 0 + 128 ≤ 128; omega) | ⟨1, _⟩ => (by show 64 * h + 64 ≤ 256; omega)))
  | n + 1, hn => kvTile X n h (by omega) hh

/-- The bias tile that one block and head read: at the grid step's own slot for the first block, at slot 0 for the others. -/
def biasLd (i : grid0.Coords) (T : Vec F S2x16x128x256 .f32) : (n h : ℕ) → h < 16 → Vec F S1x1x128x256 .f32
  | 0, 0, _ => View.ld T (Rect.unit (s := S2x16x128x256) (k0_off1 i) S1x1x128x256.size (k0_off1_inb i))
  | 0, 1, _ => View.ld T (Rect.unit (s := S2x16x128x256) (k0_off2 i) S1x1x128x256.size (k0_off2_inb i))
  | 0, 2, _ => View.ld T (Rect.unit (s := S2x16x128x256) (k0_off3 i) S1x1x128x256.size (k0_off3_inb i))
  | 0, 3, _ => View.ld T (Rect.unit (s := S2x16x128x256) (k0_off4 i) S1x1x128x256.size (k0_off4_inb i))
  | 0, 4, _ => View.ld T (Rect.unit (s := S2x16x128x256) (k0_off5 i) S1x1x128x256.size (k0_off5_inb i))
  | 0, 5, _ => View.ld T (Rect.unit (s := S2x16x128x256) (k0_off6 i) S1x1x128x256.size (k0_off6_inb i))
  | 0, 6, _ => View.ld T (Rect.unit (s := S2x16x128x256) (k0_off7 i) S1x1x128x256.size (k0_off7_inb i))
  | 0, 7, _ => View.ld T (Rect.unit (s := S2x16x128x256) (k0_off8 i) S1x1x128x256.size (k0_off8_inb i))
  | 0, 8, _ => View.ld T (Rect.unit (s := S2x16x128x256) (k0_off9 i) S1x1x128x256.size (k0_off9_inb i))
  | 0, 9, _ => View.ld T (Rect.unit (s := S2x16x128x256) (k0_off10 i) S1x1x128x256.size (k0_off10_inb i))
  | 0, 10, _ => View.ld T (Rect.unit (s := S2x16x128x256) (k0_off11 i) S1x1x128x256.size (k0_off11_inb i))
  | 0, 11, _ => View.ld T (Rect.unit (s := S2x16x128x256) (k0_off12 i) S1x1x128x256.size (k0_off12_inb i))
  | 0, 12, _ => View.ld T (Rect.unit (s := S2x16x128x256) (k0_off13 i) S1x1x128x256.size (k0_off13_inb i))
  | 0, 13, _ => View.ld T (Rect.unit (s := S2x16x128x256) (k0_off14 i) S1x1x128x256.size (k0_off14_inb i))
  | 0, 14, _ => View.ld T (Rect.unit (s := S2x16x128x256) (k0_off15 i) S1x1x128x256.size (k0_off15_inb i))
  | 0, 15, _ => View.ld T (Rect.unit (s := S2x16x128x256) (k0_off16 i) S1x1x128x256.size (k0_off16_inb i))
  | 0, _ + 16, hh => absurd hh (by omega)
  | _ + 1, h, hh => View.ld T (Rect.unit (s := S2x16x128x256) ![0, h, 0, 0] S1x1x128x256.size
      (fun b => match b with
        | ⟨0, _⟩ => (by show 0 + 1 ≤ 2; omega) | ⟨1, _⟩ => (by show h + 1 ≤ 16; omega)
        | ⟨2, _⟩ => (by show 0 + 128 ≤ 128; omega) | ⟨3, _⟩ => (by show 0 + 256 ≤ 256; omega)))

/-- The rows of one of the four heads in a stack of four. -/
def rowsOf (A : FVec F S512x256 .f32) : (g : ℕ) → g < 4 → FVec F S128x256 .f32
  | 0, _ => extractStridedSlice S128x256 ![0, 0] A slices_S512x256_o0_0_S128x256
  | 1, _ => extractStridedSlice S128x256 ![128, 0] A slices_S512x256_o128_0_S128x256
  | 2, _ => extractStridedSlice S128x256 ![256, 0] A slices_S512x256_o256_0_S128x256
  | 3, _ => extractStridedSlice S128x256 ![384, 0] A slices_S512x256_o384_0_S128x256
  | _ + 4, h => absurd h (by omega)

/-- The scores of four heads against the keys of two blocks, scaled. -/
def scores (q0 q1 q2 q3 kp kc : Vec F S128x64 .bf16) : FVec F S512x256 .f32 :=
  matmul dot_S512x64_S256x64_S512x256_1_1_0_0_n_n none
    (truncf .bf16 (mulf (extf .f32 (concatenate S512x64 0 [⟨S128x64, q0⟩, ⟨S128x64, q1⟩, ⟨S128x64, q2⟩, ⟨S128x64, q3⟩] concatenates_S128x64_S128x64_S128x64_S128x64_S512x64_d0) bitsLt_bf16_f32)
      (broadcast S512x64 (Named.named κ "scale" 0x3E38AA3B#32))) bitsLt_bf16_f32)
    (concatenate S256x64 0 [⟨S128x64, kp⟩, ⟨S128x64, kc⟩] concatenates_S128x64_S128x64_S256x64_d0) (constant S512x256 .f32 0x00000000#32)

/-- One head's sink logit times log2 e. -/
def sinkLog (s : F .f32) : F .f32 := Scalar.mulf s (Named.named κ "log2e" 0x3FB8AA3B#32)

/-- One head's biased scores. -/
def logits (sc : FVec F S128x256 .f32) (b : Vec F S1x1x128x256 .f32) : FVec F S128x256 .f32 :=
  addf sc (shapeCast S128x256 b shapeCasts_S1x1x128x256_S128x256)

/-- The greatest of a row's biased scores and the sink. -/
def rowMax (l : FVec F S128x256 .f32) (s : F .f32) : FVec F S128x1 .f32 :=
  maximumf (shapeCast S128x1 (multiReduction .maximumf [1] S128 l 0xFF800000#32 reduces_S128x256_S128 (.inl rfl) rfl) shapeCasts_S128_S128x1)
    (broadcast S128x1 (sinkLog s))

/-- One head's unnormalised weights. -/
def expo (l : FVec F S128x256 .f32) (s : F .f32) : FVec F S128x256 .bf16 :=
  truncf .bf16 (exp2 (subf l (broadcastTo S128x256 (rowMax l s) broadcasts_S128x1_S128x256))) bitsLt_bf16_f32

/-- The sink's own unnormalised weight. -/
def sinkExp (l : FVec F S128x256 .f32) (s : F .f32) : FVec F S128x1 .f32 :=
  exp2 (subf (broadcast S128x1 (sinkLog s)) (rowMax l s))

/-- The weighted values, and beside them the weights' sums: the values are widened with columns of ones. -/
def pvOf (e0 e1 e2 e3 : FVec F S128x256 .bf16) (vp vc : Vec F S128x64 .bf16) : FVec F S512x256 .f32 :=
  matmul dot_S512x256_S256x256_S512x256_1_0_0_1_n_n none
    (concatenate S512x256 0 [⟨S128x256, e0⟩, ⟨S128x256, e1⟩, ⟨S128x256, e2⟩, ⟨S128x256, e3⟩] concatenates_S128x256_S128x256_S128x256_S128x256_S512x256_d0)
    (concatenate S256x256 1 [⟨S256x64, concatenate S256x64 0 [⟨S128x64, vp⟩, ⟨S128x64, vc⟩] concatenates_S128x64_S128x64_S256x64_d0⟩, ⟨S256x192, broadcast S256x192 (Scalar.ofBits .bf16 0x3F80#16)⟩] concatenates_S256x64_S256x192_S256x256_d1)
    (constant S512x256 .f32 0x00000000#32)

/-- The weighted values divided by the weights' sum and the sink's weight. -/
def normalise (pg : FVec F S128x256 .f32) (sk : FVec F S128x1 .f32) : FVec F S128x64 .bf16 :=
  truncf .bf16 (divf (extractStridedSlice S128x64 ![0, 0] pg slices_S128x256_o0_0_S128x64)
    (addf (extractStridedSlice S128x64 ![0, 128] pg slices_S128x256_o0_128_S128x64) (broadcastTo S128x64 sk broadcasts_S128x1_S128x64))) bitsLt_bf16_f32

/-- The output of one of four heads sharing keys and values, from the four query tiles, the keys and values of two blocks,
    the four bias tiles and the four sinks. -/
def item (q : (g : ℕ) → g < 4 → Vec F S128x64 .bf16) (kp kc vp vc : Vec F S128x64 .bf16) (b : (g : ℕ) → g < 4 → Vec F S1x1x128x256 .f32)
    (s : (g : ℕ) → g < 4 → F .f32) (g : ℕ) (hg : g < 4) : FVec F S128x64 .bf16 :=
  normalise (rowsOf (pvOf
      (expo (logits (rowsOf (scores (q 0 (by omega)) (q 1 (by omega)) (q 2 (by omega)) (q 3 (by omega)) kp kc) 0 (by omega)) (b 0 (by omega))) (s 0 (by omega)))
      (expo (logits (rowsOf (scores (q 0 (by omega)) (q 1 (by omega)) (q 2 (by omega)) (q 3 (by omega)) kp kc) 1 (by omega)) (b 1 (by omega))) (s 1 (by omega)))
      (expo (logits (rowsOf (scores (q 0 (by omega)) (q 1 (by omega)) (q 2 (by omega)) (q 3 (by omega)) kp kc) 2 (by omega)) (b 2 (by omega))) (s 2 (by omega)))
      (expo (logits (rowsOf (scores (q 0 (by omega)) (q 1 (by omega)) (q 2 (by omega)) (q 3 (by omega)) kp kc) 3 (by omega)) (b 3 (by omega))) (s 3 (by omega)))
      vp vc) g hg)
    (sinkExp (logits (rowsOf (scores (q 0 (by omega)) (q 1 (by omega)) (q 2 (by omega)) (q 3 (by omega)) kp kc) g hg) (b g hg)) (s g hg))

/-- One block and head of the output, from the blocks that the body reads and the bias table. -/
def tileOut (i : grid0.Coords) (x0 : Vec F S16 .f32) (x1 : Vec F S512x1024 .bf16) (x2 x3 : Vec F S512x256 .bf16) (x4 x5 : Vec F S128x256 .bf16)
    (T : Vec F S2x16x128x256 .f32) (n h g : ℕ) (hn : n < 4) (hh : h < 4) (hg : g < 4) : FVec F S128x64 .bf16 :=
  item (fun g hg => qTile x1 n (4 * h + g) hn (by omega)) (prevTile x2 x4 h hh n hn) (kvTile x2 n h hn hh)
    (prevTile x3 x5 h hh n hn) (kvTile x3 n h hn hh) (fun g hg => biasLd i T n (4 * h + g) (by omega))
    (fun g hg => View.ld x0 (Rect.unit (s := S16) ![4 * h + g] S1.size (fun b => match b with | ⟨0, _⟩ => (by show 4 * h + g + 1 ≤ 16; omega)))
      (Shape.Idx.first (s := S1) (by decide))) g hg

/-- The output block: every block and head at its place. -/
def OUT (i : grid0.Coords) (x0 : Vec F S16 .f32) (x1 : Vec F S512x1024 .bf16) (x2 x3 : Vec F S512x256 .bf16) (x4 x5 : Vec F S128x256 .bf16)
    (T : Vec F S2x16x128x256 .f32) : Vec F S512x1024 .bf16 := fun y =>
  tileOut i x0 x1 x2 x3 x4 x5 T ((y 0).val / 128) ((y 1).val / 256) ((y 1).val / 64 % 4)
    (by have e : (y 0).val < 512 := (y 0).isLt; omega) (by have e : (y 1).val < 1024 := (y 1).isLt; omega) (by omega)
    (fun b => match b with
      | ⟨0, _⟩ => (⟨(y 0).val % 128, by omega⟩ : Fin 128) | ⟨1, _⟩ => (⟨(y 1).val % 64, by omega⟩ : Fin 64))

/-- The output block read inside one tile. -/
theorem OUT_at (i : grid0.Coords) (x0 : Vec F S16 .f32) (x1 : Vec F S512x1024 .bf16) (x2 x3 : Vec F S512x256 .bf16) (x4 x5 : Vec F S128x256 .bf16)
    (T : Vec F S2x16x128x256 .f32) (y : S512x1024.Idx) (n h g : ℕ) (hn : n < 4) (hh : h < 4) (hg : g < 4) (x : S128x64.Idx)
    (e0 : (y 0).val = 128 * n + (x 0).val) (e1 : (y 1).val = 64 * (4 * h + g) + (x 1).val) :
    tileOut i x0 x1 x2 x3 x4 x5 T n h g hn hh hg x = OUT i x0 x1 x2 x3 x4 x5 T y := by
  have b0 : (x 0).val < 128 := (x 0).isLt
  have b1 : (x 1).val < 64 := (x 1).isLt
  obtain rfl : n = (y 0).val / 128 := by omega
  obtain rfl : h = (y 1).val / 256 := by omega
  obtain rfl : g = (y 1).val / 64 % 4 := by omega
  unfold OUT
  congr 1
  funext b
  match b with
  | ⟨0, _⟩ => exact Fin.ext (by show (x 0).val = (y 0).val % 128; omega)
  | ⟨1, _⟩ => exact Fin.ext (by show (x 1).val = (y 1).val % 64; omega)

/-- The conditional, taken or not: the bias table is in the scratch afterwards, if it was there before or the step is the first. -/
theorem step0_any (c : Dev nD) (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) (f8 : arg8.view.ty.Contents (Elt F)) (hc : cond0 i ∨ f8 = harg8.unread (BIAS (F := F))) (E : Set ℕ) :
    (View.loc (c : Thread nD τ) arg8.view ↦[arg8.view.set]{fullShare} f8)
      ⊢ wp frame (wpE (defs₀ (F := F)) Variants.none c none) E (step0 (F := F) i arg1 harg1 arg2 harg2 arg3 harg3 arg4 harg4 arg5 harg5 arg6 harg6 arg7 harg7 arg8 harg8)
          (fun _ => (View.loc (c : Thread nD τ) arg8.view ↦[arg8.view.set]{fullShare} harg8.unread (BIAS (F := F)) : sProp 𝕄)) := by
  by_cases hc0 : cond0 i
  · exact step0_taken c i arg1 harg1 arg2 harg2 arg3 harg3 arg4 harg4 arg5 harg5 arg6 harg6 arg7 harg7 arg8 harg8 hc0 f8 E
  · obtain rfl := hc.resolve_left hc0
    unfold step0
    iintro HS0
    sl_exec (disch := first | sl_exact hc0)
    sl_step
    iexact HS0

set_option maxHeartbeats 9000000 in
/-- The body's run, given that the bias table is in the scratch after its first conditional: the output block holds `OUT`. -/
theorem body_run (c : Dev nD) (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole)
    (x0 : Vec F S16 .f32) (x1 : Vec F S512x1024 .bf16) (x2 : Vec F S512x256 .bf16) (x3 : Vec F S512x256 .bf16) (x4 : Vec F S128x256 .bf16) (x5 : Vec F S128x256 .bf16)
    (f8 : arg8.view.ty.Contents (Elt F)) (hc : cond0 i ∨ f8 = harg8.unread (BIAS (F := F))) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
          ∗ (View.loc (c : Thread nD τ) arg8.view ↦[arg8.view.set]{fullShare} f8)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT i x0 x1 x2 x3 x4 x5 (BIAS (F := F)))
              ∗ (View.loc (c : Thread nD τ) arg8.view ↦[arg8.view.set]{fullShare} harg8.unread (BIAS (F := F)))) -∗ K ⟨⟩))
        ⊢ wp frame (wpE (defs₀ (F := F)) Variants.none c none) E (cc0_swa_mixer i arg1 harg1 arg2 harg2 arg3 harg3 arg4 harg4 arg5 harg5 arg6 harg6 arg7 harg7 arg8 harg8) K := by
    intro E K
    simp only [cc0_swa_mixer_eq_skeleton]; unfold cc0_swa_mixer_skel
    simp only [k0_part56_eq_skeleton]; unfold k0_part56_skel
    simp only [k0_part9_eq_skeleton, part9_split, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold part9Rest
    have hcut : (View.loc (c : Thread nD τ) arg8.view ↦[arg8.view.set]{fullShare} f8)
        ⊢ wp frame (wpE (defs₀ (F := F)) Variants.none c none) E (step0 (F := F) i arg1 harg1 arg2 harg2 arg3 harg3 arg4 harg4 arg5 harg5 arg6 harg6 arg7 harg7 arg8 harg8)
          (fun _ => (View.loc (c : Thread nD τ) arg8.view ↦[arg8.view.set]{fullShare} harg8.unread (BIAS (F := F)) : sProp 𝕄)) :=
      step0_any c i arg1 harg1 arg2 harg2 arg3 harg3 arg4 harg4 arg5 harg5 arg6 harg6 arg7 harg7 arg8 harg8 f8 hc E
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HS0, Hk⟩
    subst hf0 hf1 hf2 hf3 hf4 hf5
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      refine Eq.trans ?_ (congrArg (fun T => OUT i _ _ _ _ _ _ T) (harg8.read_unread (Val := Elt F) (BIAS (F := F))))
      refine (View.read_writes_eq_canon _ _ _ (View.cover_of_tiled_head _ _ _ (by rfl))).trans ?_
      funext y
      clear hcut hc
      canon_tiles x h
      all_goals (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154 body_run.sl.r_155 body_run.sl.r_156 body_run.sl.r_157 body_run.sl.r_158 body_run.sl.r_159 body_run.sl.r_160 body_run.sl.r_161 body_run.sl.r_162 body_run.sl.r_163 body_run.sl.r_164 body_run.sl.r_165 body_run.sl.r_166 body_run.sl.r_167 body_run.sl.r_168 body_run.sl.r_169 body_run.sl.r_170 body_run.sl.r_171 body_run.sl.r_172 body_run.sl.r_173 body_run.sl.r_174 body_run.sl.r_175 body_run.sl.r_176 body_run.sl.r_177 body_run.sl.r_178 body_run.sl.r_179 body_run.sl.r_180 body_run.sl.r_181 body_run.sl.r_182 body_run.sl.r_183 body_run.sl.r_184 body_run.sl.r_185 body_run.sl.r_186 body_run.sl.r_187 body_run.sl.r_188 body_run.sl.r_189 body_run.sl.r_190 body_run.sl.r_191 body_run.sl.r_192 body_run.sl.r_193 body_run.sl.r_194 body_run.sl.r_195 body_run.sl.r_196 body_run.sl.r_197 body_run.sl.r_198 body_run.sl.r_199 body_run.sl.r_200 body_run.sl.r_201 body_run.sl.r_202 body_run.sl.r_203 body_run.sl.r_204 body_run.sl.r_205 body_run.sl.r_206 body_run.sl.r_207 body_run.sl.r_208 body_run.sl.r_209 body_run.sl.r_210 body_run.sl.r_211 body_run.sl.r_212 body_run.sl.r_213 body_run.sl.r_214 body_run.sl.r_215 body_run.sl.r_216 body_run.sl.r_217 body_run.sl.r_218 body_run.sl.r_219 body_run.sl.r_220 body_run.sl.r_221 body_run.sl.r_222 body_run.sl.r_223 body_run.sl.r_224 body_run.sl.r_225 body_run.sl.r_226 body_run.sl.r_227 body_run.sl.r_228 body_run.sl.r_229 body_run.sl.r_230)
      all_goals simp only [k0_pay1, k0_pay2, k0_pay3, k0_pay4, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474]
      on_goal 1 => refine Eq.trans ?_ (OUT_at i _ _ _ _ _ _ (arg8.view.read (Elt F) (harg8.unread (BIAS (F := F)))) y 3 3 3 (by omega) (by omega) (by omega) x (by omega) (by omega))
      on_goal 2 => refine Eq.trans ?_ (OUT_at i _ _ _ _ _ _ (arg8.view.read (Elt F) (harg8.unread (BIAS (F := F)))) y 3 3 2 (by omega) (by omega) (by omega) x (by omega) (by omega))
      on_goal 3 => refine Eq.trans ?_ (OUT_at i _ _ _ _ _ _ (arg8.view.read (Elt F) (harg8.unread (BIAS (F := F)))) y 3 3 1 (by omega) (by omega) (by omega) x (by omega) (by omega))
      on_goal 4 => refine Eq.trans ?_ (OUT_at i _ _ _ _ _ _ (arg8.view.read (Elt F) (harg8.unread (BIAS (F := F)))) y 3 3 0 (by omega) (by omega) (by omega) x (by omega) (by omega))
      on_goal 5 => refine Eq.trans ?_ (OUT_at i _ _ _ _ _ _ (arg8.view.read (Elt F) (harg8.unread (BIAS (F := F)))) y 3 2 3 (by omega) (by omega) (by omega) x (by omega) (by omega))
      on_goal 6 => refine Eq.trans ?_ (OUT_at i _ _ _ _ _ _ (arg8.view.read (Elt F) (harg8.unread (BIAS (F := F)))) y 3 2 2 (by omega) (by omega) (by omega) x (by omega) (by omega))
      on_goal 7 => refine Eq.trans ?_ (OUT_at i _ _ _ _ _ _ (arg8.view.read (Elt F) (harg8.unread (BIAS (F := F)))) y 3 2 1 (by omega) (by omega) (by omega) x (by omega) (by omega))
      on_goal 8 => refine Eq.trans ?_ (OUT_at i _ _ _ _ _ _ (arg8.view.read (Elt F) (harg8.unread (BIAS (F := F)))) y 3 2 0 (by omega) (by omega) (by omega) x (by omega) (by omega))
      on_goal 9 => refine Eq.trans ?_ (OUT_at i _ _ _ _ _ _ (arg8.view.read (Elt F) (harg8.unread (BIAS (F := F)))) y 3 1 3 (by omega) (by omega) (by omega) x (by omega) (by omega))
      on_goal 10 => refine Eq.trans ?_ (OUT_at i _ _ _ _ _ _ (arg8.view.read (Elt F) (harg8.unread (BIAS (F := F)))) y 3 1 2 (by omega) (by omega) (by omega) x (by omega) (by omega))
      on_goal 11 => refine Eq.trans ?_ (OUT_at i _ _ _ _ _ _ (arg8.view.read (Elt F) (harg8.unread (BIAS (F := F)))) y 3 1 1 (by omega) (by omega) (by omega) x (by omega) (by omega))
      on_goal 12 => refine Eq.trans ?_ (OUT_at i _ _ _ _ _ _ (arg8.view.read (Elt F) (harg8.unread (BIAS (F := F)))) y 3 1 0 (by omega) (by omega) (by omega) x (by omega) (by omega))
      on_goal 13 => refine Eq.trans ?_ (OUT_at i _ _ _ _ _ _ (arg8.view.read (Elt F) (harg8.unread (BIAS (F := F)))) y 3 0 3 (by omega) (by omega) (by omega) x (by omega) (by omega))
      on_goal 14 => refine Eq.trans ?_ (OUT_at i _ _ _ _ _ _ (arg8.view.read (Elt F) (harg8.unread (BIAS (F := F)))) y 3 0 2 (by omega) (by omega) (by omega) x (by omega) (by omega))
      on_goal 15 => refine Eq.trans ?_ (OUT_at i _ _ _ _ _ _ (arg8.view.read (Elt F) (harg8.unread (BIAS (F := F)))) y 3 0 1 (by omega) (by omega) (by omega) x (by omega) (by omega))
      on_goal 16 => refine Eq.trans ?_ (OUT_at i _ _ _ _ _ _ (arg8.view.read (Elt F) (harg8.unread (BIAS (F := F)))) y 3 0 0 (by omega) (by omega) (by omega) x (by omega) (by omega))
      on_goal 17 => refine Eq.trans ?_ (OUT_at i _ _ _ _ _ _ (arg8.view.read (Elt F) (harg8.unread (BIAS (F := F)))) y 2 3 3 (by omega) (by omega) (by omega) x (by omega) (by omega))
      on_goal 18 => refine Eq.trans ?_ (OUT_at i _ _ _ _ _ _ (arg8.view.read (Elt F) (harg8.unread (BIAS (F := F)))) y 2 3 2 (by omega) (by omega) (by omega) x (by omega) (by omega))
      on_goal 19 => refine Eq.trans ?_ (OUT_at i _ _ _ _ _ _ (arg8.view.read (Elt F) (harg8.unread (BIAS (F := F)))) y 2 3 1 (by omega) (by omega) (by omega) x (by omega) (by omega))
      on_goal 20 => refine Eq.trans ?_ (OUT_at i _ _ _ _ _ _ (arg8.view.read (Elt F) (harg8.unread (BIAS (F := F)))) y 2 3 0 (by omega) (by omega) (by omega) x (by omega) (by omega))
      on_goal 21 => refine Eq.trans ?_ (OUT_at i _ _ _ _ _ _ (arg8.view.read (Elt F) (harg8.unread (BIAS (F := F)))) y 2 2 3 (by omega) (by omega) (by omega) x (by omega) (by omega))
      on_goal 22 => refine Eq.trans ?_ (OUT_at i _ _ _ _ _ _ (arg8.view.read (Elt F) (harg8.unread (BIAS (F := F)))) y 2 2 2 (by omega) (by omega) (by omega) x (by omega) (by omega))
      on_goal 23 => refine Eq.trans ?_ (OUT_at i _ _ _ _ _ _ (arg8.view.read (Elt F) (harg8.unread (BIAS (F := F)))) y 2 2 1 (by omega) (by omega) (by omega) x (by omega) (by omega))
      on_goal 24 => refine Eq.trans ?_ (OUT_at i _ _ _ _ _ _ (arg8.view.read (Elt F) (harg8.unread (BIAS (F := F)))) y 2 2 0 (by omega) (by omega) (by omega) x (by omega) (by omega))
      on_goal 25 => refine Eq.trans ?_ (OUT_at i _ _ _ _ _ _ (arg8.view.read (Elt F) (harg8.unread (BIAS (F := F)))) y 2 1 3 (by omega) (by omega) (by omega) x (by omega) (by omega))
      on_goal 26 => refine Eq.trans ?_ (OUT_at i _ _ _ _ _ _ (arg8.view.read (Elt F) (harg8.unread (BIAS (F := F)))) y 2 1 2 (by omega) (by omega) (by omega) x (by omega) (by omega))
      on_goal 27 => refine Eq.trans ?_ (OUT_at i _ _ _ _ _ _ (arg8.view.read (Elt F) (harg8.unread (BIAS (F := F)))) y 2 1 1 (by omega) (by omega) (by omega) x (by omega) (by omega))
      on_goal 28 => refine Eq.trans ?_ (OUT_at i _ _ _ _ _ _ (arg8.view.read (Elt F) (harg8.unread (BIAS (F := F)))) y 2 1 0 (by omega) (by omega) (by omega) x (by omega) (by omega))
      on_goal 29 => refine Eq.trans ?_ (OUT_at i _ _ _ _ _ _ (arg8.view.read (Elt F) (harg8.unread (BIAS (F := F)))) y 2 0 3 (by omega) (by omega) (by omega) x (by omega) (by omega))
      on_goal 30 => refine Eq.trans ?_ (OUT_at i _ _ _ _ _ _ (arg8.view.read (Elt F) (harg8.unread (BIAS (F := F)))) y 2 0 2 (by omega) (by omega) (by omega) x (by omega) (by omega))
      on_goal 31 => refine Eq.trans ?_ (OUT_at i _ _ _ _ _ _ (arg8.view.read (Elt F) (harg8.unread (BIAS (F := F)))) y 2 0 1 (by omega) (by omega) (by omega) x (by omega) (by omega))
      on_goal 32 => refine Eq.trans ?_ (OUT_at i _ _ _ _ _ _ (arg8.view.read (Elt F) (harg8.unread (BIAS (F := F)))) y 2 0 0 (by omega) (by omega) (by omega) x (by omega) (by omega))
      on_goal 33 => refine Eq.trans ?_ (OUT_at i _ _ _ _ _ _ (arg8.view.read (Elt F) (harg8.unread (BIAS (F := F)))) y 1 3 3 (by omega) (by omega) (by omega) x (by omega) (by omega))
      on_goal 34 => refine Eq.trans ?_ (OUT_at i _ _ _ _ _ _ (arg8.view.read (Elt F) (harg8.unread (BIAS (F := F)))) y 1 3 2 (by omega) (by omega) (by omega) x (by omega) (by omega))
      on_goal 35 => refine Eq.trans ?_ (OUT_at i _ _ _ _ _ _ (arg8.view.read (Elt F) (harg8.unread (BIAS (F := F)))) y 1 3 1 (by omega) (by omega) (by omega) x (by omega) (by omega))
      on_goal 36 => refine Eq.trans ?_ (OUT_at i _ _ _ _ _ _ (arg8.view.read (Elt F) (harg8.unread (BIAS (F := F)))) y 1 3 0 (by omega) (by omega) (by omega) x (by omega) (by omega))
      on_goal 37 => refine Eq.trans ?_ (OUT_at i _ _ _ _ _ _ (arg8.view.read (Elt F) (harg8.unread (BIAS (F := F)))) y 1 2 3 (by omega) (by omega) (by omega) x (by omega) (by omega))
      on_goal 38 => refine Eq.trans ?_ (OUT_at i _ _ _ _ _ _ (arg8.view.read (Elt F) (harg8.unread (BIAS (F := F)))) y 1 2 2 (by omega) (by omega) (by omega) x (by omega) (by omega))
      on_goal 39 => refine Eq.trans ?_ (OUT_at i _ _ _ _ _ _ (arg8.view.read (Elt F) (harg8.unread (BIAS (F := F)))) y 1 2 1 (by omega) (by omega) (by omega) x (by omega) (by omega))
      on_goal 40 => refine Eq.trans ?_ (OUT_at i _ _ _ _ _ _ (arg8.view.read (Elt F) (harg8.unread (BIAS (F := F)))) y 1 2 0 (by omega) (by omega) (by omega) x (by omega) (by omega))
      on_goal 41 => refine Eq.trans ?_ (OUT_at i _ _ _ _ _ _ (arg8.view.read (Elt F) (harg8.unread (BIAS (F := F)))) y 1 1 3 (by omega) (by omega) (by omega) x (by omega) (by omega))
      on_goal 42 => refine Eq.trans ?_ (OUT_at i _ _ _ _ _ _ (arg8.view.read (Elt F) (harg8.unread (BIAS (F := F)))) y 1 1 2 (by omega) (by omega) (by omega) x (by omega) (by omega))
      on_goal 43 => refine Eq.trans ?_ (OUT_at i _ _ _ _ _ _ (arg8.view.read (Elt F) (harg8.unread (BIAS (F := F)))) y 1 1 1 (by omega) (by omega) (by omega) x (by omega) (by omega))
      on_goal 44 => refine Eq.trans ?_ (OUT_at i _ _ _ _ _ _ (arg8.view.read (Elt F) (harg8.unread (BIAS (F := F)))) y 1 1 0 (by omega) (by omega) (by omega) x (by omega) (by omega))
      on_goal 45 => refine Eq.trans ?_ (OUT_at i _ _ _ _ _ _ (arg8.view.read (Elt F) (harg8.unread (BIAS (F := F)))) y 1 0 3 (by omega) (by omega) (by omega) x (by omega) (by omega))
      on_goal 46 => refine Eq.trans ?_ (OUT_at i _ _ _ _ _ _ (arg8.view.read (Elt F) (harg8.unread (BIAS (F := F)))) y 1 0 2 (by omega) (by omega) (by omega) x (by omega) (by omega))
      on_goal 47 => refine Eq.trans ?_ (OUT_at i _ _ _ _ _ _ (arg8.view.read (Elt F) (harg8.unread (BIAS (F := F)))) y 1 0 1 (by omega) (by omega) (by omega) x (by omega) (by omega))
      on_goal 48 => refine Eq.trans ?_ (OUT_at i _ _ _ _ _ _ (arg8.view.read (Elt F) (harg8.unread (BIAS (F := F)))) y 1 0 0 (by omega) (by omega) (by omega) x (by omega) (by omega))
      on_goal 49 => refine Eq.trans ?_ (OUT_at i _ _ _ _ _ _ (arg8.view.read (Elt F) (harg8.unread (BIAS (F := F)))) y 0 3 3 (by omega) (by omega) (by omega) x (by omega) (by omega))
      on_goal 50 => refine Eq.trans ?_ (OUT_at i _ _ _ _ _ _ (arg8.view.read (Elt F) (harg8.unread (BIAS (F := F)))) y 0 3 2 (by omega) (by omega) (by omega) x (by omega) (by omega))
      on_goal 51 => refine Eq.trans ?_ (OUT_at i _ _ _ _ _ _ (arg8.view.read (Elt F) (harg8.unread (BIAS (F := F)))) y 0 3 1 (by omega) (by omega) (by omega) x (by omega) (by omega))
      on_goal 52 => refine Eq.trans ?_ (OUT_at i _ _ _ _ _ _ (arg8.view.read (Elt F) (harg8.unread (BIAS (F := F)))) y 0 3 0 (by omega) (by omega) (by omega) x (by omega) (by omega))
      on_goal 53 => refine Eq.trans ?_ (OUT_at i _ _ _ _ _ _ (arg8.view.read (Elt F) (harg8.unread (BIAS (F := F)))) y 0 2 3 (by omega) (by omega) (by omega) x (by omega) (by omega))
      on_goal 54 => refine Eq.trans ?_ (OUT_at i _ _ _ _ _ _ (arg8.view.read (Elt F) (harg8.unread (BIAS (F := F)))) y 0 2 2 (by omega) (by omega) (by omega) x (by omega) (by omega))
      on_goal 55 => refine Eq.trans ?_ (OUT_at i _ _ _ _ _ _ (arg8.view.read (Elt F) (harg8.unread (BIAS (F := F)))) y 0 2 1 (by omega) (by omega) (by omega) x (by omega) (by omega))
      on_goal 56 => refine Eq.trans ?_ (OUT_at i _ _ _ _ _ _ (arg8.view.read (Elt F) (harg8.unread (BIAS (F := F)))) y 0 2 0 (by omega) (by omega) (by omega) x (by omega) (by omega))
      on_goal 57 => refine Eq.trans ?_ (OUT_at i _ _ _ _ _ _ (arg8.view.read (Elt F) (harg8.unread (BIAS (F := F)))) y 0 1 3 (by omega) (by omega) (by omega) x (by omega) (by omega))
      on_goal 58 => refine Eq.trans ?_ (OUT_at i _ _ _ _ _ _ (arg8.view.read (Elt F) (harg8.unread (BIAS (F := F)))) y 0 1 2 (by omega) (by omega) (by omega) x (by omega) (by omega))
      on_goal 59 => refine Eq.trans ?_ (OUT_at i _ _ _ _ _ _ (arg8.view.read (Elt F) (harg8.unread (BIAS (F := F)))) y 0 1 1 (by omega) (by omega) (by omega) x (by omega) (by omega))
      on_goal 60 => refine Eq.trans ?_ (OUT_at i _ _ _ _ _ _ (arg8.view.read (Elt F) (harg8.unread (BIAS (F := F)))) y 0 1 0 (by omega) (by omega) (by omega) x (by omega) (by omega))
      on_goal 61 => refine Eq.trans ?_ (OUT_at i _ _ _ _ _ _ (arg8.view.read (Elt F) (harg8.unread (BIAS (F := F)))) y 0 0 3 (by omega) (by omega) (by omega) x (by omega) (by omega))
      on_goal 62 => refine Eq.trans ?_ (OUT_at i _ _ _ _ _ _ (arg8.view.read (Elt F) (harg8.unread (BIAS (F := F)))) y 0 0 2 (by omega) (by omega) (by omega) x (by omega) (by omega))
      on_goal 63 => refine Eq.trans ?_ (OUT_at i _ _ _ _ _ _ (arg8.view.read (Elt F) (harg8.unread (BIAS (F := F)))) y 0 0 1 (by omega) (by omega) (by omega) x (by omega) (by omega))
      on_goal 64 => refine Eq.trans ?_ (OUT_at i _ _ _ _ _ _ (arg8.view.read (Elt F) (harg8.unread (BIAS (F := F)))) y 0 0 0 (by omega) (by omega) (by omega) x (by omega) (by omega))
      all_goals simp only [tileOut, item, normalise, rowsOf, pvOf, expo, sinkExp, rowMax, logits, sinkLog, scores, qTile, kvTile, prevTile, biasLd, Nat.reduceMul, Nat.reduceAdd, View.readAt_eq_ld]
      all_goals rfl
    iexact Hstep0_0

end Cert.SwaIdeal.Body

end
-- ==== Proof.SwaFrame.lean ====
module

public import proofs.«01_k».proof.Proof.SwaRun
public import proofs.«01_k».proof.Proof.Gen.SwaIdeal.Launch
public import proofs.«01_k».proof.Proof.Gen.SwaIdeal.Points
public import proofs.«01_k».proof.Proof.Gen.SwaIdeal.Frame
public import Idealize.ShloMosaic.Lib.Pipeline.FrameBody
public import Idealize.ShloMosaic.Lib.WordCmp

/-! The attention kernel's launch: what every grid step finds and leaves, with the bias table carried from the first
    step on, and from it the run of the whole program and its frame. -/

@[expose] public section

set_option maxRecDepth 16384

noncomputable section

namespace Cert.SwaIdeal.Body

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffer that carries the bias table from one grid step to the next. -/
abbrev tab : Memref sig .tc .vmem S2x16x128x256 .f32 := Memref.whole cc0_scratch0

/-- The bias table is written at the first grid step. -/
theorem cond0_first : ∀ t : Fin cfg0.N, cond0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0, e0]
    word_cmp
   : ∀ t : Fin grid0.N, cond0 (grid0.coords t) ↔ t.val % 64 = 0)

/-- What is kept between grid steps: before the first one the table's buffer holds anything, after it the bias table. -/
def kept (c : Dev nD) (n : ℕ) : sProp 𝕄 :=
  iprop((∃ f, ⌜n = 0 ∨ f = (Memref.isWhole_whole cc0_scratch0).unread (BIAS (F := F))⌝
      ∗ (View.loc (c : Thread nD τ) tab.view ↦[tab.view.set]{fullShare} f)) ∗ (∃ r, prngReg c r))

theorem ΦA_eq (c : Dev nD) :
    (Pipeline.ΦA spec0 c : sProp 𝕄) = iprop(iprop((∃ d, owns (c : Thread nD τ) tab fullShare d)) ∗ (∃ r, prngReg c r)) := by
  unfold Pipeline.ΦA; rw [scopedRest0_eq]; simp only [tab, owns_whole]; try rfl

/-- What the launch hands the first grid step is what is kept there. -/
theorem kept_in (c : Dev nD) : (Pipeline.ΦA spec0 c : sProp 𝕄) ⊢ kept (F := F) c 0 := by
  rw [ΦA_eq]; unfold kept owns
  iintro ⟨⟨%d, %f, -, H⟩, Hg⟩
  isplitl [H]
  · iexists f
    isplitr; swap; · iexact H
    ipureintro; exact Or.inl rfl
  iexact Hg

/-- What is kept after any step is what the launch takes back. -/
theorem kept_out (c : Dev nD) (n : ℕ) : kept (F := F) c n ⊢ (Pipeline.ΦA spec0 c : sProp 𝕄) := by
  rw [ΦA_eq]; unfold kept owns
  iintro ⟨⟨%f, -, H⟩, Hg⟩
  isplitl [H]
  · iexists (tab.view.read (Elt F) f); iexists f
    isplitr; swap; · iexact H
    ipureintro; rfl
  iexact Hg

/-- The output block of grid step `t`: the body's result on the step's blocks and the bias table. -/
def outAt (c : Dev nD) (t : Fin cfg0.N) : Vec F S512x1024 .bf16 :=
  OUT (grid0.coords t) (iblk m c 0 t) (X0_1 m c t) (iblk m c 2 t) (iblk m c 3 t) (iblk m c 4 t) (iblk m c 5 t) (BIAS (F := F))

/-- The launch's data on core `c`: the arrays as found, each input's block left in place, the output block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := kept c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = X0_1 m c t := by dsimp only [dats]
theorem before_1 (c : Dev nD) (t : Fin cfg0.N) (d) : (dats m 0 c).before 1 t d = X0_1 m c t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = outAt m c t := by dsimp only [dats]

/-- What the body finds at step `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves at step `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any step takes the one to the other (`body_run`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6,
    show (dats m 0 c).Φ t.castSucc = kept c t.val from rfl, show (dats m 0 c).Φ t.succ = kept c (t.val + 1) from rfl]
  unfold kept
  iintro ⟨⟨⟨%f, %hf, HS⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ (iblk m c 0 t) (X0_1 m c t) (iblk m c 2 t) (iblk m c 3 t) (iblk m c 4 t) (iblk m c 5 t) f
    (hf.imp_left fun h => (cond0_first t).mpr (by rw [h])) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS Hg]
  · isplitl [HS]
    · iexists _
      isplitr; swap; · iexact HS
      ipureintro; exact Or.inr rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at step `t` is the body at the step's buffers. -/
theorem defs₀_row (t : Fin cfg0.N) :
    defs₀ (F := F) .tc cfg0.body (cfg0.bodyArgs t (cfg0.slots t)) = bodyAt0 t := by
  unfold defs₀; rw [Defs.onTc_tc]

/-- The launch's obligation on the body, at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution ends with the arrays as the launch's data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => kept_in c) (hout := fun c => kept_out c _)

/-- The run's arrays alone. -/
theorem run : θ_run defs (onTc (τ := τ) (main (F := F))) (s₀ m ρ) (Pipeline.FramePost cfgs (dats m) 0 (V m)) :=
  (θ_run defs _ _).mono (fun _ h => h.1) (run_quiescent m ρ)

/-- Every execution leaves the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.SwaIdeal.Body

end
-- ==== Proof.SwaBitsStep.lean ====
module

public import proofs.«01_k».proof.Proof.Gen.Swa.Frame
public import proofs.«01_k».proof.Proof.Gen.Swa.Skeleton
public import Idealize.ShloMosaic.Lib.WordCmp
public import Idealize.ShloMosaic.Lib.Ring
public import Idealize.ShloMosaic.Lib.Tactic
public import Idealize.ShloMosaic.Lib.Pipeline.ValueKit
public import Idealize.ShloMosaic.Lib.Pipeline.ValueKit.Tiles

/-! The first grid step's conditional of the attention kernel, run on its own: it leaves the bias table in the scratch. -/

@[expose] public section

set_option maxRecDepth 16384

noncomputable section

namespace Cert.Swa.Body

open Cert.Swa Cert.Swa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first grid step's conditional: it fills the bias table, and is nothing at any other step. -/
def step0 (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let ⟨v1937, v1945, v1946⟩ : Σ' (v1937 : IVec S128x256 32) (v1945 : IVec S128x256 1), FVec F S128x256 .f32 ← k0_part1 i arg1 harg1 arg2 harg2 arg3 harg3 arg4 harg4 arg5 harg5 arg6 harg6 arg7 harg7 arg8 harg8
    let v2001 : FVec F S128x256 .f32 ← k0_part2 i arg1 harg1 arg2 harg2 arg3 harg3 arg4 harg4 arg5 harg5 arg6 harg6 arg7 harg7 arg8 harg8 v1937 v1945 v1946
    let v2035 : FVec F S128x256 .f32 ← k0_part3 i arg1 harg1 arg2 harg2 arg3 harg3 arg4 harg4 arg5 harg5 arg6 harg6 arg7 harg7 arg8 harg8 v1937 v1945 v1946 v2001
    let v2066 : FVec F S128x256 .f32 ← k0_part4 i arg1 harg1 arg2 harg2 arg3 harg3 arg4 harg4 arg5 harg5 arg6 harg6 arg7 harg7 arg8 harg8 v1937 v1945 v1946 v2035
    let v2096 : FVec F S128x256 .f32 ← k0_part5 i arg1 harg1 arg2 harg2 arg3 harg3 arg4 harg4 arg5 harg5 arg6 harg6 arg7 harg7 arg8 harg8 v1937 v1945 v1946 v2066
    let v2130 : FVec F S128x256 .f32 ← k0_part6 i arg1 harg1 arg2 harg2 arg3 harg3 arg4 harg4 arg5 harg5 arg6 harg6 arg7 harg7 arg8 harg8 v1937 v1945 v1946 v2096
    let ⟨v2160, v2162, cst_1005⟩ : Σ' (v2160 : IVec S128x256 1) (v2162 : FVec F S128x256 .f32), F .f32 ← k0_part7 i arg1 harg1 arg2 harg2 arg3 harg3 arg4 harg4 arg5 harg5 arg6 harg6 arg7 harg7 arg8 harg8 v1937 v1945 v1946 v2130
    let v2194 : IVec S128x256 1 ← k0_part8 i arg1 harg1 arg2 harg2 arg3 harg3 arg4 harg4 arg5 harg5 arg6 harg6 arg7 harg7 arg8 harg8 v1937 v1945 v1946 v2160 v2162 cst_1005
    let v2199 : Vec F S1x1x128x256 .f32 ← Prog.lift (.load arg8 (Rect.unit (s := S2x16x128x256) ![1, 14, 0, 0] S1x1x128x256.size inb_S2x16x128x256_S1x1x128x256_1_14_0_0).toLoadRect (View.loadsAt_vmem h_S1x1x128x256))
    Prog.lift (.store arg8 (Rect.unit (s := S2x16x128x256) ![1, 14, 0, 0] S1x1x128x256.size inb_S2x16x128x256_S1x1x128x256_1_14_0_0) (k0_pay45 v1946 v2194) Finset.univ (View.stores_vmem_bits_univ h_S1x1x128x256 rfl) (.inl rfl))
    let v2206 : Vec F S1x1x128x256 .f32 ← Prog.lift (.load arg8 (Rect.unit (s := S2x16x128x256) ![0, 15, 0, 0] S1x1x128x256.size inb_S2x16x128x256_S1x1x128x256_0_15_0_0).toLoadRect (View.loadsAt_vmem h_S1x1x128x256))
    Prog.lift (.store arg8 (Rect.unit (s := S2x16x128x256) ![0, 15, 0, 0] S1x1x128x256.size inb_S2x16x128x256_S1x1x128x256_0_15_0_0) (k0_pay46 v1945 v1946) Finset.univ (View.stores_vmem_bits_univ h_S1x1x128x256 rfl) (.inl rfl))
    let v2216 : Vec F S1x1x128x256 .f32 ← Prog.lift (.load arg8 (Rect.unit (s := S2x16x128x256) ![1, 15, 0, 0] S1x1x128x256.size inb_S2x16x128x256_S1x1x128x256_1_15_0_0).toLoadRect (View.loadsAt_vmem h_S1x1x128x256))
    Prog.lift (.store arg8 (Rect.unit (s := S2x16x128x256) ![1, 15, 0, 0] S1x1x128x256.size inb_S2x16x128x256_S1x1x128x256_1_15_0_0) (k0_pay47 v1937 v1945 v1946) Finset.univ (View.stores_vmem_bits_univ h_S1x1x128x256 rfl) (.inl rfl))
    pure ⟨⟩
  else do
    pure ⟨⟩

/-- The kernel's ninth part after that conditional. -/
def part9Rest (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    Prog (TpuEff nD τ sig (Elt F) Λ₀ .tc) (Σ' (v14 : BitVec 32) (v15 : FVec F S256x192 .bf16) (v28 : FVec F S512x256 .f32), Vec F S128x64 .bf16) := do
  let arg0 : BitVec 32 := BitVec.ofNat 32 (i 0).val
  let v3 : BitVec 1 := Scalar.cmpi .eq 8#32 0#32
  let v4 : BitVec 32 := Scalar.select v3 1#32 8#32
  let v5 : BitVec 32 := Scalar.remsi arg0 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 0#32
  let v14 : BitVec 32 := Scalar.extui v13
  let v16 : Vec F S128x64 .bf16 ← Prog.lift (.load arg5 (Rect.unit (s := S128x256) ![0, 0] S128x64.size inb_S128x256_S128x64_0_0).toLoadRect (View.loadsAt_vmem h_S128x64))
  let v17 : Vec F S128x64 .bf16 ← Prog.lift (.load arg3 (Rect.unit (s := S512x256) ![0, 0] S128x64.size inb_S512x256_S128x64_0_0).toLoadRect (View.loadsAt_vmem h_S128x64))
  let v19 : Vec F S128x64 .bf16 ← Prog.lift (.load arg2 (Rect.unit (s := S512x1024) ![0, 0] S128x64.size inb_S512x1024_S128x64_0_0).toLoadRect (View.loadsAt_vmem h_S128x64))
  let v20 : Vec F S128x64 .bf16 ← Prog.lift (.load arg2 (Rect.unit (s := S512x1024) ![0, 64] S128x64.size inb_S512x1024_S128x64_0_64).toLoadRect (View.loadsAt_vmem h_S128x64))
  let v21 : Vec F S128x64 .bf16 ← Prog.lift (.load arg2 (Rect.unit (s := S512x1024) ![0, 128] S128x64.size inb_S512x1024_S128x64_0_128).toLoadRect (View.loadsAt_vmem h_S128x64))
  let v22 : Vec F S128x64 .bf16 ← Prog.lift (.load arg2 (Rect.unit (s := S512x1024) ![0, 192] S128x64.size inb_S512x1024_S128x64_0_192).toLoadRect (View.loadsAt_vmem h_S128x64))
  let v29 : Vec F S128x64 .bf16 ← Prog.lift (.load arg5 (Rect.unit (s := S128x256) ![0, 64] S128x64.size inb_S128x256_S128x64_0_64).toLoadRect (View.loadsAt_vmem h_S128x64))
  pure ⟨v14, k0_pay48 (F := F), k0_pay49 v16 v17 v19 v20 v21 v22, v29⟩

/-- The ninth part is the conditional, then the rest of it. -/
theorem part9_split (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) :
    k0_part9_skel (F := F) i arg1 harg1 arg2 harg2 arg3 harg3 arg4 harg4 arg5 harg5 arg6 harg6 arg7 harg7 arg8 harg8 = (step0 (F := F) i arg1 harg1 arg2 harg2 arg3 harg3 arg4 harg4 arg5 harg5 arg6 harg6 arg7 harg7 arg8 harg8 >>= fun _ => part9Rest (F := F) i arg1 harg1 arg2 harg2 arg3 harg3 arg4 harg4 arg5 harg5 arg6 harg6 arg7 harg7 arg8 harg8) := by
  unfold k0_part9_skel step0 part9Rest
  by_cases hc : (Scalar.cmpi .ne (Scalar.extui (Scalar.cmpi .eq (BitVec.ofNat 32 (i 0).val) 0#32)) 0#32) = 1#1
  · simp only [dif_pos hc, bind_assoc, pure_bind]
  · simp only [dif_neg hc, pure_bind]

/-- The condition of the first grid step, as the kernel computes it. -/
abbrev cond0 (i : grid0.Coords) : Prop := (Scalar.cmpi .ne (Scalar.extui (Scalar.cmpi .eq (BitVec.ofNat 32 (i 0).val) 0#32)) 0#32) = 1#1

/-- Each head's ALiBi slope times log2 e, negated, as the program names it. -/
def slope : (h : ℕ) → h < 16 → F .f32
  | 0, _ => Scalar.ofBits .f32 0xBF8293EE#32
  | 1, _ => Scalar.ofBits .f32 0xBF38AA3B#32
  | 2, _ => Scalar.ofBits .f32 0xBF0293EE#32
  | 3, _ => Scalar.ofBits .f32 0xBEB8AA3B#32
  | 4, _ => Scalar.ofBits .f32 0xBE8293EE#32
  | 5, _ => Scalar.ofBits .f32 0xBE38AA3B#32
  | 6, _ => Scalar.ofBits .f32 0xBE0293EE#32
  | 7, _ => Scalar.ofBits .f32 0xBDB8AA3B#32
  | 8, _ => Scalar.ofBits .f32 0xBD8293EE#32
  | 9, _ => Scalar.ofBits .f32 0xBD38AA3B#32
  | 10, _ => Scalar.ofBits .f32 0xBD0293EE#32
  | 11, _ => Scalar.ofBits .f32 0xBCB8AA3B#32
  | 12, _ => Scalar.ofBits .f32 0xBC8293EE#32
  | 13, _ => Scalar.ofBits .f32 0xBC38AA3B#32
  | 14, _ => Scalar.ofBits .f32 0xBC0293EE#32
  | 15, _ => Scalar.ofBits .f32 0xBBB8AA3B#32
  | _ + 16, h => absurd h (by omega)

/-- One head's bias at one query row and key column: the slope times the distance inside the band, -∞ outside it;
    where the first slot is nonzero the band also leaves out the previous block's keys. -/
def biasTile (b h : ℕ) (hh : h < 16) : FVec F S128x256 .f32 :=
  select (if b = 0 then k0_pay6 else andi k0_pay6 (cmpi .sge (iota .tc S128x256 32 [1] iota_S128x256_d1_w32) (broadcast S128x256 128#32)))
    (mulf (broadcast S128x256 (slope (F := F) h hh)) (k0_pay7 (F := F))) (broadcast S128x256 (Scalar.ofBits .f32 0xFF800000#32))

/-- The bias table: for either slot and every head, the bias at a query row and a key column. -/
def BIAS : Vec F S2x16x128x256 .f32 := fun y =>
  shapeCast S1x1x128x256 (biasTile (F := F) (y 0).val (y 1).val (y 1).isLt) shapeCasts_S128x256_S1x1x128x256
    (fun a => match a with
      | ⟨0, _⟩ => (0 : Fin 1) | ⟨1, _⟩ => (0 : Fin 1) | ⟨2, _⟩ => (y 2 : Fin 128) | ⟨3, _⟩ => (y 3 : Fin 256))

/-- The table read inside the tile of one slot and head. -/
theorem BIAS_at (y : S2x16x128x256.Idx) (b h : ℕ) (hh : h < 16) (x : S1x1x128x256.Idx) (e0 : ((y 0).val : ℕ) = b) (e1 : ((y 1).val : ℕ) = h)
    (e2 : ((y 2).val : ℕ) = (x 2).val) (e3 : ((y 3).val : ℕ) = (x 3).val) :
    shapeCast S1x1x128x256 (biasTile (F := F) b h hh) shapeCasts_S128x256_S1x1x128x256 x = BIAS (F := F) y := by
  subst e0; subst e1
  unfold BIAS
  congr 1
  funext a
  match a with
  | ⟨0, _⟩ => exact Fin.ext (by have := (x 0).isLt; show (x 0).val = 0; have h1 : (x 0).val < 1 := (x 0).isLt; omega)
  | ⟨1, _⟩ => exact Fin.ext (by show (x 1).val = 0; have h1 : (x 1).val < 1 := (x 1).isLt; omega)
  | ⟨2, _⟩ => exact Fin.ext e2.symm
  | ⟨3, _⟩ => exact Fin.ext e3.symm

/-- What a whole memref owns, from what reading it gives. -/
theorem pt_of_read (c : Dev nD) {sp : Space} {sh : Shape} {e : EltTy} (arg : Memref sig .tc sp sh e) (harg : arg.IsWhole)
    {f : arg.view.ty.Contents (Elt F)} {X : sh.Idx → Elt F e} (hf : arg.view.read (Elt F) f = X) :
    (View.loc (c : Thread nD τ) arg.view ↦[arg.view.set]{fullShare} f : sProp 𝕄)
      ⊢ (View.loc (c : Thread nD τ) arg.view ↦[arg.view.set]{fullShare} harg.unread X : sProp 𝕄) := by
  rw [harg.eq_unread hf]

set_option maxHeartbeats 2320000 in
/-- The conditional taken: whatever the scratch held, it holds the bias table afterwards. -/
theorem step0_taken (c : Dev nD) (i : grid0.Coords) (arg1 : Memref sig .tc .smem S16 .f32) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S512x1024 .bf16) (harg7 : arg7.IsWhole) (arg8 : Memref sig .tc .vmem S2x16x128x256 .f32) (harg8 : arg8.IsWhole) (hc0 : cond0 i) (f8 : arg8.view.ty.Contents (Elt F)) (E : Set ℕ) :
    (View.loc (c : Thread nD τ) arg8.view ↦[arg8.view.set]{fullShare} f8)
      ⊢ wp frame (wpE (defs₀ (F := F)) Variants.none c none) E (step0 (F := F) i arg1 harg1 arg2 harg2 arg3 harg3 arg4 harg4 arg5 harg5 arg6 harg6 arg7 harg7 arg8 harg8)
          (fun _ => (View.loc (c : Thread nD τ) arg8.view ↦[arg8.view.set]{fullShare} harg8.unread (BIAS (F := F)) : sProp 𝕄)) := by
  unfold step0
  simp only [k0_part1_eq_skeleton, k0_part2_eq_skeleton, k0_part3_eq_skeleton, k0_part4_eq_skeleton, k0_part5_eq_skeleton, k0_part6_eq_skeleton, k0_part7_eq_skeleton, k0_part8_eq_skeleton]
  iintro HS0
  sl_exec (disch := first | sl_exact hc0)
  sl_step
  iapply (pt_of_read c arg8 harg8 ?_) $$ HS0
  refine (View.read_writes_eq_canon _ _ _ (View.cover_of_tiled_head _ _ _ (by rfl))).trans ?_
  funext y
  canon_tiles x h
  case piece0 => exact Eq.trans rfl (BIAS_at y 1 15 (by omega) x (by omega) (by omega) h2 h3)
  case piece1 => exact Eq.trans rfl (BIAS_at y 0 15 (by omega) x (by omega) (by omega) h2 h3)
  case piece2 => exact Eq.trans rfl (BIAS_at y 1 14 (by omega) x (by omega) (by omega) h2 h3)
  case piece3 => exact Eq.trans rfl (BIAS_at y 0 14 (by omega) x (by omega) (by omega) h2 h3)
  case piece4 => exact Eq.trans rfl (BIAS_at y 1 13 (by omega) x (by omega) (by omega) h2 h3)
  case piece5 => exact Eq.trans rfl (BIAS_at y 0 13 (by omega) x (by omega) (by omega) h2 h3)
  case piece6 => exact Eq.trans rfl (BIAS_at y 1 12 (by omega) x (by omega) (by omega) h2 h3)
  case piece7 => exact Eq.trans rfl (BIAS_at y 0 12 (by omega) x (by omega) (by omega) h2 h3)
  case piece8 => exact Eq.trans rfl (BIAS_at y 1 11 (by omega) x (by omega) (by omega) h2 h3)
  case piece9 => exact Eq.trans rfl (BIAS_at y 0 11 (by omega) x (by omega) (by omega) h2 h3)
  case piece10 => exact Eq.trans rfl (BIAS_at y 1 10 (by omega) x (by omega) (by omega) h2 h3)
  case piece11 => exact Eq.trans rfl (BIAS_at y 0 10 (by omega) x (by omega) (by omega) h2 h3)
  case piece12 => exact Eq.trans rfl (BIAS_at y 1 9 (by omega) x (by omega) (by omega) h2 h3)
  case piece13 => exact Eq.trans rfl (BIAS_at y 0 9 (by omega) x (by omega) (by omega) h2 h3)
  case piece14 => exact Eq.trans rfl (BIAS_at y 1 8 (by omega) x (by omega) (by omega) h2 h3)
  case piece15 => exact Eq.trans rfl (BIAS_at y 0 8 (by omega) x (by omega) (by omega) h2 h3)
  case piece16 => exact Eq.trans rfl (BIAS_at y 1 7 (by omega) x (by omega) (by omega) h2 h3)
  case piece17 => exact Eq.trans rfl (BIAS_at y 0 7 (by omega) x (by omega) (by omega) h2 h3)
  case piece18 => exact Eq.trans rfl (BIAS_at y 1 6 (by omega) x (by omega) (by omega) h2 h3)
  case piece19 => exact Eq.trans rfl (BIAS_at y 0 6 (by omega) x (by omega) (by omega) h2 h3)
  case piece20 => exact Eq.trans rfl (BIAS_at y 1 5 (by omega) x (by omega) (by omega) h2 h3)
  case piece21 => exact Eq.trans rfl (BIAS_at y 0 5 (by omega) x (by omega) (by omega) h2 h3)
  case piece22 => exact Eq.trans rfl (BIAS_at y 1 4 (by omega) x (by omega) (by omega) h2 h3)
  case piece23 => exact Eq.trans rfl (BIAS_at y 0 4 (by omega) x (by omega) (by omega) h2 h3)
  case piece24 => exact Eq.trans rfl (BIAS_at y 1 3 (by omega) x (by omega) (by omega) h2 h3)
  case piece25 => exact Eq.trans rfl (BIAS_at y 0 3 (by omega) x (by omega) (by omega) h2 h3)
  case piece26 => exact Eq.trans rfl (BIAS_at y 1 2 (by omega) x (by omega) (by omega) h2 h3)
  case piece27 => exact Eq.trans rfl (BIAS_at y 0 2 (by omega) x (by omega) (by omega) h2 h3)
  case piece28 => exact Eq.trans rfl (BIAS_at y 1 1 (by omega) x (by omega) (by omega) h2 h3)
  case piece29 => exact Eq.trans rfl (BIAS_at y 0 1 (by omega) x (by omega) (by omega) h2 h3)
  case piece30 => exact Eq.trans rfl (BIAS_at y 1 0 (by omega) x (by omega) (by omega) h2 h3)
  case piece31 => exact Eq.trans rfl (BIAS_at y 0 0 (by omega) x (by omega) (by omega) h2 h3)

end Cert.Swa.Body

end
-- ==== Proof.SwaMath.lean ====
/- The attention of one query row and head as mathematics, and the rearrangement that the kernel makes of it: base two
   for base e, the weights' sum taken beside the weighted values, and one division at the end. -/
module

public import proofs.«01_k».proof.Proof.TailMath

@[expose] public section

noncomputable section

namespace Cert.SwaMath

open Cert.TailMath Idealize.ShloMosaic

/-! ## The attention of one query row -/

/-- The row of key `k` of the 256 that the query row `R` sees: its own block of 128 rows and the block before. -/
def keyRow (R : Fin 32768) (k : Fin 256) : Fin 32768 := ⟨R.val - R.val % 128 + k.val - 128, by omega⟩

/-- Key `k` is no later than the query row `R`, fewer than 128 rows before it, and in its sequence. -/
def Valid (R : Fin 32768) (k : Fin 256) : Prop := R.val % 128 < k.val ∧ k.val ≤ R.val % 128 + 128 ∧ (R.val % 4096 < 128 → 128 ≤ k.val)

instance (R : Fin 32768) (k : Fin 256) : Decidable (Valid R k) := inferInstanceAs (Decidable (_ ∧ _ ∧ _))

/-- The ALiBi slope of a head. -/
def slope (h : Fin 16) : ℝ := Real.rpow 2 (-8 * ((1 + (h.val : ℝ))) / 16)

/-- The column of coordinate `d` of head `h` of the queries, -/
def qCol (h : Fin 16) (d : Fin 64) : Fin 1536 := ⟨64 * h.val + d.val, by omega⟩
/-- of the keys that the head reads, -/
def kCol (h : Fin 16) (d : Fin 64) : Fin 1536 := ⟨1024 + 64 * (h.val / 4) + d.val, by omega⟩
/-- and of the values. -/
def vCol (h : Fin 16) (d : Fin 64) : Fin 1536 := ⟨1280 + 64 * (h.val / 4) + d.val, by omega⟩

variable (P : Fin 32768 → Fin 1536 → EReal) (S : Fin 16 → EReal)

/-- The logit of key `k` for the query row `R` and head `h`. -/
def logit (R : Fin 32768) (h : Fin 16) (k : Fin 256) : EReal :=
  if Valid R k then (∑ d : Fin 64, P (keyRow R k) (kCol h d) * P R (qCol h d)) * ((1 / 8 : ℝ) : EReal)
    - (slope h : EReal) * (((R.val % 128 + 128 - k.val : ℕ) : ℝ) : EReal) else ⊥

/-- The greatest of a row of logits and the sink. -/
def top (x : Fin 256 → EReal) (s : EReal) : EReal := max (Finset.univ.fold max ⊥ x) s

/-- The normaliser: the weights' sum and the sink's weight. -/
def den (x : Fin 256 → EReal) (s : EReal) : EReal := (∑ k, Ideal.exp (x k - top x s)) + Ideal.exp (s - top x s)

/-- Values weighted by the softmax with a sink of the logits. -/
def soft (x : Fin 256 → EReal) (s : EReal) (v : Fin 256 → EReal) : EReal :=
  ∑ k, v k * Ideal.div (Ideal.exp (x k - top x s)) (den x s)

/-- The attention at row `R`, head `h` and coordinate `d`. -/
def out (R : Fin 32768) (h : Fin 16) (d : Fin 64) : EReal :=
  soft (logit P R h) (S h) fun k => P (keyRow R k) (vCol h d)

/-! ## The kernel's rearrangement -/

/-- The logarithm of e to base two. -/
def L : ℝ := (Real.log 2)⁻¹

theorem log2_pos : 0 < Real.log 2 := Real.log_pos (by norm_num)
theorem L_pos : 0 < L := inv_pos.mpr log2_pos

/-- A row of logits: each a real number or -∞, one of them real. -/
structure Row (x : Fin 256 → EReal) : Prop where
  each : ∀ k, x k = ⊥ ∨ Fin' (x k)
  some : ∃ k, Fin' (x k)

theorem top_fin {x : Fin 256 → EReal} (hx : Row x) {s : EReal} (hs : s ≠ ⊤) : Fin' (top x s) := by
  apply Fin'.of_abs
  obtain ⟨k, r, hk⟩ := hx.some
  constructor
  · unfold top
    refine (max_lt ?_ (lt_top_iff_ne_top.mpr hs)).ne
    refine (Finset.fold_max_lt ⊤).mpr ⟨bot_lt_top, fun i _ => ?_⟩
    rcases hx.each i with e | ⟨q, e⟩ <;> rw [e]
    · exact bot_lt_top
    · exact EReal.coe_lt_top q
  · unfold top
    refine (lt_of_lt_of_le (EReal.bot_lt_coe r) (le_max_of_le_left ?_)).ne'
    rw [← hk]
    exact (Finset.le_fold_max _).mpr (Or.inr ⟨k, Finset.mem_univ _, le_refl _⟩)

/-- Powers of two of logits scaled by `L` are exponentials. -/
theorem exp2_eq {a : EReal} (ha : a ≠ ⊤) (t : ℝ) : Ideal.exp2 ((L : EReal) * a - (L : EReal) * (t : EReal)) = Ideal.exp (a - (t : EReal)) := by
  induction a with
  | bot =>
    rw [EReal.coe_mul_bot_of_pos L_pos, ← EReal.coe_mul, EReal.bot_sub, EReal.bot_sub]; rfl
  | top => exact absurd rfl ha
  | coe r =>
    rw [← EReal.coe_mul, ← EReal.coe_mul, ← EReal.coe_sub, ← EReal.coe_sub]
    show ((Real.rpow 2 (L * r - L * t) : ℝ) : EReal) = ((Real.exp (r - t) : ℝ) : EReal)
    congr 1
    show (2 : ℝ) ^ (L * r - L * t) = _
    rw [Real.rpow_def_of_pos (by norm_num)]
    congr 1
    have := log2_pos.ne'
    unfold L
    field_simp

theorem mono_L : Monotone fun a : EReal => (L : EReal) * a := fun a b h =>
  mul_le_mul_of_nonneg_left h (by exact_mod_cast L_pos.le)

/-- The greatest of the scaled logits is the greatest logit, scaled. -/
theorem top_L (x : Fin 256 → EReal) (s : EReal) : top (fun k => (L : EReal) * x k) ((L : EReal) * s) = (L : EReal) * top x s := by
  unfold top
  have h := Finset.fold_hom (op := (max : EReal → EReal → EReal)) (op' := max) (s := (Finset.univ : Finset (Fin 256))) (b := ⊥) (f := x)
    (m := fun a : EReal => (L : EReal) * a) (fun a b => mono_L.map_max)
  rw [EReal.coe_mul_bot_of_pos L_pos] at h
  rw [h]
  exact (mono_L.map_max).symm

theorem exp_fin {a : EReal} (ha : a ≠ ⊤) (t : ℝ) : ∃ r : ℝ, 0 ≤ r ∧ Ideal.exp (a - (t : EReal)) = (r : EReal) := by
  induction a with
  | bot => exact ⟨0, le_refl _, by rw [EReal.bot_sub]; rfl⟩
  | top => exact absurd rfl ha
  | coe r => exact ⟨Real.exp (r - t), (Real.exp_pos _).le, by rw [← EReal.coe_sub]; rfl⟩

/-- The normaliser is a positive real number. -/
theorem den_pos {x : Fin 256 → EReal} (hx : Row x) {s : EReal} (hs : s ≠ ⊤) : ∃ r : ℝ, 0 < r ∧ den x s = (r : EReal) := by
  obtain ⟨t, ht⟩ := top_fin hx hs
  unfold den
  rw [ht]
  have hne : ∀ k, x k ≠ ⊤ := fun k => by
    rcases hx.each k with e | ⟨q, e⟩ <;> rw [e]
    · exact bot_ne_top
    · exact EReal.coe_ne_top q
  choose e he0 he using fun k => exp_fin (hne k) t
  obtain ⟨es, hes0, hes⟩ := exp_fin hs t
  simp only [he, hes, ← coe_sum]
  refine ⟨(∑ k, e k) + es, ?_, (EReal.coe_add _ _).symm⟩
  obtain ⟨k, r, hk⟩ := hx.some
  have hp : 0 < e k := by
    have h := he k
    rw [hk, ← EReal.coe_sub] at h
    have h' : ((Real.exp (r - t) : ℝ) : EReal) = (e k : EReal) := h
    rw [← EReal.coe_injective h']
    exact Real.exp_pos _
  exact add_pos_of_pos_of_nonneg (Finset.sum_pos' (fun i _ => he0 i) ⟨k, Finset.mem_univ _, hp⟩) hes0

/-- A masked key's weight is zero. -/
theorem weight_bot {x : Fin 256 → EReal} (hx : Row x) {s : EReal} (hs : s ≠ ⊤) {k : Fin 256} (hk : x k = ⊥) : Ideal.exp (x k - top x s) = 0 := by
  rw [hk, EReal.bot_sub]; rfl

theorem div_coe (a : EReal) {r : ℝ} (hr : 0 < r) : Ideal.div a (r : EReal) = a * ((r⁻¹ : ℝ) : EReal) := by
  unfold Ideal.div
  rw [if_neg (by exact_mod_cast hr.ne'), ← EReal.coe_inv]

/-- The weighted values depend on the unmasked keys' values alone. -/
theorem soft_congr {x : Fin 256 → EReal} (hx : Row x) {s : EReal} (hs : s ≠ ⊤) (v w : Fin 256 → EReal) (h : ∀ k, x k ≠ ⊥ → v k = w k) :
    soft x s v = soft x s w := by
  obtain ⟨r, hr, hd⟩ := den_pos hx hs
  unfold soft
  refine Finset.sum_congr rfl fun k _ => ?_
  by_cases hk : x k = ⊥
  · rw [weight_bot hx hs hk, hd, div_coe _ hr, zero_mul, mul_zero, mul_zero]
  · rw [h k hk]

theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih => rw [Finset.sum_insert ha, Finset.sum_insert ha, EReal.right_distrib_of_nonneg_of_ne_top (by exact_mod_cast hr) (EReal.coe_ne_top r), ih]

/-- What the kernel computes of scaled logits is the weighted values of the logits. -/
theorem kernel_soft {x : Fin 256 → EReal} (hx : Row x) {s : EReal} (hs : s ≠ ⊤) (v : Fin 256 → EReal) (y : Fin 256 → EReal) (z : EReal)
    (hy : ∀ k, y k = (L : EReal) * x k) (hz : z = (L : EReal) * s) :
    Ideal.div (∑ k, Ideal.exp2 (y k - top y z) * v k) ((∑ k, Ideal.exp2 (y k - top y z)) + Ideal.exp2 (z - top y z)) = soft x s v := by
  obtain rfl : y = fun k => (L : EReal) * x k := funext hy
  subst hz
  obtain ⟨t, ht⟩ := top_fin hx hs
  obtain ⟨r, hr, hd⟩ := den_pos hx hs
  have hne : ∀ k, x k ≠ ⊤ := fun k => by
    rcases hx.each k with e | ⟨q, e⟩ <;> rw [e]
    · exact bot_ne_top
    · exact EReal.coe_ne_top q
  have hd' := hd
  unfold den at hd'
  unfold soft
  rw [hd, top_L]
  rw [ht] at hd' ⊢
  simp only [exp2_eq (hne _), exp2_eq hs]
  rw [hd', div_coe _ hr, sum_mul_coe _ _ (inv_pos.mpr hr).le]
  refine Finset.sum_congr rfl fun k _ => ?_
  rw [div_coe _ hr, mul_comm (Ideal.exp _) (v k), mul_assoc]

/-! ## The logits -/

/-- The query and key columns are real numbers and no sink is +∞. -/
structure Finite : Prop where
  qk : ∀ R (j : Fin 1536), j.val < 1280 → Fin' (P R j)
  s : ∀ h, S h ≠ ⊤

theorem qCol_lt (h : Fin 16) (d : Fin 64) : (qCol h d).val < 1280 := by unfold qCol; simp only; omega
theorem kCol_lt (h : Fin 16) (d : Fin 64) : (kCol h d).val < 1280 := by unfold kCol; simp only; omega

variable {P S}

theorem row_logit (H : Finite P S) (R : Fin 32768) (h : Fin 16) : Row (logit P R h) := by
  have hf : ∀ k, Valid R k → Fin' (logit P R h k) := fun k hk => by
    unfold logit
    rw [if_pos hk]
    obtain ⟨a, ha⟩ := Fin'.sum Finset.univ _ fun d : Fin 64 => (H.qk (keyRow R k) (kCol h d) (kCol_lt h d)).mul (H.qk R (qCol h d) (qCol_lt h d))
    rw [ha, ← EReal.coe_mul, ← EReal.coe_mul, ← EReal.coe_sub]
    exact ⟨_, rfl⟩
  refine ⟨fun k => ?_, ⟨⟨R.val % 128 + 128, by omega⟩, hf _ ⟨by simp only; omega, le_refl _, fun _ => by simp only; omega⟩⟩⟩
  by_cases hk : Valid R k
  · exact Or.inr (hf k hk)
  · left; unfold logit; rw [if_neg hk]

/-- The kernel's logit, from queries scaled beforehand and a bias already scaled, is the logit scaled. -/
theorem logit_L (H : Finite P S) (R : Fin 32768) (h : Fin 16) (k : Fin 256) (K : Fin 64 → EReal) (b : EReal)
    (hK : Valid R k → ∀ d, K d = P (keyRow R k) (kCol h d))
    (hb : b = if Valid R k then ((-(slope h * L) : ℝ) : EReal) * (((R.val % 128 + 128 - k.val : ℕ) : ℝ) : EReal) else ⊥) :
    (∑ d : Fin 64, P R (qCol h d) * ((1 / 8 * L : ℝ) : EReal) * K d) + b = (L : EReal) * logit P R h k := by
  subst hb
  unfold logit
  by_cases hk : Valid R k
  · rw [if_pos hk, if_pos hk]
    choose p hp using fun d => H.qk R (qCol h d) (qCol_lt h d)
    choose q hq using fun d => H.qk (keyRow R k) (kCol h d) (kCol_lt h d)
    simp only [hK hk, hp, hq, ← EReal.coe_mul, ← coe_sum, ← EReal.coe_sub, ← EReal.coe_add]
    congr 1
    have e : ∑ d, p d * (1 / 8 * L) * q d = 1 / 8 * L * ∑ d, q d * p d := by
      rw [Finset.mul_sum]; exact Finset.sum_congr rfl fun d _ => by ring
    rw [e]
    ring
  · rw [if_neg hk, if_neg hk, EReal.add_bot, EReal.coe_mul_bot_of_pos L_pos]

end Cert.SwaMath

end
-- ==== Proof.SwaTile.lean ====
/- The attention kernel's tile of 128 query rows and one head, read entry by entry at the ideal instance. -/
module

public import proofs.«01_k».proof.Proof.SwaMath
public import proofs.«01_k».proof.Proof.SwaFrame
public import Idealize.ShloMosaic.Lib.Pointwise
public import Idealize.ShloMosaic.PureOps.IdealRules

@[expose] public section

set_option maxRecDepth 16384

noncomputable section

namespace Cert.SwaIdeal.Tile

open Cert.SwaIdeal Cert.SwaIdeal.Gen Cert.SwaIdeal.Body Cert.SwaMath Cert.TailMath Idealize.ShloMosaic Idealize.ShloMosaic.TcCoe Idealize.SL.Sem

/-! ## The body's vectors at an index, over any operands -/

theorem scale_val : (Named.named (F := Ideal) κ "scale" 0x3E38AA3B#32 : Ideal .f32) = ((1 / 8 * L : ℝ) : EReal) :=
  IdealRules.named_const.ideal_named_scalar _ _ _ _ rfl

theorem log2e_val : (Named.named (F := Ideal) κ "log2e" 0x3FB8AA3B#32 : Ideal .f32) = ((L : ℝ) : EReal) :=
  IdealRules.named_const.ideal_named_scalar _ _ _ _ rfl

theorem bot_val : Ideal.ofBits .f32 0xFF800000#32 = ⊥ := by simp [Ideal.ofBits, Ideal.ieee]

theorem one_val : Ideal.ofBits .bf16 0x3F80#16 = 1 := by
  simp [Ideal.ofBits, Ideal.ieee]; norm_cast; norm_num

/-- The stack of four heads' rows: row `128 g + r` is row `r` of head `g`. -/
theorem rowsOf_at (A : FVec Ideal S512x256 .f32) (g : ℕ) (hg : g < 4) (r : Fin 128) (k : Fin 256) :
    rowsOf A g hg (ix2 r k) = A (ix2 ⟨128 * g + r, by omega⟩ k) := by
  match g, hg with
  | 0, _ => pointwise [rowsOf]
  | 1, _ => pointwise [rowsOf]
  | 2, _ => pointwise [rowsOf]
  | 3, _ => pointwise [rowsOf]

theorem scores_at (q : (g : ℕ) → g < 4 → Vec Ideal S128x64 .bf16) (kp kc : Vec Ideal S128x64 .bf16) (g : ℕ) (hg : g < 4) (r : Fin 128) (k : Fin 256) :
    scores (q 0 (by omega)) (q 1 (by omega)) (q 2 (by omega)) (q 3 (by omega)) kp kc (ix2 ⟨128 * g + r, by omega⟩ k)
      = ∑ d : Fin 64, q g hg (ix2 r d) * ((1 / 8 * L : ℝ) : EReal) * (if h : k.val < 128 then kp (ix2 ⟨k, h⟩ d) else kc (ix2 ⟨k - 128, by omega⟩ d)) := by
  match g, hg with
  | 0, _ => pointwise [scores, scale_val]
  | 1, _ => pointwise [scores, scale_val]
  | 2, _ =>
    pointwise [scores, scale_val]
    have e1 : ¬ 256 + r.val < 128 := by omega
    have e2 : ¬ 256 + r.val - 128 < 128 := by omega
    have e3 : 256 + r.val - 128 - 128 = r.val := by omega
    simp only [e1, e2, e3, r.isLt, ↓reduceDIte, Fin.eta]
  | 3, _ =>
    pointwise [scores, scale_val]
    have e1 : ¬ 384 + r.val < 128 := by omega
    have e2 : ¬ 384 + r.val - 128 < 128 := by omega
    have e3 : ¬ 384 + r.val - 128 - 128 < 128 := by omega
    have e4 : 384 + r.val - 128 - 128 - 128 = r.val := by omega
    simp only [e1, e2, e3, e4, ↓reduceDIte, Fin.eta]

theorem rowMax_at (l : FVec Ideal S128x256 .f32) (s : Ideal .f32) (r : Fin 128) :
    rowMax l s (ix2 r 0) = top (fun k => l (ix2 r k)) (L * s) := by
  unfold top
  pointwise [rowMax, sinkLog, log2e_val, bot_val]
  rw [mul_comm s]

theorem expo_at (l : FVec Ideal S128x256 .f32) (s : Ideal .f32) (r : Fin 128) (k : Fin 256) :
    expo l s (ix2 r k) = Ideal.exp2 (l (ix2 r k) - rowMax l s (ix2 r 0)) := by
  pointwise [expo]
  rfl

theorem sinkExp_at (l : FVec Ideal S128x256 .f32) (s : Ideal .f32) (r : Fin 128) :
    sinkExp l s (ix2 r 0) = Ideal.exp2 (L * s - rowMax l s (ix2 r 0)) := by
  pointwise [sinkExp, sinkLog, log2e_val]
  rw [mul_comm s]; rfl

theorem logits_at (sc : FVec Ideal S128x256 .f32) (b : Vec Ideal S1x1x128x256 .f32) (r : Fin 128) (k : Fin 256) :
    logits sc b (ix2 r k) = sc (ix2 r k) + b (ix4 0 0 r k) := by
  pointwise [logits]

theorem pv_at (e : (g : ℕ) → g < 4 → FVec Ideal S128x256 .bf16) (vp vc : Vec Ideal S128x64 .bf16) (g : ℕ) (hg : g < 4) (r : Fin 128) (j : Fin 256) :
    pvOf (e 0 (by omega)) (e 1 (by omega)) (e 2 (by omega)) (e 3 (by omega)) vp vc (ix2 ⟨128 * g + r, by omega⟩ j)
      = ∑ k : Fin 256, e g hg (ix2 r k) * (if h : j.val < 64 then (if h' : k.val < 128 then vp (ix2 ⟨k, h'⟩ ⟨j, h⟩) else vc (ix2 ⟨k - 128, by omega⟩ ⟨j, h⟩)) else 1) := by
  match g, hg with
  | 0, _ => pointwise [pvOf, one_val]
  | 1, _ => pointwise [pvOf, one_val]
  | 2, _ =>
    pointwise [pvOf, one_val]
    have e1 : ¬ 256 + r.val < 128 := by omega
    have e2 : ¬ 256 + r.val - 128 < 128 := by omega
    have e3 : 256 + r.val - 128 - 128 = r.val := by omega
    simp only [e1, e2, e3, r.isLt, ↓reduceDIte, Fin.eta]
  | 3, _ =>
    pointwise [pvOf, one_val]
    have e1 : ¬ 384 + r.val < 128 := by omega
    have e2 : ¬ 384 + r.val - 128 < 128 := by omega
    have e3 : ¬ 384 + r.val - 128 - 128 < 128 := by omega
    have e4 : 384 + r.val - 128 - 128 - 128 = r.val := by omega
    simp only [e1, e2, e3, e4, ↓reduceDIte, Fin.eta]

theorem normalise_at (pg : FVec Ideal S128x256 .f32) (sk : FVec Ideal S128x1 .f32) (r : Fin 128) (d : Fin 64) :
    normalise pg sk (ix2 r d) = Ideal.div (pg (ix2 r ⟨d, by omega⟩)) (pg (ix2 r ⟨128 + d, by omega⟩) + sk (ix2 r 0)) := by
  pointwise [normalise]

/-! ## The bias table -/

/-- The distance of query row `r` from key `k` as the program counts it. -/
abbrev distWord (r : Fin 128) (k : Fin 256) : BitVec 32 := IntOp.subi (IntOp.addi (BitVec.ofNat 32 r.val) 128#32) (BitVec.ofNat 32 k.val)

theorem dist_toInt (r : Fin 128) (k : Fin 256) : (distWord r k).toInt = (r.val : ℤ) + 128 - k.val := by
  show (BitVec.ofNat 32 r.val + 128#32 - BitVec.ofNat 32 k.val).toInt = _
  have hr := r.isLt
  have hk := k.isLt
  have a : (BitVec.ofNat 32 r.val).toInt = (r.val : ℤ) := by
    rw [BitVec.toInt_eq_toNat_of_lt (by simp; omega)]; simp; omega
  have b : (BitVec.ofNat 32 k.val).toInt = (k.val : ℤ) := by
    rw [BitVec.toInt_eq_toNat_of_lt (by simp; omega)]; simp; omega
  rw [BitVec.toInt_sub, BitVec.toInt_add, a, b, show (128#32).toInt = 128 from rfl]
  rw [Int.bmod_eq_of_le (n := (r.val : ℤ) + 128) (by norm_num; omega) (by norm_num; omega), Int.bmod_eq_of_le (by norm_num; omega) (by norm_num; omega)]

theorem ge_word (r : Fin 128) (k : Fin 256) : IntOp.cmpi .sge (distWord r k) 0#32 = 1#1 ↔ k.val ≤ r.val + 128 := by
  have e := dist_toInt r k
  have hb : ∀ b : Bool, BitVec.ofBool b = 1#1 ↔ b = true := by decide
  simp [IntOp.cmpi, BitVec.sle, e, hb]
  omega

theorem lt_word (r : Fin 128) (k : Fin 256) : IntOp.cmpi .slt (distWord r k) 128#32 = 1#1 ↔ r.val < k.val := by
  have e := dist_toInt r k
  have hb : ∀ b : Bool, BitVec.ofBool b = 1#1 ↔ b = true := by decide
  simp [IntOp.cmpi, BitVec.slt, e, hb]
  omega

theorem key_word (k : Fin 256) : IntOp.cmpi .sge (BitVec.ofNat 32 k.val) 128#32 = 1#1 ↔ 128 ≤ k.val := by
  revert k; decide +kernel

theorem dist_val (r : Fin 128) (k : Fin 256) (h : k.val ≤ r.val + 128) :
    (FloatOps.sitofp (F := Ideal) .f32 (distWord r k) : Ideal .f32) = (((r.val + 128 - k.val : ℕ) : ℝ) : EReal) := by
  show (((distWord r k).toInt : ℝ) : EReal) = _
  rw [dist_toInt, Nat.cast_sub h]
  push_cast
  rfl

theorem first_word : ∀ n : Fin 64, (Scalar.extui (Scalar.cmpi .eq (Scalar.select
                (Scalar.andi
                  (Scalar.xori
                    (Scalar.cmpi CmpIPredicate.slt
                      (Scalar.remsi (BitVec.ofNat 32 n.val)
                        (Scalar.select (Scalar.cmpi CmpIPredicate.eq 8#32 0#32) 1#32 8#32))
                      0#32)
                    (Scalar.cmpi CmpIPredicate.slt (Scalar.select (Scalar.cmpi CmpIPredicate.eq 8#32 0#32) 1#32 8#32)
                      0#32))
                  (Scalar.cmpi CmpIPredicate.ne
                    (Scalar.remsi (BitVec.ofNat 32 n.val)
                      (Scalar.select (Scalar.cmpi CmpIPredicate.eq 8#32 0#32) 1#32 8#32))
                    0#32))
                (Scalar.addi
                  (Scalar.remsi (BitVec.ofNat 32 n.val)
                    (Scalar.select (Scalar.cmpi CmpIPredicate.eq 8#32 0#32) 1#32 8#32))
                  (Scalar.select (Scalar.cmpi CmpIPredicate.eq 8#32 0#32) 1#32 8#32))
                (Scalar.remsi (BitVec.ofNat 32 n.val)
                  (Scalar.select (Scalar.cmpi CmpIPredicate.eq 8#32 0#32) 1#32 8#32)))
              0#32) : BitVec 32) = if n.val % 8 = 0 then 1#32 else 0#32 := by decide +kernel

/-- The slope of a head, as named, is minus its ALiBi slope in base two. -/
theorem slope_even (j : ℕ) : Real.rpow 2 (-8 * ((1 + ((2 * j : ℕ) : ℝ))) / 16) = 1 / 2 ^ (j + 1) * Real.sqrt 2 := by
  show (2 : ℝ) ^ (-8 * ((1 + ((2 * j : ℕ) : ℝ))) / 16) = _
  rw [show -8 * ((1 + ((2 * j : ℕ) : ℝ))) / 16 = -((j + 1 : ℕ) : ℝ) + 1 / 2 by push_cast; ring, Real.rpow_add (by norm_num),
    Real.rpow_neg (by norm_num), Real.rpow_natCast, ← Real.sqrt_eq_rpow, one_div]

theorem slope_odd (j : ℕ) : Real.rpow 2 (-8 * ((1 + ((2 * j + 1 : ℕ) : ℝ))) / 16) = 1 / 2 ^ (j + 1) := by
  show (2 : ℝ) ^ (-8 * ((1 + ((2 * j + 1 : ℕ) : ℝ))) / 16) = _
  rw [show -8 * ((1 + ((2 * j + 1 : ℕ) : ℝ))) / 16 = -((j + 1 : ℕ) : ℝ) by push_cast; ring, Real.rpow_neg (by norm_num), Real.rpow_natCast, one_div]

theorem slope_val (h : ℕ) (hh : h < 16) : (Body.slope (F := Ideal) h hh : Ideal .f32) = ((-(SwaMath.slope ⟨h, hh⟩ * L) : ℝ) : EReal) := by
  unfold SwaMath.slope L
  match h, hh with
  | 0, _ =>
    refine (IdealRules.named_const.ideal_named_scalar _ _ _ _ rfl).trans ?_
    rw [show ((⟨0, by omega⟩ : Fin 16).val : ℝ) = ((2 * 0 : ℕ) : ℝ) from by norm_num, slope_even]
    norm_num
  | 1, _ =>
    refine (IdealRules.named_const.ideal_named_scalar _ _ _ _ rfl).trans ?_
    rw [show ((⟨1, by omega⟩ : Fin 16).val : ℝ) = ((2 * 0 + 1 : ℕ) : ℝ) from by norm_num, slope_odd]
    norm_num
  | 2, _ =>
    refine (IdealRules.named_const.ideal_named_scalar _ _ _ _ rfl).trans ?_
    rw [show ((⟨2, by omega⟩ : Fin 16).val : ℝ) = ((2 * 1 : ℕ) : ℝ) from by norm_num, slope_even]
    norm_num
  | 3, _ =>
    refine (IdealRules.named_const.ideal_named_scalar _ _ _ _ rfl).trans ?_
    rw [show ((⟨3, by omega⟩ : Fin 16).val : ℝ) = ((2 * 1 + 1 : ℕ) : ℝ) from by norm_num, slope_odd]
    norm_num
  | 4, _ =>
    refine (IdealRules.named_const.ideal_named_scalar _ _ _ _ rfl).trans ?_
    rw [show ((⟨4, by omega⟩ : Fin 16).val : ℝ) = ((2 * 2 : ℕ) : ℝ) from by norm_num, slope_even]
    norm_num
  | 5, _ =>
    refine (IdealRules.named_const.ideal_named_scalar _ _ _ _ rfl).trans ?_
    rw [show ((⟨5, by omega⟩ : Fin 16).val : ℝ) = ((2 * 2 + 1 : ℕ) : ℝ) from by norm_num, slope_odd]
    norm_num
  | 6, _ =>
    refine (IdealRules.named_const.ideal_named_scalar _ _ _ _ rfl).trans ?_
    rw [show ((⟨6, by omega⟩ : Fin 16).val : ℝ) = ((2 * 3 : ℕ) : ℝ) from by norm_num, slope_even]
    norm_num
  | 7, _ =>
    refine (IdealRules.named_const.ideal_named_scalar _ _ _ _ rfl).trans ?_
    rw [show ((⟨7, by omega⟩ : Fin 16).val : ℝ) = ((2 * 3 + 1 : ℕ) : ℝ) from by norm_num, slope_odd]
    norm_num
  | 8, _ =>
    refine (IdealRules.named_const.ideal_named_scalar _ _ _ _ rfl).trans ?_
    rw [show ((⟨8, by omega⟩ : Fin 16).val : ℝ) = ((2 * 4 : ℕ) : ℝ) from by norm_num, slope_even]
    norm_num
  | 9, _ =>
    refine (IdealRules.named_const.ideal_named_scalar _ _ _ _ rfl).trans ?_
    rw [show ((⟨9, by omega⟩ : Fin 16).val : ℝ) = ((2 * 4 + 1 : ℕ) : ℝ) from by norm_num, slope_odd]
    norm_num
  | 10, _ =>
    refine (IdealRules.named_const.ideal_named_scalar _ _ _ _ rfl).trans ?_
    rw [show ((⟨10, by omega⟩ : Fin 16).val : ℝ) = ((2 * 5 : ℕ) : ℝ) from by norm_num, slope_even]
    norm_num
  | 11, _ =>
    refine (IdealRules.named_const.ideal_named_scalar _ _ _ _ rfl).trans ?_
    rw [show ((⟨11, by omega⟩ : Fin 16).val : ℝ) = ((2 * 5 + 1 : ℕ) : ℝ) from by norm_num, slope_odd]
    norm_num
  | 12, _ =>
    refine (IdealRules.named_const.ideal_named_scalar _ _ _ _ rfl).trans ?_
    rw [show ((⟨12, by omega⟩ : Fin 16).val : ℝ) = ((2 * 6 : ℕ) : ℝ) from by norm_num, slope_even]
    norm_num
  | 13, _ =>
    refine (IdealRules.named_const.ideal_named_scalar _ _ _ _ rfl).trans ?_
    rw [show ((⟨13, by omega⟩ : Fin 16).val : ℝ) = ((2 * 6 + 1 : ℕ) : ℝ) from by norm_num, slope_odd]
    norm_num
  | 14, _ =>
    refine (IdealRules.named_const.ideal_named_scalar _ _ _ _ rfl).trans ?_
    rw [show ((⟨14, by omega⟩ : Fin 16).val : ℝ) = ((2 * 7 : ℕ) : ℝ) from by norm_num, slope_even]
    norm_num
  | 15, _ =>
    refine (IdealRules.named_const.ideal_named_scalar _ _ _ _ rfl).trans ?_
    rw [show ((⟨15, by omega⟩ : Fin 16).val : ℝ) = ((2 * 7 + 1 : ℕ) : ℝ) from by norm_num, slope_odd]
    norm_num
  | _ + 16, h => exact absurd h (by omega)

theorem biasTile_at (b h : ℕ) (hh : h < 16) (r : Fin 128) (k : Fin 256) :
    biasTile (F := Ideal) b h hh (ix2 r k) = if r.val < k.val ∧ k.val ≤ r.val + 128 ∧ (b ≠ 0 → 128 ≤ k.val)
      then ((-(SwaMath.slope ⟨h, hh⟩ * L) : ℝ) : EReal) * (((r.val + 128 - k.val : ℕ) : ℝ) : EReal) else ⊥ := by
  have key : biasTile (F := Ideal) b h hh (ix2 r k) = Scalar.select (if b = 0 then IntOp.andi (IntOp.cmpi .sge (distWord r k) 0#32) (IntOp.cmpi .slt (distWord r k) 128#32)
      else IntOp.andi (IntOp.andi (IntOp.cmpi .sge (distWord r k) 0#32) (IntOp.cmpi .slt (distWord r k) 128#32)) (IntOp.cmpi .sge (BitVec.ofNat 32 k.val) 128#32))
      (Body.slope h hh * FloatOps.sitofp (F := Ideal) .f32 (distWord r k)) (⊥ : EReal) := by
    by_cases hb : b = 0
    · rw [if_pos hb]
      pointwise [biasTile, if_pos hb, k0_pay6, k0_pay5, k0_pay7, bot_val]
    · rw [if_neg hb]
      pointwise [biasTile, if_neg hb, k0_pay6, k0_pay5, k0_pay7, bot_val]
  have hw : (if b = 0 then IntOp.andi (IntOp.cmpi .sge (distWord r k) 0#32) (IntOp.cmpi .slt (distWord r k) 128#32)
      else IntOp.andi (IntOp.andi (IntOp.cmpi .sge (distWord r k) 0#32) (IntOp.cmpi .slt (distWord r k) 128#32)) (IntOp.cmpi .sge (BitVec.ofNat 32 k.val) 128#32)) = 1#1
      ↔ r.val < k.val ∧ k.val ≤ r.val + 128 ∧ (b ≠ 0 → 128 ≤ k.val) := by
    by_cases hb : b = 0
    · rw [if_pos hb, IntOp.andi_eq_one, ge_word, lt_word]; tauto
    · rw [if_neg hb, IntOp.andi_eq_one, IntOp.andi_eq_one, ge_word, lt_word, key_word]; tauto
  rw [key, slope_val]
  unfold Scalar.select
  by_cases hc : r.val < k.val ∧ k.val ≤ r.val + 128 ∧ (b ≠ 0 → 128 ≤ k.val)
  · rw [if_pos hc, ← dist_val r k hc.2.1]
    exact if_pos (hw.mpr hc)
  · rw [if_neg hc]
    exact if_neg fun h => hc (hw.mp h)

/-- The bias table's entry. -/
theorem BIAS_val (b : Fin 2) (h : Fin 16) (r : Fin 128) (k : Fin 256) :
    BIAS (F := Ideal) (ix4 b h r k) = if r.val < k.val ∧ k.val ≤ r.val + 128 ∧ (b.val ≠ 0 → 128 ≤ k.val)
      then ((-(SwaMath.slope h * L) : ℝ) : EReal) * (((r.val + 128 - k.val : ℕ) : ℝ) : EReal) else ⊥ := by
  refine (BIAS_at (ix4 b h r k) b.val h.val h.isLt (ix4 0 0 r k) rfl rfl rfl rfl).symm.trans ?_
  refine Eq.trans ?_ (biasTile_at b.val h.val h.isLt r k)
  pointwise

/-! ## The blocks' tiles at an index -/

theorem qTile_at (X : Vec Ideal S512x1024 .bf16) (n h : ℕ) (hn : n < 4) (hh : h < 16) (r : Fin 128) (d : Fin 64) :
    qTile X n h hn hh (ix2 r d) = X (ix2 ⟨128 * n + r, by omega⟩ ⟨64 * h + d, by omega⟩) :=
  View.ld_unit_apply_of X _ _ _ _ _ fun a => by
    match a with
    | ⟨0, _⟩ => rfl
    | ⟨1, _⟩ => rfl

theorem kvTile_at (X : Vec Ideal S512x256 .bf16) (n h : ℕ) (hn : n < 4) (hh : h < 4) (r : Fin 128) (d : Fin 64) :
    kvTile X n h hn hh (ix2 r d) = X (ix2 ⟨128 * n + r, by omega⟩ ⟨64 * h + d, by omega⟩) :=
  View.ld_unit_apply_of X _ _ _ _ _ fun a => by
    match a with
    | ⟨0, _⟩ => rfl
    | ⟨1, _⟩ => rfl

theorem prevTile_at (X : Vec Ideal S512x256 .bf16) (Q : Vec Ideal S128x256 .bf16) (n h : ℕ) (hn : n < 4) (hh : h < 4) (r : Fin 128) (d : Fin 64) :
    prevTile X Q h hh n hn (ix2 r d) = if n = 0 then Q (ix2 r ⟨64 * h + d, by omega⟩) else X (ix2 ⟨128 * n + r - 128, by omega⟩ ⟨64 * h + d, by omega⟩) := by
  match n, hn with
  | 0, _ =>
    rw [if_pos rfl]
    exact View.ld_unit_apply_of Q _ _ _ _ _ fun a => by
      match a with
      | ⟨0, _⟩ => exact (Nat.zero_add _).symm
      | ⟨1, _⟩ => rfl
  | n + 1, hn =>
    rw [if_neg (by omega)]
    refine (kvTile_at X n h (by omega) hh r d).trans ?_
    congr 1
    congr 1
    exact Fin.ext (by show 128 * n + r.val = 128 * (n + 1) + r.val - 128; omega)

/-- The first block's bias tile is read at the slot of the sequences' first steps, or of the others. -/
theorem first_ld (i : grid0.Coords) (T : Fin 64) (hi : (i 0).val = T.val) (X : Vec Ideal S2x16x128x256 .f32) (h : Fin 16) (r : Fin 128) (k : Fin 256)
    (off : Fin 4 → ℕ) (inb) (e : off = ![if T.val % 8 = 0 then 1 else 0, h.val, 0, 0]) :
    View.ld X (Rect.unit (s := S2x16x128x256) off S1x1x128x256.size inb) (ix4 0 0 r k) = X (ix4 (if T.val % 8 = 0 then 1 else 0) h r k) :=
  View.ld_unit_apply_of X _ _ _ _ _ fun a => by
    subst e
    match a with
    | ⟨0, _⟩ => split <;> rfl
    | ⟨1, _⟩ => rfl
    | ⟨2, _⟩ => exact (Nat.zero_add _).symm
    | ⟨3, _⟩ => exact (Nat.zero_add _).symm

theorem biasLd_at (i : grid0.Coords) (T : Fin 64) (hi : (i 0).val = T.val) (X : Vec Ideal S2x16x128x256 .f32) (n h : ℕ) (hh : h < 16) (r : Fin 128) (k : Fin 256) :
    biasLd i X n h hh (ix4 0 0 r k) = X (ix4 (if n = 0 ∧ T.val % 8 = 0 then 1 else 0) ⟨h, hh⟩ r k) := by
  match n, h, hh with
  | 0, 0, _ =>
    refine (first_ld i T hi X ⟨0, by omega⟩ r k _ (k0_off1_inb i) ?_).trans (by simp)
    unfold k0_off1; dsimp only; rw [hi, first_word]; split <;> rfl
  | 0, 1, _ =>
    refine (first_ld i T hi X ⟨1, by omega⟩ r k _ (k0_off2_inb i) ?_).trans (by simp)
    unfold k0_off2; dsimp only; rw [hi, first_word]; split <;> rfl
  | 0, 2, _ =>
    refine (first_ld i T hi X ⟨2, by omega⟩ r k _ (k0_off3_inb i) ?_).trans (by simp)
    unfold k0_off3; dsimp only; rw [hi, first_word]; split <;> rfl
  | 0, 3, _ =>
    refine (first_ld i T hi X ⟨3, by omega⟩ r k _ (k0_off4_inb i) ?_).trans (by simp)
    unfold k0_off4; dsimp only; rw [hi, first_word]; split <;> rfl
  | 0, 4, _ =>
    refine (first_ld i T hi X ⟨4, by omega⟩ r k _ (k0_off5_inb i) ?_).trans (by simp)
    unfold k0_off5; dsimp only; rw [hi, first_word]; split <;> rfl
  | 0, 5, _ =>
    refine (first_ld i T hi X ⟨5, by omega⟩ r k _ (k0_off6_inb i) ?_).trans (by simp)
    unfold k0_off6; dsimp only; rw [hi, first_word]; split <;> rfl
  | 0, 6, _ =>
    refine (first_ld i T hi X ⟨6, by omega⟩ r k _ (k0_off7_inb i) ?_).trans (by simp)
    unfold k0_off7; dsimp only; rw [hi, first_word]; split <;> rfl
  | 0, 7, _ =>
    refine (first_ld i T hi X ⟨7, by omega⟩ r k _ (k0_off8_inb i) ?_).trans (by simp)
    unfold k0_off8; dsimp only; rw [hi, first_word]; split <;> rfl
  | 0, 8, _ =>
    refine (first_ld i T hi X ⟨8, by omega⟩ r k _ (k0_off9_inb i) ?_).trans (by simp)
    unfold k0_off9; dsimp only; rw [hi, first_word]; split <;> rfl
  | 0, 9, _ =>
    refine (first_ld i T hi X ⟨9, by omega⟩ r k _ (k0_off10_inb i) ?_).trans (by simp)
    unfold k0_off10; dsimp only; rw [hi, first_word]; split <;> rfl
  | 0, 10, _ =>
    refine (first_ld i T hi X ⟨10, by omega⟩ r k _ (k0_off11_inb i) ?_).trans (by simp)
    unfold k0_off11; dsimp only; rw [hi, first_word]; split <;> rfl
  | 0, 11, _ =>
    refine (first_ld i T hi X ⟨11, by omega⟩ r k _ (k0_off12_inb i) ?_).trans (by simp)
    unfold k0_off12; dsimp only; rw [hi, first_word]; split <;> rfl
  | 0, 12, _ =>
    refine (first_ld i T hi X ⟨12, by omega⟩ r k _ (k0_off13_inb i) ?_).trans (by simp)
    unfold k0_off13; dsimp only; rw [hi, first_word]; split <;> rfl
  | 0, 13, _ =>
    refine (first_ld i T hi X ⟨13, by omega⟩ r k _ (k0_off14_inb i) ?_).trans (by simp)
    unfold k0_off14; dsimp only; rw [hi, first_word]; split <;> rfl
  | 0, 14, _ =>
    refine (first_ld i T hi X ⟨14, by omega⟩ r k _ (k0_off15_inb i) ?_).trans (by simp)
    unfold k0_off15; dsimp only; rw [hi, first_word]; split <;> rfl
  | 0, 15, _ =>
    refine (first_ld i T hi X ⟨15, by omega⟩ r k _ (k0_off16_inb i) ?_).trans (by simp)
    unfold k0_off16; dsimp only; rw [hi, first_word]; split <;> rfl
  | 0, _ + 16, hh => exact absurd hh (by omega)
  | n + 1, h, hh =>
    rw [if_neg (by omega)]
    exact View.ld_unit_apply_of X _ _ _ _ _ fun a => by
      match a with
      | ⟨0, _⟩ => rfl
      | ⟨1, _⟩ => rfl
      | ⟨2, _⟩ => exact (Nat.zero_add _).symm
      | ⟨3, _⟩ => exact (Nat.zero_add _).symm

/-! ## A tile of the output -/

/-- The blocks that grid step `T` reads hold the projection's rows and columns, and the sinks. -/
structure Holds (P : Fin 32768 → Fin 1536 → EReal) (S : Fin 16 → EReal) (T : Fin 64) (i : grid0.Coords) (x0 : Vec Ideal S16 .f32)
    (x1 : Vec Ideal S512x1024 .bf16) (x2 x3 : Vec Ideal S512x256 .bf16) (x4 x5 : Vec Ideal S128x256 .bf16) : Prop where
  t : (i 0).val = T.val
  s : ∀ h : Fin 16, x0 (ix1 h) = S h
  q : ∀ (r : Fin 512) (j : Fin 1024), x1 (ix2 r j) = P ⟨512 * T + r, by omega⟩ ⟨j, by omega⟩
  k : ∀ (r : Fin 512) (j : Fin 256), x2 (ix2 r j) = P ⟨512 * T + r, by omega⟩ ⟨1024 + j, by omega⟩
  v : ∀ (r : Fin 512) (j : Fin 256), x3 (ix2 r j) = P ⟨512 * T + r, by omega⟩ ⟨1280 + j, by omega⟩
  kp : T.val % 8 ≠ 0 → ∀ (r : Fin 128) (j : Fin 256), x4 (ix2 r j) = P ⟨512 * T + r - 128, by omega⟩ ⟨1024 + j, by omega⟩
  vp : T.val % 8 ≠ 0 → ∀ (r : Fin 128) (j : Fin 256), x5 (ix2 r j) = P ⟨512 * T + r - 128, by omega⟩ ⟨1280 + j, by omega⟩

/-- A key or value that the query row sees, read off the two tiles. -/
theorem seen {P : Fin 32768 → Fin 1536 → EReal} {T : Fin 64} {X : Vec Ideal S512x256 .bf16} {Q : Vec Ideal S128x256 .bf16} (c0 : ℕ) (hc : c0 + 256 ≤ 1536)
    (hX : ∀ (r : Fin 512) (j : Fin 256), X (ix2 r j) = P ⟨512 * T + r, by omega⟩ ⟨c0 + j, by omega⟩)
    (hQ : T.val % 8 ≠ 0 → ∀ (r : Fin 128) (j : Fin 256), Q (ix2 r j) = P ⟨512 * T + r - 128, by omega⟩ ⟨c0 + j, by omega⟩)
    (n h : ℕ) (hn : n < 4) (hh : h < 4) (r : Fin 128) (d : Fin 64) (k : Fin 256) (hv : Valid ⟨512 * T + 128 * n + r, by omega⟩ k) :
    (if h' : k.val < 128 then prevTile X Q h hh n hn (ix2 ⟨k, h'⟩ d) else kvTile X n h hn hh (ix2 ⟨k - 128, by omega⟩ d))
      = P (keyRow ⟨512 * T + 128 * n + r, by omega⟩ k) ⟨c0 + 64 * h + d, by omega⟩ := by
  obtain ⟨-, -, h3⟩ := hv
  simp only at h3
  have key : ∀ (a b : Fin 32768) (a' b' : Fin 1536), a.val = b.val → a'.val = b'.val → P a a' = P b b' := fun a b a' b' e e' => by
    rw [Fin.ext e, Fin.ext e']
  by_cases h' : k.val < 128
  · rw [dif_pos h', prevTile_at]
    by_cases h0 : n = 0
    · rw [if_pos h0, hQ (by intro hT; have := h3 (by omega); omega)]
      refine key _ _ _ _ ?_ ?_
      · unfold keyRow; simp only; omega
      · simp only; omega
    · rw [if_neg h0, hX]
      refine key _ _ _ _ ?_ ?_
      · unfold keyRow; simp only; omega
      · simp only; omega
  · rw [dif_neg h', kvTile_at, hX]
    refine key _ _ _ _ ?_ ?_
    · unfold keyRow; simp only; omega
    · simp only; omega

/-- The body's output tile is the attention of the tile's rows and head. -/
theorem tileOut_at {P : Fin 32768 → Fin 1536 → EReal} {S : Fin 16 → EReal} {T : Fin 64} {i : grid0.Coords} {x0 : Vec Ideal S16 .f32}
    {x1 : Vec Ideal S512x1024 .bf16} {x2 x3 : Vec Ideal S512x256 .bf16} {x4 x5 : Vec Ideal S128x256 .bf16}
    (H : Holds P S T i x0 x1 x2 x3 x4 x5) (F : Finite P S) (n h g : ℕ) (hn : n < 4) (hh : h < 4) (hg : g < 4) (r : Fin 128) (d : Fin 64) :
    tileOut i x0 x1 x2 x3 x4 x5 (BIAS (F := Ideal)) n h g hn hh hg (ix2 r d)
      = out P S ⟨512 * T + 128 * n + r, by omega⟩ ⟨4 * h + g, by omega⟩ d := by
  let q : (g : ℕ) → g < 4 → Vec Ideal S128x64 .bf16 := fun g hg => qTile x1 n (4 * h + g) hn (by omega)
  let sk : (g : ℕ) → g < 4 → Ideal .f32 := fun g hg => View.ld x0 (Rect.unit (s := S16) ![4 * h + g] S1.size (fun b => match b with | ⟨0, _⟩ => (by show 4 * h + g + 1 ≤ 16; omega)))
      (Shape.Idx.first (s := S1) (by decide))
  let kp := prevTile x2 x4 h hh n hn
  let kc := kvTile x2 n h hn hh
  let vp := prevTile x3 x5 h hh n hn
  let vc := kvTile x3 n h hn hh
  let sc := scores (q 0 (by omega)) (q 1 (by omega)) (q 2 (by omega)) (q 3 (by omega)) kp kc
  let l : (g : ℕ) → g < 4 → FVec Ideal S128x256 .f32 := fun g hg => logits (rowsOf sc g hg) (biasLd i BIAS n (4 * h + g) (by omega))
  let e : (g : ℕ) → g < 4 → FVec Ideal S128x256 .bf16 := fun g hg => expo (l g hg) (sk g hg)
  have hsk : sk g hg = S ⟨4 * h + g, by omega⟩ := by
    rw [← H.s]
    exact View.ld_unit_apply_of x0 _ _ _ _ _ fun a => by
      match a with
      | ⟨0, _⟩ => rfl
  show normalise (rowsOf (pvOf (e 0 (by omega)) (e 1 (by omega)) (e 2 (by omega)) (e 3 (by omega)) vp vc) g hg) (sinkExp (l g hg) (sk g hg)) (ix2 r d) = _
  rw [normalise_at, rowsOf_at, rowsOf_at, pv_at e vp vc g hg, pv_at e vp vc g hg, sinkExp_at]
  have hexp : ∀ k, e g hg (ix2 r k) = Ideal.exp2 (l g hg (ix2 r k) - top (fun k => l g hg (ix2 r k)) (L * sk g hg)) := fun k => by
    rw [← rowMax_at]; exact expo_at _ _ _ _
  rw [rowMax_at]
  have hd1 : d.val < 64 := d.isLt
  have hd2 : ¬ 128 + d.val < 64 := by omega
  simp only [hexp, hd1, hd2, ↓reduceDIte, mul_one]
  refine (kernel_soft (row_logit F ⟨512 * T + 128 * n + r, by omega⟩ ⟨4 * h + g, by omega⟩) (F.s ⟨4 * h + g, by omega⟩) _ (fun k => l g hg (ix2 r k)) (L * sk g hg) (fun k => ?_) (by rw [hsk])).trans ?_
  · show logits (rowsOf sc g hg) (biasLd i BIAS n (4 * h + g) (by omega)) (ix2 r k) = _
    rw [logits_at, rowsOf_at, show sc (ix2 ⟨128 * g + r, by omega⟩ k) = _ from scores_at q kp kc g hg r k, biasLd_at i T H.t, BIAS_val]
    have hq : ∀ d : Fin 64, q g hg (ix2 r d) = P ⟨512 * T + 128 * n + r, by omega⟩ (qCol ⟨4 * h + g, by omega⟩ d) := fun d => by
      refine (qTile_at x1 n (4 * h + g) hn (by omega) r d).trans ((H.q _ _).trans ?_)
      unfold qCol
      congr 1
      exact Fin.ext (by simp only; omega)
    simp only [hq]
    refine logit_L F _ _ k _ _ (fun hv d => ?_) ?_
    · refine (seen 1024 (by omega) H.k H.kp n h hn hh r d k hv).trans ?_
      congr 1
      unfold kCol
      exact Fin.ext (by simp only; omega)
    · have em : (512 * T.val + 128 * n + r.val) % 128 = r.val := by omega
      have eb : ((if n = 0 ∧ T.val % 8 = 0 then 1 else 0 : Fin 2).val ≠ 0) ↔ (512 * T.val + 128 * n + r.val) % 4096 < 128 := by
        split <;> simp <;> omega
      unfold Valid
      simp only [em, eb]
  · refine soft_congr (row_logit F _ _) (F.s _) _ _ fun k hk => ?_
    have hv : Valid ⟨512 * T + 128 * n + r, by omega⟩ k := by
      by_contra hv
      exact hk (by unfold logit; rw [if_neg hv])
    refine (seen 1280 (by omega) H.v H.vp n h hn hh r d k hv).trans ?_
    congr 1
    unfold vCol
    exact Fin.ext (by simp only; omega)

/-- The body's output block is the attention of the block's rows, column by column. -/
theorem OUT_val {P : Fin 32768 → Fin 1536 → EReal} {S : Fin 16 → EReal} {T : Fin 64} {i : grid0.Coords} {x0 : Vec Ideal S16 .f32}
    {x1 : Vec Ideal S512x1024 .bf16} {x2 x3 : Vec Ideal S512x256 .bf16} {x4 x5 : Vec Ideal S128x256 .bf16}
    (H : Holds P S T i x0 x1 x2 x3 x4 x5) (F : Finite P S) (r : Fin 512) (j : Fin 1024) :
    OUT i x0 x1 x2 x3 x4 x5 (BIAS (F := Ideal)) (ix2 r j) = out P S ⟨512 * T + r, by omega⟩ ⟨j / 64, by omega⟩ ⟨j % 64, by omega⟩ := by
  refine (OUT_at i x0 x1 x2 x3 x4 x5 _ (ix2 r j) (r / 128) (j / 256) (j / 64 % 4) (by omega) (by omega) (by omega) (ix2 ⟨r % 128, by omega⟩ ⟨j % 64, by omega⟩) ?_ ?_).symm.trans ?_
  · show r.val = 128 * (r.val / 128) + r.val % 128; omega
  · show j.val = 64 * (4 * (j.val / 256) + j.val / 64 % 4) + j.val % 64; omega
  rw [tileOut_at H F]
  congr 1
  · exact Fin.ext (by simp only; omega)
  · exact Fin.ext (by simp only; omega)

end Cert.SwaIdeal.Tile

end
-- ==== Proof.SwaKernel.lean ====
/- The attention kernel's result array after the run: `SwaMath.out` of the operands, read off the argument arrays; and
   the precondition read of them. -/
module

public import proofs.«01_k».proof.Proof.SwaTile
public import proofs.«01_k».proof.Proof.TailPre
public import proofs.«01_k».proof.Proof.Gen.Pre_finite_attention
public import proofs.«01_k».proof.Defs
public import Idealize.ShloMosaic.Lib.Pipeline.ValueKit
public import Idealize.ShloMosaic.Lib.Claim

@[expose] public section

set_option maxRecDepth 16384

noncomputable section

namespace Cert.SwaIdeal.Entry

open Cert.SwaIdeal Cert.SwaIdeal.Gen Cert.SwaIdeal.Body Cert.SwaMath Cert.TailMath Idealize.ShloMosaic Idealize.ShloMosaic.TcCoe Idealize.SL.Sem
open Idealize.ShloMosaic.Pipeline (Dat)

variable (m : (ℓ : Loc nD τ sig) → Buf (Elt Ideal) ℓ) (c : Dev nD)

/-- The projection's array, by row and column, -/
def P : Fin 32768 → Fin 1536 → EReal := fun R j => (m ((c : Thread nD τ).loc main_arg0) : Vec Ideal S32768x1536 .bf16) (ix2 R j)
/-- and the sinks. -/
def S : Fin 16 → EReal := fun h => (m ((c : Thread nD τ).loc main_arg1) : Vec Ideal S16 .f32) (ix1 h)

/-- Each window's block index at a point. -/
theorem idx : ∀ t : Fin grid0.N, (grid0.coords t 0).val = t.val ∧ win0_0.index t = ![0] ∧ win0_1.index t = ![t.val, 0] ∧ win0_2.index t = ![t.val, 4]
    ∧ win0_3.index t = ![t.val, 5] ∧ win0_4.index t = ![t.val * 4 - 1, 4] ∧ win0_5.index t = ![t.val * 4 - 1, 5] ∧ win0_6.index t = ![t.val, 0] := by decide +kernel

theorem lt64 (t : Fin cfg0.N) : t.val < 64 := t.isLt

theorem blk0 (t : Fin cfg0.N) (h : Fin 16) : iblk m c 0 t (ix1 h) = S m c h := by
  have e := (idx t).2.1
  unfold S
  blk_ext! [iblk, V, e]

theorem blk1 (t : Fin cfg0.N) (r : Fin 512) (j : Fin 1024) : X0_1 m c t (ix2 r j) = P m c ⟨512 * t + r, by have := lt64 t; omega⟩ ⟨j, by omega⟩ := by
  have e := (idx t).2.2.1
  have ht := lt64 t
  unfold X0_1 Pipeline.Window.fill
  rw [dif_pos (moved0_1 t (ix2 r j))]
  unfold P
  blk_ext [iblk, V, e]

theorem blk2 (t : Fin cfg0.N) (r : Fin 512) (j : Fin 256) : iblk m c 2 t (ix2 r j) = P m c ⟨512 * t + r, by have := lt64 t; omega⟩ ⟨1024 + j, by omega⟩ := by
  have e := (idx t).2.2.2.1
  have ht := lt64 t
  unfold P
  blk_ext [iblk, V, e]

theorem blk3 (t : Fin cfg0.N) (r : Fin 512) (j : Fin 256) : iblk m c 3 t (ix2 r j) = P m c ⟨512 * t + r, by have := lt64 t; omega⟩ ⟨1280 + j, by omega⟩ := by
  have e := (idx t).2.2.2.2.1
  have ht := lt64 t
  unfold P
  blk_ext [iblk, V, e]

theorem blk4 (t : Fin cfg0.N) (hT : t.val % 8 ≠ 0) (r : Fin 128) (j : Fin 256) :
    iblk m c 4 t (ix2 r j) = P m c ⟨512 * t + r - 128, by have := lt64 t; omega⟩ ⟨1024 + j, by omega⟩ := by
  have e := (idx t).2.2.2.2.2.1
  have ht := lt64 t
  unfold P
  blk_ext [iblk, V, e]

theorem blk5 (t : Fin cfg0.N) (hT : t.val % 8 ≠ 0) (r : Fin 128) (j : Fin 256) :
    iblk m c 5 t (ix2 r j) = P m c ⟨512 * t + r - 128, by have := lt64 t; omega⟩ ⟨1280 + j, by omega⟩ := by
  have e := (idx t).2.2.2.2.2.2.1
  have ht := lt64 t
  unfold P
  blk_ext [iblk, V, e]

/-- The input blocks of a point hold the operands. -/
theorem tile (t : Fin cfg0.N) : Tile.Holds (P m c) (S m c) ⟨t.val, lt64 t⟩ (grid0.coords t) (iblk m c 0 t) (X0_1 m c t) (iblk m c 2 t) (iblk m c 3 t)
    (iblk m c 4 t) (iblk m c 5 t) :=
  ⟨(idx t).1, blk0 m c t, blk1 m c t, blk2 m c t, blk3 m c t, blk4 m c t, blk5 m c t⟩

/-- The attention of all rows and columns, as an array. -/
def result : Vec Ideal S32768x1024 .bf16 := fun i =>
  out (P m c) (S m c) (i 0) ⟨(i 1).val / 64, by have h : (i 1).val < 1024 := (i 1).isLt; omega⟩ ⟨(i 1).val % 64, by omega⟩

/-- The result array after the run. -/
theorem result_eq (F : Finite (P m c) (S m c)) : (dats m 0 c).arrAt 6 cfg0.N = result m c := by
  refine (dats m 0 c).arrAt_eq_of_covers 6 _ (by decide +kernel) fun t hf y => ?_
  have e6 := (idx t).2.2.2.2.2.2.2
  blk_simp
  rw [after_6]
  idx_vars y
  unfold outAt
  refine (Tile.OUT_val (tile m c t) F y0 y1).trans ?_
  unfold result
  have key : ∀ (a b : Fin 32768) (h h' : Fin 16) (d d' : Fin 64), a.val = b.val → h.val = h'.val → d.val = d'.val →
      out (P m c) (S m c) a h d = out (P m c) (S m c) b h' d' := fun a b h h' d d' e1 e2 e3 => by
    rw [Fin.ext e1, Fin.ext e2, Fin.ext e3]
  apply key
  · blk_simp [e6]
    show 512 * t.val + y0.val = _
    simp
    omega
  · blk_simp [e6]
  · blk_simp [e6]

/-- Every execution leaves the result there and the arguments unchanged. -/
theorem run (ρ : Dev nD → PrngReg) (F : ∀ c, Finite (P m c) (S m c)) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).trans (result_eq m c (F c)), h.2.1 c⟩)
    (θ_run_and ((θ_run defs _ _).mono (fun r h c => (h c).1 6) (Body.run m ρ)) (Body.frame m ρ))

/-- The precondition: the query and key columns are real numbers and no sink is +∞. -/
theorem finite (h : Cert.Pre_SwaIdeal_finite_attention (hPre_finite_attention := Cert.Pre_finite_attention.Gen.facts) m) : Finite (P m c) (S m c) := by
  have h := congrFun (h c) (fun a => a.elim0)
  unfold Cert.Pre_finite_attention.fn at h
  dsimp only at h
  obtain ⟨h4, h5⟩ := IntOp.andi_eq_one.mp h
  have : Subsingleton Cert.Pre_finite_attention.S_.Idx := ⟨fun a b => funext fun i => i.elim0⟩
  have r4 := all_real _ _ (fun _ => rfl) _ _ _ _ h4
  have r5 := Host.reduce_andi_all _ _ _ _ _ h5
  clear h h4 h5
  refine ⟨fun R j hj => ?_, fun s hs => ?_⟩
  · have e := r4 (ix2 R ⟨j, hj⟩)
    clear r4 r5
    pointwise at e
    exact e
  · have e := r5 (ix1 s)
    clear r4 r5
    pointwise at e
    unfold S at hs
    rw [cinf] at e
    rw [hs] at e
    simp at e

end Cert.SwaIdeal.Entry

end
-- ==== Proof.SwaRef.lean ====
/- The attention's reference, read entry by entry: its result is `SwaMath.out` of the operands. -/
module

public import proofs.«01_k».proof.Proof.SwaTile
public import Idealize.ShloMosaic.Lib.Tactic.CleanTypes
public import proofs.«01_k».proof.Proof.Gen.SwaReferenceIdeal.Run

@[expose] public section

set_option maxRecDepth 16384

noncomputable section

namespace Cert.SwaReferenceIdeal.Entry

open Cert.SwaReferenceIdeal Cert.SwaReferenceIdeal.Gen Cert.SwaReferenceIdeal.Value Cert.SwaMath Cert.TailMath Idealize.ShloMosaic Idealize.ShloMosaic.TcCoe Idealize.SL.Sem

/-! ## The reference's term in stages -/

/-- The projection, as sequences of rows. -/
def proj (A : FVec Ideal S32768x1536 .bf16) : FVec Ideal S8x4096x1536 .f32 :=
  shapeCast _ (extf .f32 A bitsLt_bf16_f32) shapeCasts_S32768x1536_S8x4096x1536

/-- The keys, by sequence, block, row, key-value head and coordinate, -/
def keys (A : FVec Ideal S32768x1536 .bf16) : FVec Ideal S8x32x128x4x64 .f32 :=
  shapeCast _ (extractStridedSlice S8x4096x256 ![0, 0, 1024] (proj A) slices_S8x4096x1536_S8x4096x256_0_0_1024) shapeCasts_S8x4096x256_S8x32x128x4x64

/-- the values, -/
def vals (A : FVec Ideal S32768x1536 .bf16) : FVec Ideal S8x32x128x4x64 .f32 :=
  shapeCast _ (extractStridedSlice S8x4096x256 ![0, 0, 1280] (proj A) slices_S8x4096x1536_S8x4096x256_0_0_1280) shapeCasts_S8x4096x256_S8x32x128x4x64

/-- and the queries, whose heads are four to a key-value head. -/
def quer (A : FVec Ideal S32768x1536 .bf16) : FVec Ideal S8x32x128x4x4x64 .f32 :=
  shapeCast _ (extractStridedSlice S8x4096x1024 ![0, 0, 0] (proj A) slices_S8x4096x1536_S8x4096x1024_0_0_0) shapeCasts_S8x4096x1024_S8x32x128x4x4x64

/-- The keys that a block's rows see: the block before, zeros before the first one, and the block itself; -/
def keys2 (A : FVec Ideal S32768x1536 .bf16) : FVec Ideal S8x32x256x4x64 .f32 :=
  concatenate S8x32x256x4x64 2 [⟨S8x32x128x4x64, (pad S8x32x128x4x64 ![0, 1, 0, 0, 0] ![0, 0, 0, 0, 0] ![0, 0, 0, 0, 0] (extractStridedSlice S8x31x128x4x64 ![0, 0, 0, 0, 0] (keys A) slices_S8x32x128x4x64_S8x31x128x4x64_0_0_0_0_0) (sitofp .f32 (constantI S_ 32 0#32)) pads_S8x31x128x4x64_S8x32x128x4x64_000_100_000_000_000 h_S_)⟩, ⟨S8x32x128x4x64, (keys A)⟩] concatenates_S8x32x128x4x64_S8x32x128x4x64_S8x32x256x4x64_d2

/-- the values likewise. -/
def vals2 (A : FVec Ideal S32768x1536 .bf16) : FVec Ideal S8x32x256x4x64 .f32 :=
  concatenate S8x32x256x4x64 2 [⟨S8x32x128x4x64, (pad S8x32x128x4x64 ![0, 1, 0, 0, 0] ![0, 0, 0, 0, 0] ![0, 0, 0, 0, 0] (extractStridedSlice S8x31x128x4x64 ![0, 0, 0, 0, 0] (vals A) slices_S8x32x128x4x64_S8x31x128x4x64_0_0_0_0_0) (sitofp .f32 (constantI S_ 32 0#32)) pads_S8x31x128x4x64_S8x32x128x4x64_000_100_000_000_000 h_S_)⟩, ⟨S8x32x128x4x64, (vals A)⟩] concatenates_S8x32x128x4x64_S8x32x128x4x64_S8x32x256x4x64_d2

/-- The distance of a query row from a key. -/
def dists : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a query row sees. -/
def seenBy : IVec S32x128x256 1 :=
  andi (broadcastInDim S32x128x256 ![0, 1, 2] bcast_S1x128x256_S32x128x256_0_1_2 (broadcastInDim S1x128x256 ![1, 2] bcast_S128x256_S1x128x256_1_2 (andi (cmpi .sge dists (broadcastInDim S128x256 ![] bcast_S_S128x256 (constantI S_ 32 0#32))) (cmpi .slt dists (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))

/-- The ALiBi slopes. -/
def slopes : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

/-- The products of queries and keys. -/
def scored (A : FVec Ideal S32768x1536 .bf16) : FVec Ideal S8x4x4x32x128x256 .f32 :=
  transpose S8x4x4x32x128x256 [0, 1, 5, 2, 4, 3] (Host.dotGeneral dot_S8x32x256x4x64_S8x32x128x4x4x64_S8x4x32x256x128x4_4_5_2_24_031_031 none (keys2 A) (quer A)) transposes_S8x4x32x256x128x4_S8x4x4x32x128x256_0_1_5_2_4_3

/-- The logits. -/
def biased (A : FVec Ideal S32768x1536 .bf16) : FVec Ideal S8x4x4x32x128x256 .f32 :=
  select (broadcastInDim S8x4x4x32x128x256 ![3, 4, 5] bcast_S32x128x256_S8x4x4x32x128x256_3_4_5 seenBy) (subf (mulf (scored A) (broadcastInDim S8x4x4x32x128x256 ![] bcast_S_S8x4x4x32x128x256 (constant S_ .f32 0x3E000000#32))) (broadcastInDim S8x4x4x32x128x256 ![0, 1, 2, 3, 4, 5] bcast_S1x4x4x1x128x256_S8x4x4x32x128x256_0_1_2_3_4_5 (mulf (broadcastInDim S1x4x4x1x128x256 ![0, 1, 2, 3, 4, 5] bcast_S1x4x4x1x1x1_S1x4x4x1x128x256_0_1_2_3_4_5 (broadcastInDim S1x4x4x1x1x1 ![1, 2] bcast_S4x4_S1x4x4x1x1x1_1_2 (shapeCast _ slopes shapeCasts_S16_S4x4))) (broadcastInDim S1x4x4x1x128x256 ![0, 1, 2, 3, 4, 5] bcast_S1x1x1x1x128x256_S1x4x4x1x128x256_0_1_2_3_4_5 (broadcastInDim S1x1x1x1x128x256 ![4, 5] bcast_S128x256_S1x1x1x1x128x256_4_5 (sitofp .f32 dists)))))) (broadcastInDim S8x4x4x32x128x256 ![] bcast_S_S8x4x4x32x128x256 (id (constant S_ .f32 0xFF800000#32)))

/-- The greatest of a row's logits. -/
def maxes (A : FVec Ideal S32768x1536 .bf16) : FVec Ideal S8x4x4x32x128 .f32 :=
  Host.reduce (FloatOps.maximumf (F := Ideal)) (biased A) (constant S_ .f32 0xFF800000#32) reducesTo_S8x4x4x32x128x256_S8x4x4x32x128_d5 h_S_

/-- The greatest of a row's logits and the sink. -/
def tops (A : FVec Ideal S32768x1536 .bf16) (B : FVec Ideal S16 .f32) : FVec Ideal S8x4x4x32x128x1 .f32 :=
  maximumf (broadcastInDim S8x4x4x32x128x1 ![0, 1, 2, 3, 4] bcast_S8x4x4x32x128_S8x4x4x32x128x1_0_1_2_3_4 (maxes A)) (broadcastInDim S8x4x4x32x128x1 ![0, 1, 2, 3, 4, 5] bcast_S1x4x4x1x1x1_S8x4x4x32x128x1_0_1_2_3_4_5 (shapeCast _ B shapeCasts_S16_S1x4x4x1x1x1))

/-- The weights, unnormalised. -/
def expos (A : FVec Ideal S32768x1536 .bf16) (B : FVec Ideal S16 .f32) : FVec Ideal S8x4x4x32x128x256 .f32 :=
  Host.exp (subf (biased A) (broadcastInDim S8x4x4x32x128x256 ![0, 1, 2, 3, 4, 5] bcast_S8x4x4x32x128x1_S8x4x4x32x128x256_0_1_2_3_4_5 (tops A B)))

/-- The sum of a row's weights. -/
def sums (A : FVec Ideal S32768x1536 .bf16) (B : FVec Ideal S16 .f32) : FVec Ideal S8x4x4x32x128 .f32 :=
  Host.reduceAdd (expos A B) (constant S_ .f32 0x00000000#32) reducesTo_S8x4x4x32x128x256_S8x4x4x32x128_d5 h_S_

/-- The normaliser. -/
def dens (A : FVec Ideal S32768x1536 .bf16) (B : FVec Ideal S16 .f32) : FVec Ideal S8x4x4x32x128x1 .f32 :=
  addf (broadcastInDim S8x4x4x32x128x1 ![0, 1, 2, 3, 4] bcast_S8x4x4x32x128_S8x4x4x32x128x1_0_1_2_3_4 (sums A B)) (Host.exp (subf (broadcastInDim S8x4x4x32x128x1 ![0, 1, 2, 3, 4, 5] bcast_S1x4x4x1x1x1_S8x4x4x32x128x1_0_1_2_3_4_5 (shapeCast _ B shapeCasts_S16_S1x4x4x1x1x1)) (tops A B)))

/-- The weights. -/
def probs (A : FVec Ideal S32768x1536 .bf16) (B : FVec Ideal S16 .f32) : FVec Ideal S8x4x4x32x128x256 .f32 :=
  Host.divf (expos A B) (broadcastInDim S8x4x4x32x128x256 ![0, 1, 2, 3, 4, 5] bcast_S8x4x4x32x128x1_S8x4x4x32x128x256_0_1_2_3_4_5 (dens A B))

/-- The values weighted. -/
def mixed (A : FVec Ideal S32768x1536 .bf16) (B : FVec Ideal S16 .f32) : FVec Ideal S8x32x128x4x4x64 .f32 :=
  transpose S8x32x128x4x4x64 [0, 1, 5, 2, 4, 3] (Host.dotGeneral dot_S8x32x256x4x64_S8x4x4x32x128x256_S8x32x4x64x4x128_2_5_4_24_013_031 none (vals2 A) (probs A B)) transposes_S8x32x4x64x4x128_S8x32x128x4x4x64_0_1_5_2_4_3

/-- The result. -/
def res (A : FVec Ideal S32768x1536 .bf16) (B : FVec Ideal S16 .f32) : FVec Ideal S32768x1024 .bf16 :=
  truncf .bf16 (shapeCast _ (mixed A B) shapeCasts_S8x32x128x4x4x64_S32768x1024) bitsLt_bf16_f32

/-- The reference's result, as the generated run states it, is the last stage. -/
theorem res_eq (m : (ℓ : Loc nD τ sig) → Buf (Elt Ideal) ℓ) (c : Dev nD) :
    res_main_v86 m c = res (m ((c.tc : Thread nD τ).loc main_arg0)) (m ((c.tc : Thread nD τ).loc main_arg1)) := rfl

/-! ## A reduction over the last of six axes -/

section Last
variable {n0 n1 n2 n3 n4 n5 : ℕ}

/-- The indices that a reduction over the last axis sends to one place are those along that axis. -/
theorem last_fiber (h : (⟨6, ![n0, n1, n2, n3, n4, n5]⟩ : Shape).ReducesTo [5] ⟨5, ![n0, n1, n2, n3, n4]⟩) (a : Fin n0) (b : Fin n1) (c : Fin n2) (d : Fin n3)
    (e : Fin n4) (i : (⟨6, ![n0, n1, n2, n3, n4, n5]⟩ : Shape).Idx) : h.drop i = ix5 a b c d e ↔ ∃ k : Fin n5, ix6 a b c d e k = i := by
  constructor
  · intro hi
    refine ⟨i 5, ?_⟩
    funext x; apply Fin.ext
    match x with
    | ⟨0, _⟩ => exact (congrArg Fin.val (congrFun hi 0)).symm
    | ⟨1, _⟩ => exact (congrArg Fin.val (congrFun hi 1)).symm
    | ⟨2, _⟩ => exact (congrArg Fin.val (congrFun hi 2)).symm
    | ⟨3, _⟩ => exact (congrArg Fin.val (congrFun hi 3)).symm
    | ⟨4, _⟩ => exact (congrArg Fin.val (congrFun hi 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- The maximum over the last axis, -/
theorem last_max {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel) (a : Fin n0) (b : Fin n1) (c : Fin n2) (d : Fin n3) (e : Fin n4) :
    Host.reduce (FloatOps.maximumf (F := Ideal)) x init h hu (ix5 a b c d e)
      = (Finset.univ : Finset (Fin n5)).fold (max : EReal → EReal → EReal) (init (Shape.Idx.first hu)) fun k => x (ix6 a b c d e k) :=
  (Host.reduce_eq_fold _ x init h hu _).trans
    (Finset.fold_filter_eq_fold_of_fiber _ _ (fun k : Fin n5 => ix6 a b c d e k) (fun _ _ q => congrFun q 5) (last_fiber h a b c d e) _ x)

/-- and the sum. -/
theorem last_sum {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel) (a : Fin n0) (b : Fin n1) (c : Fin n2) (d : Fin n3) (e : Fin n4) :
    Host.reduceAdd x init h hu (ix5 a b c d e) = (init (Shape.Idx.first hu) + ∑ k : Fin n5, x (ix6 a b c d e k) : EReal) :=
  congrArg (fun z : EReal => (init (Shape.Idx.first hu) + z : EReal))
    (Finset.sum_filter_eq_sum_of_fiber _ (fun k : Fin n5 => ix6 a b c d e k) (fun _ _ q => congrFun q 5) (last_fiber h a b c d e) x)

/-- The maximum, with the entries and the initial value given, -/
theorem last_max_of {u : Shape} {x : FVec Ideal ⟨6, ![n0, n1, n2, n3, n4, n5]⟩ .f32} {init : FVec Ideal u .f32}
    {h : (⟨6, ![n0, n1, n2, n3, n4, n5]⟩ : Shape).ReducesTo [5] ⟨5, ![n0, n1, n2, n3, n4]⟩} {hu : 0 < u.numel} {a : Fin n0} {b : Fin n1} {c : Fin n2} {d : Fin n3} {e : Fin n4}
    {f : Fin n5 → EReal} {z : EReal} (hx : ∀ k, x (ix6 a b c d e k) = f k) (hz : init (Shape.Idx.first hu) = z) :
    Host.reduce (FloatOps.maximumf (F := Ideal)) x init h hu (ix5 a b c d e) = (Finset.univ : Finset (Fin n5)).fold (max : EReal → EReal → EReal) z f := by
  rw [last_max, hz, funext hx]

/-- and the sum. -/
theorem last_sum_of {u : Shape} {x : FVec Ideal ⟨6, ![n0, n1, n2, n3, n4, n5]⟩ .f32} {init : FVec Ideal u .f32}
    {h : (⟨6, ![n0, n1, n2, n3, n4, n5]⟩ : Shape).ReducesTo [5] ⟨5, ![n0, n1, n2, n3, n4]⟩} {hu : 0 < u.numel} {a : Fin n0} {b : Fin n1} {c : Fin n2} {d : Fin n3} {e : Fin n4}
    {f : Fin n5 → EReal} (hx : ∀ k, x (ix6 a b c d e k) = f k) (hz : init (Shape.Idx.first hu) = (0 : EReal)) :
    Host.reduceAdd x init h hu (ix5 a b c d e) = ∑ k : Fin n5, f k := by
  rw [last_sum, hz, zero_add]
  exact Finset.sum_congr rfl fun k _ => hx k

end Last

/-! ## The stages at an index -/

variable (A : FVec Ideal S32768x1536 .bf16) (B : FVec Ideal S16 .f32)

/-- The projection's array, by row and column, -/
def P : Fin 32768 → Fin 1536 → EReal := fun R j => A (ix2 R j)
/-- and the sinks. -/
def S : Fin 16 → EReal := fun h => B (ix1 h)

/-- Row `q` of block `n` of sequence `b`, among all rows. -/
def row (b : Fin 8) (n : Fin 32) (q : Fin 128) : Fin 32768 := ⟨b * 4096 + n * 128 + q, by omega⟩

/-- Head `g` of the four that read the keys and values `h`. -/
def head (h g : Fin 4) : Fin 16 := ⟨h * 4 + g, by omega⟩

theorem keys_at (b : Fin 8) (n : Fin 32) (r : Fin 128) (h : Fin 4) (d : Fin 64) : keys A (ix5 b n r h d) = P A (row b n r) ⟨1024 + 64 * h + d, by omega⟩ := by
  unfold keys proj P row
  pointwise
  congr 2 <;> apply Fin.ext <;> simp only <;> omega

theorem vals_at (b : Fin 8) (n : Fin 32) (r : Fin 128) (h : Fin 4) (d : Fin 64) : vals A (ix5 b n r h d) = P A (row b n r) ⟨1280 + 64 * h + d, by omega⟩ := by
  unfold vals proj P row
  pointwise
  congr 2 <;> apply Fin.ext <;> simp only <;> omega

theorem quer_at (b : Fin 8) (n : Fin 32) (r : Fin 128) (h g : Fin 4) (d : Fin 64) : quer A (ix6 b n r h g d) = P A (row b n r) (SwaMath.qCol (head h g) d) := by
  unfold quer proj P row SwaMath.qCol head
  pointwise
  congr 2 <;> apply Fin.ext <;> simp only <;> omega

/-- Where a key is seen its block and the one before hold its row. -/
theorem keys2_at (b : Fin 8) (n : Fin 32) (q : Fin 128) (k : Fin 256) (h g : Fin 4) (d : Fin 64) (hv : SwaMath.Valid (row b n q) k) :
    keys2 A (ix5 b n k h d) = P A (SwaMath.keyRow (row b n q) k) (SwaMath.kCol (head h g) d) := by
  have hv' : (row b n q).val % 4096 < 128 → 128 ≤ k.val := hv.2.2
  have hr : (row b n q).val = b * 4096 + n * 128 + q := rfl
  have hg : (head h g).val = h * 4 + g := rfl
  unfold keys2
  pointwise
  split_ifs with h1 h2
  · rw [keys_at]
    congr 1 <;> apply Fin.ext <;> simp only [row, SwaMath.keyRow, SwaMath.kCol, head] <;> omega
  · exfalso; apply h2; omega
  · rw [keys_at]
    congr 1 <;> apply Fin.ext <;> simp only [row, SwaMath.keyRow, SwaMath.kCol, head] <;> omega
  · exact absurd rfl ‹_›

theorem vals2_at (b : Fin 8) (n : Fin 32) (q : Fin 128) (k : Fin 256) (h g : Fin 4) (d : Fin 64) (hv : SwaMath.Valid (row b n q) k) :
    vals2 A (ix5 b n k h d) = P A (SwaMath.keyRow (row b n q) k) (SwaMath.vCol (head h g) d) := by
  have hv' : (row b n q).val % 4096 < 128 → 128 ≤ k.val := hv.2.2
  have hr : (row b n q).val = b * 4096 + n * 128 + q := rfl
  have hg : (head h g).val = h * 4 + g := rfl
  unfold vals2
  pointwise
  split_ifs with h1 h2
  · rw [vals_at]
    congr 1 <;> apply Fin.ext <;> simp only [row, SwaMath.keyRow, SwaMath.vCol, head] <;> omega
  · exfalso; apply h2; omega
  · rw [vals_at]
    congr 1 <;> apply Fin.ext <;> simp only [row, SwaMath.keyRow, SwaMath.vCol, head] <;> omega
  · exact absurd rfl ‹_›

theorem dists_at (q : Fin 128) (k : Fin 256) : dists (ix2 q k) = SwaIdeal.Tile.distWord q k := by
  unfold dists SwaIdeal.Tile.distWord
  pointwise

theorem seq_word : ∀ (n : Fin 32) (k : Fin 256), (IntOp.cmpi .sge (IntOp.addi (IntOp.subi (IntOp.muli (BitVec.ofNat 32 n.val) 128#32) 128#32) (BitVec.ofNat 32 k.val)) 0#32) = 1#1
    ↔ (n.val = 0 → 128 ≤ k.val) := by
  decide +kernel

/-- The mask's word says that the key is seen. -/
theorem seen_at (b : Fin 8) (n : Fin 32) (q : Fin 128) (k : Fin 256) : seenBy (ix3 n q k) = 1#1 ↔ SwaMath.Valid (row b n q) k := by
  have e : seenBy (ix3 n q k) = IntOp.andi (IntOp.andi (IntOp.cmpi .sge (SwaIdeal.Tile.distWord q k) 0#32) (IntOp.cmpi .slt (SwaIdeal.Tile.distWord q k) 128#32))
      (IntOp.cmpi .sge (IntOp.addi (IntOp.subi (IntOp.muli (BitVec.ofNat 32 n.val) 128#32) 128#32) (BitVec.ofNat 32 k.val)) 0#32) := by
    rw [← dists_at]
    unfold seenBy
    pointwise
  have hr : (row b n q).val = b * 4096 + n * 128 + q := rfl
  rw [e, IntOp.andi_eq_one, IntOp.andi_eq_one, SwaIdeal.Tile.ge_word, SwaIdeal.Tile.lt_word, seq_word]
  unfold SwaMath.Valid
  rw [hr]
  constructor
  · rintro ⟨⟨a, b⟩, c⟩; refine ⟨by omega, by omega, fun h => c (by omega)⟩
  · rintro ⟨a, b, c⟩; refine ⟨⟨by omega, by omega⟩, fun h => c (by omega)⟩

theorem two_val : Ideal.ofBits .f32 0x40000000#32 = ((2 : ℝ) : EReal) := by
  simp [Ideal.ofBits, Ideal.ieee]; norm_cast; norm_num
theorem neg8_val : Ideal.ofBits .f32 0xC1000000#32 = ((-8 : ℝ) : EReal) := by
  simp [Ideal.ofBits, Ideal.ieee]; norm_cast; norm_num
theorem sixteen_val : Ideal.ofBits .f32 0x41800000#32 = ((16 : ℝ) : EReal) := by
  simp [Ideal.ofBits, Ideal.ieee]; norm_cast; norm_num
theorem eighth_val : Ideal.ofBits .f32 0x3E000000#32 = ((1 / 8 : ℝ) : EReal) := by
  simp [Ideal.ofBits, Ideal.ieee]; norm_cast; norm_num

theorem slopes_at (h : Fin 16) : slopes (ix1 h) = ((SwaMath.slope h : ℝ) : EReal) := by
  unfold slopes
  pointwise
  have hi : (BitVec.ofNat 32 h.val).toInt = (h.val : ℤ) := by revert h; decide +kernel
  have hs : (FloatOps.sitofp (F := Ideal) .f32 (BitVec.ofNat 32 h.val) : Ideal .f32) = (((h.val : ℝ)) : EReal) := by
    show ((((BitVec.ofNat 32 h.val).toInt : ℝ)) : EReal) = _
    rw [hi]; rfl
  rw [hs, two_val, neg8_val, sixteen_val, ← EReal.coe_one, ← EReal.coe_add, ← EReal.coe_mul, SwaMath.div_coe _ (by norm_num : (0 : ℝ) < 16), ← EReal.coe_mul]
  rw [← div_eq_mul_inv]
  rfl

theorem biased_at (b : Fin 8) (n : Fin 32) (q : Fin 128) (h g : Fin 4) (k : Fin 256) :
    biased A (ix6 b h g n q k) = SwaMath.logit (P A) (row b n q) (head h g) k := by
  have e : biased A (ix6 b h g n q k) = Scalar.select (seenBy (ix3 n q k)) (((∑ x, keys2 A (ix5 b n k h x) * quer A (ix6 b n q h g x)) * Ideal.ofBits .f32 0x3E000000#32
      - slopes (ix1 (head h g)) * FloatOps.sitofp (F := Ideal) .f32 (dists (ix2 q k)) : EReal)) (Ideal.ofBits .f32 0xFF800000#32) := by
    unfold biased scored
    pointwise
    rfl
  rw [e, slopes_at, eighth_val, SwaIdeal.Tile.bot_val, dists_at]
  unfold SwaMath.logit Scalar.select
  by_cases hv : SwaMath.Valid (row b n q) k
  · rw [if_pos hv]
    refine (if_pos ((seen_at b n q k).mpr hv)).trans ?_
    have hq : (row b n q).val % 128 = q.val := by show (b.val * 4096 + n.val * 128 + q.val) % 128 = _; omega
    have hk : k.val ≤ q.val + 128 := hq ▸ hv.2.1
    rw [SwaIdeal.Tile.dist_val q k hk, hq]
    simp only [keys2_at A b n q k h g _ hv, quer_at]
  · rw [if_neg hv]
    exact if_neg fun w => hv ((seen_at b n q k).mp w)

end Cert.SwaReferenceIdeal.Entry

end
-- ==== Proof.SwaRefOut.lean ====
/- The attention's reference, read entry by entry: its weights and its result. -/
module

public import proofs.«01_k».proof.Proof.SwaRef

@[expose] public section

set_option maxRecDepth 16384

noncomputable section

namespace Cert.SwaReferenceIdeal.Entry

open Cert.SwaReferenceIdeal Cert.SwaReferenceIdeal.Gen Cert.SwaReferenceIdeal.Value Cert.SwaMath Cert.TailMath Idealize.ShloMosaic Idealize.ShloMosaic.TcCoe Idealize.SL.Sem

variable (A : FVec Ideal S32768x1536 .bf16) (B : FVec Ideal S16 .f32)

/-! ## The shapes' changes around the reductions, for any arrays -/

theorem tops_read (M : FVec Ideal S8x4x4x32x128 .f32) (b : Fin 8) (n : Fin 32) (q : Fin 128) (h g : Fin 4) :
    (maximumf (broadcastInDim S8x4x4x32x128x1 ![0, 1, 2, 3, 4] bcast_S8x4x4x32x128_S8x4x4x32x128x1_0_1_2_3_4 M) (broadcastInDim S8x4x4x32x128x1 ![0, 1, 2, 3, 4, 5] bcast_S1x4x4x1x1x1_S8x4x4x32x128x1_0_1_2_3_4_5 (shapeCast _ B shapeCasts_S16_S1x4x4x1x1x1)) (ix6 b h g n q 0) : EReal) = max (M (ix5 b h g n q)) (B (ix1 (head h g))) := by
  unfold head
  pointwise

theorem expos_read (M : FVec Ideal S8x4x4x32x128x256 .f32) (T : FVec Ideal S8x4x4x32x128x1 .f32) (b : Fin 8) (n : Fin 32) (q : Fin 128) (h g : Fin 4) (k : Fin 256) :
    (Host.exp (subf M (broadcastInDim S8x4x4x32x128x256 ![0, 1, 2, 3, 4, 5] bcast_S8x4x4x32x128x1_S8x4x4x32x128x256_0_1_2_3_4_5 T)) (ix6 b h g n q k) : EReal) = Ideal.exp (M (ix6 b h g n q k) - T (ix6 b h g n q 0) : EReal) := by
  pointwise

theorem dens_read (M : FVec Ideal S8x4x4x32x128 .f32) (T : FVec Ideal S8x4x4x32x128x1 .f32) (b : Fin 8) (n : Fin 32) (q : Fin 128) (h g : Fin 4) :
    (addf (broadcastInDim S8x4x4x32x128x1 ![0, 1, 2, 3, 4] bcast_S8x4x4x32x128_S8x4x4x32x128x1_0_1_2_3_4 M) (Host.exp (subf (broadcastInDim S8x4x4x32x128x1 ![0, 1, 2, 3, 4, 5] bcast_S1x4x4x1x1x1_S8x4x4x32x128x1_0_1_2_3_4_5 (shapeCast _ B shapeCasts_S16_S1x4x4x1x1x1)) T)) (ix6 b h g n q 0) : EReal)
      = M (ix5 b h g n q) + Ideal.exp (B (ix1 (head h g)) - T (ix6 b h g n q 0) : EReal) := by
  unfold head
  pointwise

theorem probs_read (M : FVec Ideal S8x4x4x32x128x256 .f32) (T : FVec Ideal S8x4x4x32x128x1 .f32) (b : Fin 8) (n : Fin 32) (q : Fin 128) (h g : Fin 4) (k : Fin 256) :
    (Host.divf M (broadcastInDim S8x4x4x32x128x256 ![0, 1, 2, 3, 4, 5] bcast_S8x4x4x32x128x1_S8x4x4x32x128x256_0_1_2_3_4_5 T) (ix6 b h g n q k) : EReal) = Ideal.div (M (ix6 b h g n q k)) (T (ix6 b h g n q 0)) := by
  pointwise

theorem res_read (M : FVec Ideal S8x4x4x32x128x256 .f32) (V : FVec Ideal S8x32x256x4x64 .f32) (b : Fin 8) (n : Fin 32) (q : Fin 128) (h g : Fin 4) (d : Fin 64) :
    (truncf .bf16 (shapeCast S32768x1024 (transpose S8x32x128x4x4x64 [0, 1, 5, 2, 4, 3] (Host.dotGeneral dot_S8x32x256x4x64_S8x4x4x32x128x256_S8x32x4x64x4x128_2_5_4_24_013_031 none V M) transposes_S8x32x4x64x4x128_S8x32x128x4x4x64_0_1_5_2_4_3) shapeCasts_S8x32x128x4x4x64_S32768x1024) bitsLt_bf16_f32
      (ix2 (row b n q) ⟨h * 256 + g * 64 + d, by omega⟩) : EReal) = ∑ k, V (ix5 b n k h d) * M (ix6 b h g n q k) := by
  unfold row
  pointwise

/-! ## The stages -/

theorem maxes_at (b : Fin 8) (n : Fin 32) (q : Fin 128) (h g : Fin 4) :
    maxes A (ix5 b h g n q) = (Finset.univ : Finset (Fin 256)).fold (max : EReal → EReal → EReal) (⊥ : EReal) (SwaMath.logit (P A) (row b n q) (head h g)) := by
  unfold maxes
  exact last_max_of (biased_at A b n q h g) SwaIdeal.Tile.bot_val

theorem tops_at (b : Fin 8) (n : Fin 32) (q : Fin 128) (h g : Fin 4) :
    tops A B (ix6 b h g n q 0) = SwaMath.top (SwaMath.logit (P A) (row b n q) (head h g)) (S B (head h g)) := by
  have e : tops A B (ix6 b h g n q 0) = (max (maxes A (ix5 b h g n q)) (B (ix1 (head h g))) : EReal) := tops_read B (maxes A) b n q h g
  rw [e, maxes_at]
  rfl

theorem expos_at (b : Fin 8) (n : Fin 32) (q : Fin 128) (h g : Fin 4) (k : Fin 256) :
    expos A B (ix6 b h g n q k) = Ideal.exp (SwaMath.logit (P A) (row b n q) (head h g) k - SwaMath.top (SwaMath.logit (P A) (row b n q) (head h g)) (S B (head h g))) := by
  have e : expos A B (ix6 b h g n q k) = Ideal.exp (biased A (ix6 b h g n q k) - tops A B (ix6 b h g n q 0) : EReal) := expos_read (biased A) (tops A B) b n q h g k
  rw [e, tops_at, biased_at]

theorem sums_at (b : Fin 8) (n : Fin 32) (q : Fin 128) (h g : Fin 4) :
    sums A B (ix5 b h g n q) = ∑ k, Ideal.exp (SwaMath.logit (P A) (row b n q) (head h g) k - SwaMath.top (SwaMath.logit (P A) (row b n q) (head h g)) (S B (head h g))) := by
  unfold sums
  exact last_sum_of (expos_at A B b n q h g) (Ideal.ofBits_zero .f32)

theorem dens_at (b : Fin 8) (n : Fin 32) (q : Fin 128) (h g : Fin 4) :
    dens A B (ix6 b h g n q 0) = SwaMath.den (SwaMath.logit (P A) (row b n q) (head h g)) (S B (head h g)) := by
  have e : dens A B (ix6 b h g n q 0) = (sums A B (ix5 b h g n q) + Ideal.exp (B (ix1 (head h g)) - tops A B (ix6 b h g n q 0) : EReal) : EReal) := dens_read B (sums A B) (tops A B) b n q h g
  rw [e, sums_at, tops_at]
  rfl

theorem probs_at (b : Fin 8) (n : Fin 32) (q : Fin 128) (h g : Fin 4) (k : Fin 256) :
    probs A B (ix6 b h g n q k) = Ideal.div (Ideal.exp (SwaMath.logit (P A) (row b n q) (head h g) k
      - SwaMath.top (SwaMath.logit (P A) (row b n q) (head h g)) (S B (head h g)))) (SwaMath.den (SwaMath.logit (P A) (row b n q) (head h g)) (S B (head h g))) := by
  have e : probs A B (ix6 b h g n q k) = Ideal.div (expos A B (ix6 b h g n q k)) (dens A B (ix6 b h g n q 0)) := probs_read (expos A B) (dens A B) b n q h g k
  rw [e, expos_at, dens_at]

theorem logit_valid {R : Fin 32768} {h : Fin 16} {k : Fin 256} (hk : SwaMath.logit (P A) R h k ≠ ⊥) : SwaMath.Valid R k := by
  by_contra hv
  exact hk (if_neg hv)

variable {A B}

/-- The reference's result is the attention of every row and head. -/
theorem res_at (F : SwaMath.Finite (P A) (S B)) (R : Fin 32768) (j : Fin 1024) :
    res A B (ix2 R j) = SwaMath.out (P A) (S B) R ⟨j.val / 64, by omega⟩ ⟨j.val % 64, by omega⟩ := by
  obtain ⟨b, n, q, hR⟩ : ∃ (b : Fin 8) (n : Fin 32) (q : Fin 128), R = row b n q :=
    ⟨⟨R.val / 4096, by omega⟩, ⟨R.val / 128 % 32, by omega⟩, ⟨R.val % 128, by omega⟩, by apply Fin.ext; simp only [row]; omega⟩
  obtain ⟨h, g, d, hj⟩ : ∃ (h g : Fin 4) (d : Fin 64), j = ⟨h * 256 + g * 64 + d, by omega⟩ :=
    ⟨⟨j.val / 256, by omega⟩, ⟨j.val / 64 % 4, by omega⟩, ⟨j.val % 64, by omega⟩, by apply Fin.ext; simp only; omega⟩
  have e : res A B (ix2 R j) = ∑ k, vals2 A (ix5 b n k h d) * probs A B (ix6 b h g n q k) := by
    subst hR hj
    exact res_read (probs A B) (vals2 A) b n q h g d
  have hh : (⟨j.val / 64, by omega⟩ : Fin 16) = head h g := by subst hj; apply Fin.ext; simp only [head]; omega
  have hd : (⟨j.val % 64, by omega⟩ : Fin 64) = d := by subst hj; apply Fin.ext; simp only; omega
  rw [e, hh, hd, hR]
  unfold SwaMath.out
  simp only [probs_at]
  exact SwaMath.soft_congr (SwaMath.row_logit F _ _) (F.s _) (fun k => vals2 A (ix5 b n k h d)) _ fun k hk => vals2_at A b n q k h g d (logit_valid A hk)

end Cert.SwaReferenceIdeal.Entry

end
-- ==== Proof.SwaClaims.lean ====
/- The attention's claims: its named constants, the reference's frame, and that kernel and reference compute the same array. -/
module

public import proofs.«01_k».proof.Proof.SwaKernel
public import proofs.«01_k».proof.Proof.SwaRefOut

@[expose] public section

set_option maxRecDepth 16384

noncomputable section

namespace Cert.SwaClaims

open Cert.SwaMath Idealize.ShloMosaic Idealize.ShloMosaic.TcCoe Idealize.ShloMosaic.StableHlo Idealize.SL.Sem

attribute [local instance] Cert.SwaIdeal.Gen.facts Cert.SwaReferenceIdeal.Gen.facts Cert.Pre_finite_attention.Gen.facts

/-- Each named constant is its term in the ideal program and its word in the program. -/
theorem preserves : Cert.preserves_Swa_SwaIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

/-- The reference computes as stated and its semaphores end at zero. -/
theorem frame_reference : Cert.quiescent_SwaReferenceIdeal (hSwaReferenceIdeal := Cert.SwaReferenceIdeal.Gen.facts) := fun m ρ _ =>
  (θ_run Cert.SwaReferenceIdeal.defs _ _).mono
    (fun r h => ⟨fun c => (h c).2, Idealize.ShloMosaic.sem_eq_zero_of_no_sems (by decide) r.2⟩)
    (Cert.SwaReferenceIdeal.Value.run (F := Ideal) m ρ)

/-- Kernel and reference leave the same array: `SwaMath.out` of the operands. -/
theorem algebraic : Cert.algebraic_SwaIdeal_SwaReferenceIdeal_pre_finite_attention (hSwaIdeal := Cert.SwaIdeal.Gen.facts)
    (hSwaReferenceIdeal := Cert.SwaReferenceIdeal.Gen.facts) (hPre_finite_attention := Cert.Pre_finite_attention.Gen.facts) := by
  intro m ρ m' ρ' hpre hagree
  have F := fun c => Cert.SwaIdeal.Entry.finite m c hpre
  refine ⟨fun c => Cert.SwaIdeal.Entry.result m c, Cert.SwaIdeal.Entry.run m ρ F,
    (θ_run Cert.SwaReferenceIdeal.defs _ _).mono (fun _ h c => ⟨(h c).1.trans ?_, (h c).2⟩) (Cert.SwaReferenceIdeal.Value.run (F := Ideal) m' ρ')⟩
  obtain ⟨h0, h1⟩ := hagree c
  refine (Cert.SwaReferenceIdeal.Entry.res_eq m' c).trans ?_
  rw [h0, h1]
  funext i
  idx_vars i
  exact Cert.SwaReferenceIdeal.Entry.res_at (F c) i0 i1

end Cert.SwaClaims

end
-- ==== Proof.ProjectKernel.lean ====
/- The projection kernel's result array after the run: each row's RMS norm times the weights, read off the argument
   arrays. -/
module

public import proofs.«01_k».proof.Proof.TailMath
public import proofs.«01_k».proof.Proof.Gen.ProjectIdeal.Value
public import Idealize.ShloMosaic.Lib.Pipeline.ValueKit
public import Idealize.ShloMosaic.Lib.Claim

@[expose] public section

set_option maxRecDepth 16384

noncomputable section

namespace Cert.ProjectMath

open Cert.TailMath Idealize.ShloMosaic

/-- The operands, by row and column. -/
structure In where
  h : Fin 32768 → Fin 1024 → EReal
  g : Fin 1024 → EReal
  w : Fin 1024 → Fin 1536 → EReal

/-- The projection of a row's norm. -/
def proj (a : In) (R : Fin 32768) (n : Fin 1536) : EReal := ∑ k : Fin 1024, rms (a.h R) a.g k * a.w k n

end Cert.ProjectMath

namespace Cert.ProjectIdeal.Entry

open Cert.ProjectIdeal Cert.ProjectIdeal.Gen Cert.TailMath Cert.ProjectMath Idealize.ShloMosaic Idealize.ShloMosaic.TcCoe Idealize.SL.Sem
open Idealize.ShloMosaic.Pipeline (Dat)

/-! ## The body's vectors at an index -/

theorem pay1_at (v0 : Vec Ideal S512x1024 .f32) (v1 : Vec Ideal S1x1024 .f32) (r : Fin 512) (k : Fin 1024) :
    k0_pay1 v0 v1 (ix2 r k) = rms (fun k => v0 (ix2 r k)) (fun k => v1 (ix2 0 k)) k := by
  unfold rms
  pointwise [k0_pay1]

theorem pay2_at (v0 : Vec Ideal S512x1024 .f32) (v1 : Vec Ideal S1x1024 .f32) (v16 : Vec Ideal S1x1024x512 .bf16) (r : Fin 512) (n : Fin 512) :
    k0_pay2 v0 v1 v16 (ix2 r n) = ∑ k : Fin 1024, rms (fun k => v0 (ix2 r k)) (fun k => v1 (ix2 0 k)) k * v16 (ix3 0 k n) := by
  pointwise [k0_pay2]
  simp only [pay1_at]

/-- The output block at a row and a column. -/
theorem chunk_at (b0 : Vec Ideal S512x1024 .f32) (b1 : Vec Ideal S1x1024 .f32) (b2 : Vec Ideal S1x1024x1536 .bf16) (r : Fin 512) (n : Fin 1536) :
    out0_3 b0 b1 b2 (ix2 r n) = ∑ k : Fin 1024, rms (fun k => b0 (ix2 r k)) (fun k => b1 (ix2 0 k)) k * b2 (ix3 0 k n) := by
  have e3 : ∀ v0 v1 v, k0_pay3 (F := Ideal) v0 v1 v = k0_pay2 v0 v1 v := fun _ _ _ => rfl
  have e4 : ∀ v0 v1 v, k0_pay4 (F := Ideal) v0 v1 v = k0_pay2 v0 v1 v := fun _ _ _ => rfl
  unfold out0_3
  rw [e3, e4]
  canon_tiles x h
  all_goals idx_vars x
  all_goals (obtain rfl : r = x0 := Fin.ext h0)
  all_goals rw [pay2_at]
  all_goals pointwise
  all_goals (obtain ⟨n, hn⟩ := n; dsimp only at h1; subst h1; rfl)

variable (m : (ℓ : Loc nD τ sig) → Buf (Elt Ideal) ℓ) (c : Dev nD)

/-- The operands, read off the argument arrays: layer 1's norm and the one projection matrix. -/
def operands : ProjectMath.In where
  h R k := (m ((c : Thread nD τ).loc main_arg0) : Vec Ideal S32768x1024 .f32) (ix2 R k)
  g k := (m ((c : Thread nD τ).loc main_arg1) : Vec Ideal S2x1024 .f32) (ix2 1 k)
  w k n := (m ((c : Thread nD τ).loc main_arg2) : Vec Ideal S1x1024x1536 .bf16) (ix3 0 k n)

/-- Each window's block index at a point. -/
theorem idx : ∀ t : Fin grid0.N, win0_0.index t = ![t.val, 0] ∧ win0_1.index t = ![0, 0] ∧ win0_2.index t = ![0, 0, 0]
    ∧ win0_3.index t = ![t.val, 0] := by decide +kernel

theorem lt64 (t : Fin cfg0.N) : t.val < 64 := t.isLt

theorem blk0 (t : Fin cfg0.N) (r : Fin 512) (k : Fin 1024) : iblk m c 0 t (ix2 r k) = (operands m c).h ⟨512 * t + r, by have := lt64 t; omega⟩ k := by
  have e := (idx t).1
  have ht := lt64 t
  unfold operands; dsimp only
  blk_ext [iblk, V, e]

theorem blk1 (t : Fin cfg0.N) (k : Fin 1024) : iblk m c 1 t (ix2 0 k) = (operands m c).g k := by
  have e := (idx t).2.1
  have ht := lt64 t
  unfold operands; dsimp only
  blk_ext! [iblk, V, e]

theorem blk2 (t : Fin cfg0.N) (k : Fin 1024) (n : Fin 1536) : iblk m c 2 t (ix3 0 k n) = (operands m c).w k n := by
  have e := (idx t).2.2.1
  have ht := lt64 t
  unfold operands; dsimp only
  blk_ext [iblk, V, e]

/-- The result array after the run. -/
theorem result :
    (dats m 0 c).arrAt 3 cfg0.N = (fun i => proj (operands m c) (i 0) (i 1) : Vec Ideal S32768x1536 .bf16) := by
  refine (dats m 0 c).arrAt_eq_of_covers 3 _ (by decide +kernel) fun t hf y => ?_
  have e3 := (idx t).2.2.2
  blk_simp
  rw [after0_3]
  idx_vars y
  refine (chunk_at _ _ _ y0 y1).trans ?_
  simp only [blk0, blk1, blk2]
  show proj (operands m c) ⟨512 * t + y0, _⟩ y1 = _
  congr 1
  · apply Fin.ext
    blk_simp [e3]
    show 512 * t.val + y0.val = _
    simp
    omega
  · apply Fin.ext
    blk_simp [e3]

end Cert.ProjectIdeal.Entry

end
-- ==== Proof.ProjectClaims.lean ====
/- The projection's reference, read entry by entry, and the claims: its result is `ProjectMath.proj` of the operands, as the kernel's is. -/
module

public import proofs.«01_k».proof.Proof.ProjectKernel
public import Idealize.ShloMosaic.Lib.Tactic.CleanTypes
public import proofs.«01_k».proof.Proof.Gen.ProjectReferenceIdeal.Run
public import proofs.«01_k».proof.Proof.Gen.Project.Frame
public import proofs.«01_k».proof.Defs

@[expose] public section

set_option maxRecDepth 16384

noncomputable section

namespace Cert.ProjectClaims

open Cert.TailMath Cert.ProjectMath Idealize.ShloMosaic Idealize.ShloMosaic.TcCoe Idealize.ShloMosaic.StableHlo Idealize.SL.Sem

attribute [local instance] Cert.ProjectIdeal.Gen.facts Cert.ProjectReferenceIdeal.Gen.facts

section
open Cert.ProjectReferenceIdeal

/-- The reference's result, as the generated run states it, is the projection of the rows' norms. -/
theorem result_at (h : FVec Ideal S32768x1024 .f32) (g : FVec Ideal S2x1024 .f32) (w : FVec Ideal S1x1024x1536 .bf16) (R : Fin 32768) (n : Fin 1536) :
    (truncf .bf16 (shapeCast _ (Host.dotGeneral dot_S8x4096x1024_S1024x1536_S8x4096x1536_2_0_01_1_n_n none (mulf (mulf (shapeCast _ h Gen.shapeCasts_S32768x1024_S8x4096x1024) (broadcastInDim S8x4096x1024 ![0, 1, 2] Gen.bcast_S8x4096x1_S8x4096x1024_0_1_2 (Host.rsqrt (addf (Host.divf (broadcastInDim S8x4096x1 ![0, 1] Gen.bcast_S8x4096_S8x4096x1_0_1 (Host.reduceAdd (mulf (shapeCast _ h Gen.shapeCasts_S32768x1024_S8x4096x1024) (shapeCast _ h Gen.shapeCasts_S32768x1024_S8x4096x1024)) (constant S_ .f32 0x00000000#32) Gen.reducesTo_S8x4096x1024_S8x4096_d2 Gen.h_S_)) (broadcastInDim S8x4096x1 ![] Gen.bcast_S_S8x4096x1 (constant S_ .f32 0x44800000#32))) (broadcastInDim S8x4096x1 ![] Gen.bcast_S_S8x4096x1 (constant S_ .f32 0x358637BD#32)))))) (broadcastInDim S8x4096x1024 ![0, 1, 2] Gen.bcast_S1x1x1024_S8x4096x1024_0_1_2 (broadcastInDim S1x1x1024 ![2] Gen.bcast_S1024_S1x1x1024_2 (shapeCast _ (extractStridedSlice S1x1024 ![1, 0] g Gen.slices_S2x1024_S1x1024_1_0) Gen.shapeCasts_S1x1024_S1024)))) (shapeCast _ (extf .f32 w Gen.bitsLt_bf16_f32) Gen.shapeCasts_S1x1024x1536_S1024x1536)) Gen.shapeCasts_S8x4096x1536_S32768x1536) Gen.bitsLt_bf16_f32 : FVec Ideal S32768x1536 .bf16) (ix2 R n)
      = proj ⟨fun R k => h (ix2 R k), fun k => g (ix2 1 k), fun k n => w (ix3 0 k n)⟩ R n := by
  unfold proj rms
  clean_types
  pointwise

end

/-- The reference computes as stated and its semaphores end at zero. -/
theorem frame_reference : Cert.quiescent_ProjectReferenceIdeal (hProjectReferenceIdeal := Cert.ProjectReferenceIdeal.Gen.facts) := fun m ρ _ =>
  (θ_run Cert.ProjectReferenceIdeal.defs _ _).mono
    (fun r h => ⟨fun c => (h c).2, Idealize.ShloMosaic.sem_eq_zero_of_no_sems (by decide) r.2⟩)
    (Cert.ProjectReferenceIdeal.Value.run (F := Ideal) m ρ)

/-- Kernel and reference leave the same array. -/
theorem algebraic : Cert.algebraic_ProjectIdeal_ProjectReferenceIdeal (hProjectIdeal := Cert.ProjectIdeal.Gen.facts)
    (hProjectReferenceIdeal := Cert.ProjectReferenceIdeal.Gen.facts) := by
  intro m ρ m' ρ' _ hagree
  refine ⟨fun c => (fun i => proj (Cert.ProjectIdeal.Entry.operands m c) (i 0) (i 1) : Vec Ideal Cert.ProjectIdeal.S32768x1536 .bf16),
    (θ_run Cert.ProjectIdeal.defs _ _).mono (fun _ h c => ⟨(h c).1.trans ?_, (h c).2⟩) (Cert.ProjectIdeal.Value.run_blocks (F := Ideal) m ρ),
    (θ_run Cert.ProjectReferenceIdeal.defs _ _).mono (fun _ h c => ⟨(h c).1.trans ?_, (h c).2⟩) (Cert.ProjectReferenceIdeal.Value.run (F := Ideal) m' ρ')⟩
  · exact Cert.ProjectIdeal.Entry.result m c
  · obtain ⟨h0, h1, h2⟩ := hagree c
    funext i
    idx_vars i
    refine (result_at _ _ _ i0 i1).trans ?_
    show proj _ i0 i1 = proj (Cert.ProjectIdeal.Entry.operands m c) i0 i1
    congr 1
    unfold Cert.ProjectIdeal.Entry.operands
    congr 1
    · exact funext fun R => funext fun k => congrFun h0 (ix2 R k)
    · exact funext fun k => congrFun h1 (ix2 1 k)
    · exact funext fun k => funext fun n => congrFun h2 (ix3 0 k n)

end Cert.ProjectClaims

end
-- ==== Proof.DeltaMath.lean ====
/- The mathematics of what layer 0 does before the delta rule, as plain functions over rows and columns of extended
   reals: RMS norm, projection, causal convolution of width 4 within each sequence of 4096 rows and its gated unit on the
   first 3072 columns, and an l2 norm of each head's 128 query and key columns. Both programs are shown to compute `res`. -/
module

public import proofs.«01_k».proof.Proof.TailMath

@[expose] public section

noncomputable section

namespace Cert.DeltaMath

open Cert.TailMath Idealize.ShloMosaic

/-- The operands, by row and column. -/
structure In where
  h : Fin 32768 → Fin 1024 → EReal
  g : Fin 1024 → EReal
  w : Fin 1024 → Fin 4224 → EReal
  cw : Fin 4 → Fin 3072 → EReal

variable (a : DeltaMath.In)

/-- The projection of a row's norm. -/
def proj (R : Fin 32768) (n : Fin 4224) : EReal := ∑ k : Fin 1024, rms (a.h R) a.g k * a.w k n
/-- The projection `d` rows back in the row's sequence, zero before the sequence's first row. -/
def back (d : Nat) (R : Fin 32768) (n : Fin 4224) : EReal :=
  if h : R.val % 4096 < d then 0 else proj a ⟨R.val - d, by omega⟩ n
/-- The causal convolution of width 4. -/
def mixed (R : Fin 32768) (n : Fin 3072) : EReal :=
  a.cw 0 n * back a 3 R ⟨n, by omega⟩ + a.cw 1 n * back a 2 R ⟨n, by omega⟩ + a.cw 2 n * back a 1 R ⟨n, by omega⟩
    + a.cw 3 n * proj a R ⟨n, by omega⟩
/-- The gated unit. -/
def unit (R : Fin 32768) (n : Fin 3072) : EReal := mixed a R n * sigma (mixed a R n)
/-- The reciprocal length of one head's 128 columns, of 16: eight heads' queries and eight heads' keys. -/
def rlen (R : Fin 32768) (c : Fin 16) : EReal :=
  Ideal.rsqrt ((∑ j : Fin 128, unit a R ⟨128 * c + j, by omega⟩ * unit a R ⟨128 * c + j, by omega⟩) + Ideal.ofBits .f32 0x358637BD#32)
/-- The result: queries, keys, values, and the projection's other columns. -/
def res (R : Fin 32768) (n : Fin 4224) : EReal :=
  if h : n.val < 1024 then unit a R ⟨n, by omega⟩ * rlen a R ⟨n / 128, by omega⟩ * Ideal.ofBits .f32 0x3DB504F3#32
  else if h : n.val < 2048 then unit a R ⟨n, by omega⟩ * rlen a R ⟨n / 128, by omega⟩
  else if h : n.val < 3072 then unit a R ⟨n, by omega⟩
  else proj a R n

/-! ## The convolution's result is real -/

/-- The operands that the gated unit's argument is made of are real. -/
structure Finite : Prop where
  g : ∀ k, Fin' (a.g k)
  w : ∀ k (n : Fin 3072), Fin' (a.w k ⟨n, by omega⟩)
  cw : ∀ i n, Fin' (a.cw i n)

variable {a}

theorem proj_fin (H : Finite a) (R) (n : Fin 3072) : Fin' (proj a R ⟨n, by omega⟩) :=
  Fin'.sum _ _ fun k => (rms_fin (a.h R) H.g k).mul (H.w k n)
theorem back_fin (H : Finite a) (d R) (n : Fin 3072) : Fin' (back a d R ⟨n, by omega⟩) := by
  unfold back; split
  · exact Fin'.zero
  · exact proj_fin H _ _
theorem mixed_fin (H : Finite a) (R n) : Fin' (mixed a R n) :=
  ((((H.cw 0 n).mul (back_fin H 3 R n)).add ((H.cw 1 n).mul (back_fin H 2 R n))).add ((H.cw 2 n).mul (back_fin H 1 R n))).add
    ((H.cw 3 n).mul (proj_fin H R n))

end Cert.DeltaMath

end
-- ==== Proof.DeltaTile.lean ====
/- The kernel's tile of 512 rows before the delta rule, read entry by entry: what the body leaves in the output block is
   `DeltaMath.res` of the rows the tile stands for. The tile's 16 halo rows before its first row are the sequence's
   previous rows, or, at a sequence's first tile, zero after the norm. -/
module

public import proofs.«01_k».proof.Proof.DeltaMath
public import proofs.«01_k».proof.Proof.Gen.DeltaInIdeal.Frame
public import Idealize.ShloMosaic.Lib.Pipeline.ValueKit

@[expose] public section

set_option maxRecDepth 16384

noncomputable section

namespace Cert.DeltaInIdeal.Tile

open Cert.DeltaInIdeal Cert.DeltaInIdeal.Gen Cert.TailMath Cert.DeltaMath Idealize.ShloMosaic Idealize.ShloMosaic.TcCoe Idealize.SL.Sem

/-! ## The body's vectors at an index, over any operands -/

theorem pay2_at (v0 : Vec Ideal S1x1024 .f32) (v13 : Vec Ideal S512x1024 .f32) (r : Fin 512) (k : Fin 1024) :
    k0_pay2 v0 v13 (ix2 r k) = rms (fun k => v13 (ix2 r k)) (fun k => v0 (ix2 0 k)) k := by
  unfold rms
  pointwise [k0_pay2, k0_pay1]

theorem pay3_at (v0 : Vec Ideal S1x1024 .f32) (v27 : Vec Ideal S16x1024 .f32) (q : Fin 16) (k : Fin 1024) :
    k0_pay3 v0 v27 (ix2 q k) = rms (fun k => v27 (ix2 q k)) (fun k => v0 (ix2 0 k)) k := by
  unfold rms
  pointwise [k0_pay3, k0_pay1]

theorem pay4_at (v12 : BitVec 1) (v26 : FVec Ideal S512x1024 .bf16) (v39 : FVec Ideal S16x1024 .f32) (q : Fin 528) (k : Fin 1024) :
    k0_pay4 v12 v26 v39 (ix2 q k) =
      if h : q.val < 16 then Scalar.select v12 (0 : EReal) (v39 (ix2 ⟨q, h⟩ k)) else v26 (ix2 ⟨q - 16, by omega⟩ k) := by
  pointwise [k0_pay4]

/-- The convolution at a row of the tile, of one column of the weights and its taps. -/
def conv (v43 : Fin 528 → Fin 1024 → EReal) (w : Fin 1024 → EReal) (c : Fin 4 → EReal) (r : Fin 512) : EReal :=
  c 3 * (∑ x, v43 ⟨16 + r, by omega⟩ x * w x) + c 0 * (∑ x, v43 ⟨(16 + r + 528 - 3) % 528, by omega⟩ x * w x)
    + c 1 * (∑ x, v43 ⟨(16 + r + 528 - 2) % 528, by omega⟩ x * w x) + c 2 * (∑ x, v43 ⟨(16 + r + 528 - 1) % 528, by omega⟩ x * w x)

theorem pay10_at (v43 : FVec Ideal S528x1024 .bf16) (W : Vec Ideal S1x1024x512 .bf16) (C : Vec Ideal S4x512 .f32) (r n : Fin 512) :
    k0_pay10 v43 W C (ix2 r n) =
      Ideal.ofBits .f32 0x3F000000#32 * conv (fun q x => v43 (ix2 q x)) (fun x => W (ix3 0 x n)) (fun d => C (ix2 d n)) r
        + Ideal.ofBits .f32 0x3F000000#32 * conv (fun q x => v43 (ix2 q x)) (fun x => W (ix3 0 x n)) (fun d => C (ix2 d n)) r
          * Ideal.tanh (Ideal.ofBits .f32 0x3F000000#32 * conv (fun q x => v43 (ix2 q x)) (fun x => W (ix3 0 x n)) (fun d => C (ix2 d n)) r) := by
  unfold conv
  pointwise [k0_pay10]

theorem pay41_at (v26 : FVec Ideal S512x1024 .bf16) (W : Vec Ideal S1x1024x512 .bf16) (r n : Fin 512) :
    k0_pay41 v26 W (ix2 r n) = ∑ x : Fin 1024, v26 (ix2 r x) * W (ix3 0 x n) := by
  pointwise [k0_pay41]

theorem pay43_at (v26 : FVec Ideal S512x1024 .bf16) (W : Vec Ideal S1x1024x128 .bf16) (r : Fin 512) (n : Fin 128) :
    k0_pay43 v26 W (ix2 r n) = ∑ x : Fin 1024, v26 (ix2 r x) * W (ix3 0 x n) := by
  pointwise [k0_pay43]

/-- One head's columns of a chunk of 512, normed: the columns from `o`. -/
def key (o : Nat) (hs : S512x512.Slices ![0, o] S512x128) (Y : FVec Ideal S512x512 .f32) : FVec Ideal S512x128 .f32 :=
  mulf (extractStridedSlice S512x128 ![0, o] Y hs)
    (broadcastTo S512x128 (rsqrt (addf (shapeCast S512x1 (multiReduction .add [1] S512 (mulf (extractStridedSlice S512x128 ![0, o] Y hs) (extractStridedSlice S512x128 ![0, o] Y hs))
      0x00000000#32 reduces_S512x128_S512 (.inl rfl) rfl) shapeCasts_S512_S512x1) (broadcast S512x1 (Scalar.ofBits .f32 0x358637BD#32)))) broadcasts_S512x1_S512x128)

/-- The same, scaled: a head's queries. -/
def query (o : Nat) (hs : S512x512.Slices ![0, o] S512x128) (Y : FVec Ideal S512x512 .f32) : FVec Ideal S512x128 .f32 :=
  mulf (key o hs Y) (broadcast S512x128 (Scalar.ofBits .f32 0x3DB504F3#32))

theorem key_at (o : Nat) (ho : o + 128 ≤ 512) (hs : S512x512.Slices ![0, o] S512x128) (Y : FVec Ideal S512x512 .f32) (r : Fin 512) (j : Fin 128) :
    key o hs Y (ix2 r j) = Y (ix2 r ⟨o + j, by omega⟩)
      * Ideal.rsqrt ((∑ i : Fin 128, Y (ix2 r ⟨o + i, by omega⟩) * Y (ix2 r ⟨o + i, by omega⟩)) + Ideal.ofBits .f32 0x358637BD#32) := by
  pointwise [key]

theorem query_at (o : Nat) (hs : S512x512.Slices ![0, o] S512x128) (Y : FVec Ideal S512x512 .f32) (r : Fin 512) (j : Fin 128) :
    query o hs Y (ix2 r j) = key o hs Y (ix2 r j) * Ideal.ofBits .f32 0x3DB504F3#32 := rfl

section

/-! ## A tile of 512 rows -/

variable {a : DeltaMath.In} {T : Fin 64} {v12 : BitVec 1} {x0 : Vec Ideal S512x1024 .f32} {x1 : Vec Ideal S16x1024 .f32} {x2 : Vec Ideal S1x1024 .f32}

/-- The input blocks of tile `T` hold the operands: the rows from `512 T`, the 16 rows before them unless the tile is a
    sequence's first, and the gain. -/
structure Holds (a : DeltaMath.In) (T : Fin 64) (v12 : BitVec 1) (x0 : Vec Ideal S512x1024 .f32) (x1 : Vec Ideal S16x1024 .f32) (x2 : Vec Ideal S1x1024 .f32) : Prop where
  first : v12 = if T.val % 8 = 0 then 1#1 else 0#1
  b0 : ∀ (r : Fin 512) (k : Fin 1024), x0 (ix2 r k) = a.h ⟨512 * T + r, by omega⟩ k
  b1 : T.val % 8 ≠ 0 → ∀ (q : Fin 16) (k : Fin 1024), x1 (ix2 q k) = a.h ⟨512 * T + q - 16, by omega⟩ k
  b2 : ∀ (k : Fin 1024), x2 (ix2 0 k) = a.g k

variable (H : Holds a T v12 x0 x1 x2)
include H

/-- The normed rows. -/
theorem row_at (r : Fin 512) (k : Fin 1024) : k0_pay2 x2 x0 (ix2 r k) = rms (a.h ⟨512 * T + r, by omega⟩) a.g k := by
  rw [pay2_at]
  simp only [H.b0, H.b2]

/-- The normed rows with the halo: zero in the halo of a sequence's first tile. -/
theorem ext_at (q : Fin 528) (k : Fin 1024) :
    k0_pay4 v12 (k0_pay2 x2 x0) (k0_pay3 x2 x1) (ix2 q k) = if T.val % 8 = 0 ∧ q.val < 16 then 0 else rms (a.h ⟨512 * T + q - 16, by omega⟩) a.g k := by
  rw [pay4_at, H.first]
  by_cases h : q.val < 16
  · rw [dif_pos h]
    by_cases hT : T.val % 8 = 0
    · rw [if_pos hT, if_pos ⟨hT, h⟩]; rfl
    · rw [if_neg hT, if_neg (fun c => hT c.1)]
      show k0_pay3 x2 x1 _ = _
      rw [pay3_at]
      simp only [H.b1 hT, H.b2]
  · rw [dif_neg h, if_neg (fun c => h c.2), row_at H]
    have e : 512 * T.val + (q.val - 16) = 512 * T.val + q.val - 16 := by omega
    simp only [e]

/-- A normed row of the tile, `d` rows back, times a column of the weights. -/
theorem back_at (d : Nat) (hd : d ≤ 3) (r : Fin 512) (q : Fin 528) (hq : q.val = 16 + r.val - d) (n : Fin 4224) :
    ∑ x : Fin 1024, k0_pay4 v12 (k0_pay2 x2 x0) (k0_pay3 x2 x1) (ix2 q x) * a.w x n = back a d ⟨512 * T + r, by omega⟩ n := by
  unfold back
  by_cases hz : T.val % 8 = 0 ∧ q.val < 16
  · rw [dif_pos (by show (512 * T.val + r.val) % 4096 < d; omega)]
    refine Finset.sum_eq_zero fun x _ => ?_
    rw [ext_at H, if_pos hz, zero_mul]
  · rw [dif_neg (by show ¬ (512 * T.val + r.val) % 4096 < d; omega)]
    unfold proj
    refine Finset.sum_congr rfl fun x _ => ?_
    rw [ext_at H, if_neg hz]
    have e : 512 * T.val + q.val - 16 = 512 * T.val + r.val - d := by omega
    simp only [e]

omit H in
theorem back_zero (R : Fin 32768) (n : Fin 4224) : back a 0 R n = proj a R n := by
  unfold back; rw [dif_neg (by omega)]; rfl

/-- The convolution on the tile's rows. -/
theorem conv_at (r : Fin 512) (n : Fin 3072) :
    conv (fun q x => k0_pay4 v12 (k0_pay2 x2 x0) (k0_pay3 x2 x1) (ix2 q x)) (fun x => a.w x ⟨n, by omega⟩) (fun d => a.cw d n) r = mixed a ⟨512 * T + r, by omega⟩ n := by
  unfold conv mixed
  rw [back_at H 0 (by omega) r ⟨16 + r, by omega⟩ (by show 16 + r.val = _; omega), back_at H 1 (by omega) r ⟨(16 + r + 528 - 1) % 528, by omega⟩ (by show (16 + r.val + 528 - 1) % 528 = _; omega),
    back_at H 2 (by omega) r ⟨(16 + r + 528 - 2) % 528, by omega⟩ (by show (16 + r.val + 528 - 2) % 528 = _; omega), back_at H 3 (by omega) r ⟨(16 + r + 528 - 3) % 528, by omega⟩ (by show (16 + r.val + 528 - 3) % 528 = _; omega), back_zero]
  rw [add_comm (_ + _ + _ ) (a.cw 3 n * _)]
  simp only [add_assoc]

/-- A chunk of 512 columns after the gated unit. -/
theorem chunk_at (F : Finite a) (b : Nat) (hb : b < 6) {W : Vec Ideal S1x1024x512 .bf16} {C : Vec Ideal S4x512 .f32}
    (hW : ∀ x (n : Fin 512), W (ix3 0 x n) = a.w x ⟨512 * b + n, by omega⟩) (hC : ∀ d (n : Fin 512), C (ix2 d n) = a.cw d ⟨512 * b + n, by omega⟩)
    (r n : Fin 512) : k0_pay10 (k0_pay4 v12 (k0_pay2 x2 x0) (k0_pay3 x2 x1)) W C (ix2 r n) = unit a ⟨512 * T + r, by omega⟩ ⟨512 * b + n, by omega⟩ := by
  rw [pay10_at]
  have e := conv_at H r ⟨512 * b + n, by omega⟩
  simp only [hW, hC]
  rw [e, silu_eq (mixed_fin F _ _)]
  rfl

/-- One head's normed columns. -/
theorem head_at (F : Finite a) (b o : Nat) (hb : b < 4) (ho : o + 128 ≤ 512) (hd : o % 128 = 0) (hs : S512x512.Slices ![0, o] S512x128) {W : Vec Ideal S1x1024x512 .bf16} {C : Vec Ideal S4x512 .f32}
    (hW : ∀ x (n : Fin 512), W (ix3 0 x n) = a.w x ⟨512 * b + n, by omega⟩) (hC : ∀ d (n : Fin 512), C (ix2 d n) = a.cw d ⟨512 * b + n, by omega⟩)
    (r : Fin 512) (j : Fin 128) (n : Fin 4224) (hn : n.val = 512 * b + o + j) :
    key (o) hs (k0_pay10 (k0_pay4 v12 (k0_pay2 x2 x0) (k0_pay3 x2 x1)) W C) (ix2 r j)
      = unit a ⟨512 * T + r, by omega⟩ ⟨n, by omega⟩ * rlen a ⟨512 * T + r, by omega⟩ ⟨n / 128, by omega⟩ := by
  rw [key_at _ (by omega)]
  simp only [chunk_at H F b (by omega) hW hC]
  unfold rlen
  have e1 : 512 * b + (o + j.val) = n.val := by omega
  have e2 : ∀ i : Fin 128, 512 * b + (o + i.val) = 128 * (n.val / 128) + i.val := fun i => by omega
  simp only [e1, e2]

theorem query_out (F : Finite a) (b o : Nat) (hb : b < 2) (ho : o + 128 ≤ 512) (hd : o % 128 = 0) (hs : S512x512.Slices ![0, o] S512x128) {W : Vec Ideal S1x1024x512 .bf16} {C : Vec Ideal S4x512 .f32}
    (hW : ∀ x (n : Fin 512), W (ix3 0 x n) = a.w x ⟨512 * b + n, by omega⟩) (hC : ∀ d (n : Fin 512), C (ix2 d n) = a.cw d ⟨512 * b + n, by omega⟩)
    (r : Fin 512) (j : Fin 128) (n : Fin 4224) (hn : n.val = 512 * b + o + j) :
    query (o) hs (k0_pay10 (k0_pay4 v12 (k0_pay2 x2 x0) (k0_pay3 x2 x1)) W C) (ix2 r j) = res a ⟨512 * T + r, by omega⟩ n := by
  rw [query_at, head_at H F b o (by omega) ho hd hs hW hC r j n hn]
  unfold res
  rw [dif_pos (by omega)]

theorem key_out (F : Finite a) (b o : Nat) (h1 : 2 ≤ b) (hb : b < 4) (ho : o + 128 ≤ 512) (hd : o % 128 = 0) (hs : S512x512.Slices ![0, o] S512x128) {W : Vec Ideal S1x1024x512 .bf16} {C : Vec Ideal S4x512 .f32}
    (hW : ∀ x (n : Fin 512), W (ix3 0 x n) = a.w x ⟨512 * b + n, by omega⟩) (hC : ∀ d (n : Fin 512), C (ix2 d n) = a.cw d ⟨512 * b + n, by omega⟩)
    (r : Fin 512) (j : Fin 128) (n : Fin 4224) (hn : n.val = 512 * b + o + j) :
    key (o) hs (k0_pay10 (k0_pay4 v12 (k0_pay2 x2 x0) (k0_pay3 x2 x1)) W C) (ix2 r j) = res a ⟨512 * T + r, by omega⟩ n := by
  rw [head_at H F b o (by omega) ho hd hs hW hC r j n hn]
  unfold res
  rw [dif_neg (by omega), dif_pos (by omega)]

theorem value_out (F : Finite a) (b : Nat) (h1 : 4 ≤ b) (hb : b < 6) {W : Vec Ideal S1x1024x512 .bf16} {C : Vec Ideal S4x512 .f32}
    (hW : ∀ x (n : Fin 512), W (ix3 0 x n) = a.w x ⟨512 * b + n, by omega⟩) (hC : ∀ d (n : Fin 512), C (ix2 d n) = a.cw d ⟨512 * b + n, by omega⟩)
    (r : Fin 512) (j : Fin 512) (n : Fin 4224) (hn : n.val = 512 * b + j) :
    k0_pay10 (k0_pay4 v12 (k0_pay2 x2 x0) (k0_pay3 x2 x1)) W C (ix2 r j) = res a ⟨512 * T + r, by omega⟩ n := by
  rw [chunk_at H F b (by omega) hW hC]
  unfold res
  rw [dif_neg (by omega), dif_neg (by omega), dif_pos (by omega)]
  simp only [hn]

theorem rest_out (b : Nat) (h1 : 6 ≤ b) (hb : b < 8) {W : Vec Ideal S1x1024x512 .bf16}
    (hW : ∀ x (n : Fin 512), W (ix3 0 x n) = a.w x ⟨512 * b + n, by omega⟩) (r : Fin 512) (j : Fin 512) (n : Fin 4224) (hn : n.val = 512 * b + j) :
    k0_pay41 (k0_pay2 x2 x0) W (ix2 r j) = res a ⟨512 * T + r, by omega⟩ n := by
  rw [pay41_at]
  unfold res
  rw [dif_neg (by omega), dif_neg (by omega), dif_neg (by omega)]
  unfold proj
  simp only [row_at H, hW, ← hn, Fin.eta]

theorem last_out {W : Vec Ideal S1x1024x128 .bf16} (hW : ∀ x (n : Fin 128), W (ix3 0 x n) = a.w x ⟨4096 + n, by omega⟩)
    (r : Fin 512) (j : Fin 128) (n : Fin 4224) (hn : n.val = 4096 + j) :
    k0_pay43 (k0_pay2 x2 x0) W (ix2 r j) = res a ⟨512 * T + r, by omega⟩ n := by
  rw [pay43_at]
  unfold res
  rw [dif_neg (by omega), dif_neg (by omega), dif_neg (by omega)]
  unfold proj
  simp only [row_at H, hW, ← hn, Fin.eta]

end

/-! ## The stored vectors: each is one of the functions above

The body is cut into parts by length, so the same operations stand under different names. -/

theorem eq5 (v12 : BitVec 1) (v26 : FVec Ideal S512x1024 .bf16) (v39 : FVec Ideal S16x1024 .f32) (W : Vec Ideal S1x1024x512 .bf16) (C : Vec Ideal S4x512 .f32) : k0_pay5 v12 v26 v39 W C = k0_pay10 (k0_pay4 v12 v26 v39) W C := rfl
theorem eq6 (v12 : BitVec 1) (v26 : FVec Ideal S512x1024 .bf16) (v39 : FVec Ideal S16x1024 .f32) (W : Vec Ideal S1x1024x512 .bf16) (C : Vec Ideal S4x512 .f32) : k0_pay6 v12 v26 v39 W C = query 0 Gen.slices_S512x512_o0_0_S512x128 (k0_pay10 (k0_pay4 v12 v26 v39) W C) := rfl
theorem eq7 (Y : FVec Ideal S512x512 .f32) : k0_pay7 Y = query 128 Gen.slices_S512x512_o0_128_S512x128 Y := rfl
theorem eq8 (Y : FVec Ideal S512x512 .f32) : k0_pay8 Y = query 256 Gen.slices_S512x512_o0_256_S512x128 Y := rfl
theorem eq9 (Y : FVec Ideal S512x512 .f32) : k0_pay9 Y = query 384 Gen.slices_S512x512_o0_384_S512x128 Y := rfl
theorem eq11 (v : FVec Ideal S528x1024 .bf16) (W : Vec Ideal S1x1024x512 .bf16) (C : Vec Ideal S4x512 .f32) : k0_pay11 v W C = query 0 Gen.slices_S512x512_o0_0_S512x128 (k0_pay10 v W C) := rfl
theorem eq15 (v : FVec Ideal S528x1024 .bf16) (W : Vec Ideal S1x1024x512 .bf16) (C : Vec Ideal S4x512 .f32) : k0_pay15 (k0_pay12 v W C) (k0_pay13 v W C) k0_pay14 = query 128 Gen.slices_S512x512_o0_128_S512x128 (k0_pay10 v W C) := rfl
theorem eq16 (Y : FVec Ideal S512x512 .f32) : k0_pay16 Y = query 256 Gen.slices_S512x512_o0_256_S512x128 Y := rfl
theorem eq17 (Y : FVec Ideal S512x512 .f32) : k0_pay17 Y = query 384 Gen.slices_S512x512_o0_384_S512x128 Y := rfl
theorem eq21 (v : FVec Ideal S528x1024 .bf16) (W : Vec Ideal S1x1024x512 .bf16) (C : Vec Ideal S4x512 .f32) : k0_pay21 (k0_pay18 v W) (k0_pay19 C) (k0_pay20 C) = k0_pay10 v W C := rfl
theorem eq22 (v : FVec Ideal S528x1024 .bf16) (W : Vec Ideal S1x1024x512 .bf16) (C : Vec Ideal S4x512 .f32) : k0_pay22 (k0_pay18 v W) (k0_pay19 C) (k0_pay20 C) = key 0 Gen.slices_S512x512_o0_0_S512x128 (k0_pay10 v W C) := rfl
theorem eq23 (v : FVec Ideal S528x1024 .bf16) (W : Vec Ideal S1x1024x512 .bf16) (C : Vec Ideal S4x512 .f32) : k0_pay23 (k0_pay18 v W) (k0_pay19 C) (k0_pay20 C) = key 128 Gen.slices_S512x512_o0_128_S512x128 (k0_pay10 v W C) := rfl
theorem eq26 (v : FVec Ideal S528x1024 .bf16) (W : Vec Ideal S1x1024x512 .bf16) (C : Vec Ideal S4x512 .f32) : k0_pay26 (k0_pay24 (k0_pay18 v W) (k0_pay19 C) (k0_pay20 C)) (k0_pay25 (k0_pay18 v W) (k0_pay19 C) (k0_pay20 C)) = key 256 Gen.slices_S512x512_o0_256_S512x128 (k0_pay10 v W C) := rfl
theorem eq27 (Y : FVec Ideal S512x512 .f32) : k0_pay27 Y = key 384 Gen.slices_S512x512_o0_384_S512x128 Y := rfl
theorem eq30 (v : FVec Ideal S528x1024 .bf16) (W : Vec Ideal S1x1024x512 .bf16) (C : Vec Ideal S4x512 .f32) : k0_pay30 (k0_pay28 v W C) (Scalar.ofBits .f32 0x3F000000#32) = key 0 Gen.slices_S512x512_o0_0_S512x128 (k0_pay10 v W C) := rfl
theorem eq31 (v : FVec Ideal S528x1024 .bf16) (W : Vec Ideal S1x1024x512 .bf16) (C : Vec Ideal S4x512 .f32) : k0_pay31 (k0_pay28 v W C) (Scalar.ofBits .f32 0x3F000000#32) = key 128 Gen.slices_S512x512_o0_128_S512x128 (k0_pay10 v W C) := rfl
theorem eq32 (v : FVec Ideal S528x1024 .bf16) (W : Vec Ideal S1x1024x512 .bf16) (C : Vec Ideal S4x512 .f32) : k0_pay32 (k0_pay28 v W C) (Scalar.ofBits .f32 0x3F000000#32) = key 256 Gen.slices_S512x512_o0_256_S512x128 (k0_pay10 v W C) := rfl
theorem eq35 (v : FVec Ideal S528x1024 .bf16) (W : Vec Ideal S1x1024x512 .bf16) (C : Vec Ideal S4x512 .f32) : k0_pay35 (k0_pay33 (k0_pay28 v W C) (Scalar.ofBits .f32 0x3F000000#32)) (k0_pay34 (k0_pay28 v W C) (Scalar.ofBits .f32 0x3F000000#32)) = key 384 Gen.slices_S512x512_o0_384_S512x128 (k0_pay10 v W C) := rfl
theorem eq36 (v : FVec Ideal S528x1024 .bf16) (W : Vec Ideal S1x1024x512 .bf16) (C : Vec Ideal S4x512 .f32) : k0_pay36 v W C = k0_pay10 v W C := rfl
theorem eq40 (v : FVec Ideal S528x1024 .bf16) (W : Vec Ideal S1x1024x512 .bf16) (C : Vec Ideal S4x512 .f32) : k0_pay40 (k0_pay37 v W) (k0_pay38 C) (k0_pay39 C) = k0_pay10 v W C := rfl
theorem eq42 (v : FVec Ideal S512x1024 .bf16) (W : Vec Ideal S1x1024x512 .bf16) : k0_pay42 v W = k0_pay41 v W := rfl

/-- The kernel's test for a sequence's first tile, of the tile's number. -/
theorem first_eq : ∀ n : Fin 64, Scalar.cmpi CmpIPredicate.eq
    (Scalar.select
      (Scalar.andi (Scalar.xori (Scalar.cmpi CmpIPredicate.slt (Scalar.remsi (BitVec.ofNat 32 n.val) 8#32) 0#32) 0#1)
        (Scalar.cmpi CmpIPredicate.ne (Scalar.remsi (BitVec.ofNat 32 n.val) 8#32) 0#32))
      (Scalar.addi (Scalar.remsi (BitVec.ofNat 32 n.val) 8#32) 8#32) (Scalar.remsi (BitVec.ofNat 32 n.val) 8#32)) 0#32
    = if n.val % 8 = 0 then 1#1 else 0#1 := by decide +kernel

/-- The output block at a row and a column, of input blocks that hold the operands. -/
theorem out_at {a : DeltaMath.In} {T : Fin 64} (c : Dev nD) (i : grid0.Coords) (hi : (i 0).val = T.val)
    (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x4224 .bf16) (harg4 : arg4.IsWhole) (arg5 : Memref sig .tc .vmem S4x4224 .f32) (harg5 : arg5.IsWhole) (arg6 : Memref sig .tc .vmem S512x4224 .f32) (harg6 : arg6.IsWhole)
    (b0 : Vec Ideal S512x1024 .f32) (b1 : Vec Ideal S16x1024 .f32) (b2 : Vec Ideal S1x1024 .f32) (b3 : Vec Ideal S1x1024x4224 .bf16) (b4 : Vec Ideal S4x4224 .f32)
    (h0 : ∀ (r : Fin 512) (k : Fin 1024), b0 (ix2 r k) = a.h ⟨512 * T + r, by omega⟩ k)
    (h1 : T.val % 8 ≠ 0 → ∀ (q : Fin 16) (k : Fin 1024), b1 (ix2 q k) = a.h ⟨512 * T + q - 16, by omega⟩ k)
    (h2 : ∀ (k : Fin 1024), b2 (ix2 0 k) = a.g k)
    (h3 : ∀ (k : Fin 1024) (n : Fin 4224), b3 (ix3 0 k n) = a.w k n)
    (h4 : ∀ (d : Fin 4) (n : Fin 3072), b4 (ix2 d ⟨n, by omega⟩) = a.cw d n)
    (F : Finite a) (r : Fin 512) (n : Fin 4224) :
    out0_A_5 c i arg1 harg1 arg2 harg2 arg3 harg3 arg4 harg4 arg5 harg5 arg6 harg6 b0 b1 b2 b3 b4 (ix2 r n) = res a ⟨512 * T + r, by omega⟩ n := by
  frame_out
  generalize hv : Scalar.cmpi CmpIPredicate.eq
    (Scalar.select
      (Scalar.andi (Scalar.xori (Scalar.cmpi CmpIPredicate.slt (Scalar.remsi (BitVec.ofNat 32 ↑(i 0)) 8#32) 0#32) 0#1)
        (Scalar.cmpi CmpIPredicate.ne (Scalar.remsi (BitVec.ofNat 32 ↑(i 0)) 8#32) 0#32))
      (Scalar.addi (Scalar.remsi (BitVec.ofNat 32 ↑(i 0)) 8#32) 8#32) (Scalar.remsi (BitVec.ofNat 32 ↑(i 0)) 8#32)) 0#32 = v12
  have H : Holds a T v12 b0 b1 b2 := ⟨by rw [← hv, hi]; exact first_eq T, h0, h1, h2⟩
  simp only [eq5, eq6, eq7, eq8, eq9, eq11, eq15, eq16, eq17, eq21, eq22, eq23, eq26, eq27, eq30, eq31, eq32, eq35, eq36, eq40, eq42]
  canon_tiles x e using View.cover_of_tiledBy _ ![512, 128] (by sl_kernel_rfl) _
  all_goals idx_vars x
  all_goals (obtain rfl : r = x0 := Fin.ext e0)
  · exact last_out H (fun k j => by pointwise; exact (h3 k _).trans (congrArg (a.w k) (Fin.ext (by first | rfl | (dsimp only; omega))))) _ _ _ (by omega)
  · exact rest_out H 7 (by omega) (by omega) (fun k j => by pointwise; exact (h3 k _).trans (congrArg (a.w k) (Fin.ext (by first | rfl | (dsimp only; omega))))) _ _ _ (by omega)
  · exact rest_out H 6 (by omega) (by omega) (fun k j => by pointwise; exact (h3 k _).trans (congrArg (a.w k) (Fin.ext (by first | rfl | (dsimp only; omega))))) _ _ _ (by omega)
  · exact value_out H F 5 (by omega) (by omega) (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 5 + j, by omega⟩)) _ _ _ (by omega)
  · exact value_out H F 4 (by omega) (by omega) (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 4 + j, by omega⟩)) _ _ _ (by omega)
  · exact key_out H F 3 384 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 3 + j, by omega⟩)) _ _ _ (by omega)
  · exact key_out H F 3 256 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 3 + j, by omega⟩)) _ _ _ (by omega)
  · exact key_out H F 3 128 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 3 + j, by omega⟩)) _ _ _ (by omega)
  · exact key_out H F 3 0 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 3 + j, by omega⟩)) _ _ _ (by omega)
  · exact key_out H F 2 384 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 2 + j, by omega⟩)) _ _ _ (by omega)
  · exact key_out H F 2 256 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 2 + j, by omega⟩)) _ _ _ (by omega)
  · exact key_out H F 2 128 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 2 + j, by omega⟩)) _ _ _ (by omega)
  · exact key_out H F 2 0 (by omega) (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 2 + j, by omega⟩)) _ _ _ (by omega)
  · exact query_out H F 1 384 (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 1 + j, by omega⟩)) _ _ _ (by omega)
  · exact query_out H F 1 256 (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 1 + j, by omega⟩)) _ _ _ (by omega)
  · exact query_out H F 1 128 (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 1 + j, by omega⟩)) _ _ _ (by omega)
  · exact query_out H F 1 0 (by omega) (by omega) (by omega) _ (fun k j => by pointwise; exact (h3 k _).trans (congrArg (a.w k) (Fin.ext (by first | rfl | (dsimp only; omega))))) (fun d j => by pointwise; exact (congrArg (fun q => b4 (ix2 d q)) (Fin.ext (by first | rfl | (dsimp only; omega)))).trans (h4 d ⟨512 * 1 + j, by omega⟩)) _ _ _ (by omega)
  · exact query_out H F 0 384 (by omega) (by omega) (by omega) _ (fun k j => by pointwise; exact (h3 k _).trans (congrArg (a.w k) (Fin.ext (by first | rfl | (dsimp only; omega))))) (fun d j => by pointwise; exact h4 d ⟨j, by omega⟩) _ _ _ (by omega)
  · exact query_out H F 0 256 (by omega) (by omega) (by omega) _ (fun k j => by pointwise; exact (h3 k _).trans (congrArg (a.w k) (Fin.ext (by first | rfl | (dsimp only; omega))))) (fun d j => by pointwise; exact h4 d ⟨j, by omega⟩) _ _ _ (by omega)
  · exact query_out H F 0 128 (by omega) (by omega) (by omega) _ (fun k j => by pointwise; exact (h3 k _).trans (congrArg (a.w k) (Fin.ext (by first | rfl | (dsimp only; omega))))) (fun d j => by pointwise; exact h4 d ⟨j, by omega⟩) _ _ _ (by omega)
  · exact query_out H F 0 0 (by omega) (by omega) (by omega) _ (fun k j => by pointwise; exact (h3 k _).trans (congrArg (a.w k) (Fin.ext (by first | rfl | (dsimp only; omega))))) (fun d j => by pointwise; exact h4 d ⟨j, by omega⟩) _ _ _ (by omega)

end Cert.DeltaInIdeal.Tile

end
-- ==== Proof.DeltaKernel.lean ====
/- The kernel's result array after the run: `DeltaMath.res` of the operands, read off the argument arrays. -/
module

public import proofs.«01_k».proof.Proof.DeltaTile
public import proofs.«01_k».proof.Proof.Gen.DeltaInIdeal.Value
public import Idealize.ShloMosaic.Lib.Pipeline.ValueKit
public import Idealize.ShloMosaic.Lib.Claim

@[expose] public section

set_option maxRecDepth 16384

noncomputable section

namespace Cert.DeltaInIdeal.Entry

open Cert.DeltaInIdeal Cert.DeltaInIdeal.Gen Cert.TailMath Cert.DeltaMath Idealize.ShloMosaic Idealize.ShloMosaic.TcCoe Idealize.SL.Sem
open Idealize.ShloMosaic.Pipeline (Dat)

variable (m : (ℓ : Loc nD τ sig) → Buf (Elt Ideal) ℓ) (c : Dev nD)

/-- The operands, read off the argument arrays: layer 0's norm, projection and taps. -/
def operands : DeltaMath.In where
  h R k := (m ((c : Thread nD τ).loc main_arg0) : Vec Ideal S32768x1024 .f32) (ix2 R k)
  g k := (m ((c : Thread nD τ).loc main_arg1) : Vec Ideal S2x1024 .f32) (ix2 0 k)
  w k n := (m ((c : Thread nD τ).loc main_arg2) : Vec Ideal S1x1024x4224 .bf16) (ix3 0 k n)
  cw d n := (m ((c : Thread nD τ).loc main_arg3) : Vec Ideal S1x4x3072 .f32) (ix3 0 d n)

/-- Each window's block index at a point. -/
theorem idx : ∀ t : Fin grid0.N, (grid0.coords t 0).val = t.val ∧ win0_0.index t = ![t.val, 0] ∧ win0_1.index t = ![t.val * 32 - 1, 0]
    ∧ win0_2.index t = ![0, 0] ∧ win0_3.index t = ![0, 0, 0] ∧ win0_4.index t = ![0, 0] ∧ win0_5.index t = ![t.val, 0] := by decide +kernel

theorem lt64 (t : Fin cfg0.N) : t.val < 64 := t.isLt

theorem blk0 (t : Fin cfg0.N) (r : Fin 512) (k : Fin 1024) : iblk m c 0 t (ix2 r k) = (operands m c).h ⟨512 * t + r, by have := lt64 t; omega⟩ k := by
  have e := (idx t).2.1
  have ht := lt64 t
  unfold operands; dsimp only
  blk_ext [iblk, V, e]

theorem blk1 (t : Fin cfg0.N) (hT : t.val % 8 ≠ 0) (q : Fin 16) (k : Fin 1024) : iblk m c 1 t (ix2 q k) = (operands m c).h ⟨512 * t + q - 16, by have := lt64 t; omega⟩ k := by
  have e := (idx t).2.2.1
  have ht := lt64 t
  unfold operands; dsimp only
  blk_ext [iblk, V, e]

/-- The gain's array as the call finds it: layer 0's slice of the argument. -/
theorem gain_read : V m c main_v5 = (shapeCast S1x1024 (shapeCast S1024 (extractStridedSlice S1x1024 ![0, 0] (m ((c : Thread nD τ).loc main_arg1) : Vec Ideal S2x1024 .f32) slices_S2x1024_S1x1024_0_0) shapeCasts_S1x1024_S1024) shapeCasts_S1024_S1x1024 : Vec Ideal S1x1024 .f32) := by
  simp only [V, hostOps0, hostOps0_1, hostOps0_2, List.flatten_cons, List.flatten_nil, List.append_nil, List.cons_append, List.nil_append]
  after_results
  rfl

/-- The taps' array as the call finds it: the argument padded with zeros to the projection's width. -/
theorem taps_read : V m c main_v2 = (pad S4x4224 ![0, 0] ![0, 1152] ![0, 0] (shapeCast S4x3072 (m ((c : Thread nD τ).loc main_arg3) : Vec Ideal S1x4x3072 .f32) shapeCasts_S1x4x3072_S4x3072)
    (sitofp .f32 (constantI S_ 32 0#32) : FVec Ideal S_ .f32) pads_S4x3072_S4x4224_000_011520 h_S_ : Vec Ideal S4x4224 .f32) := by
  simp only [V, hostOps0, hostOps0_1, hostOps0_2, List.flatten_cons, List.flatten_nil, List.append_nil, List.cons_append, List.nil_append]
  after_results
  rfl

theorem blk2 (t : Fin cfg0.N) (k : Fin 1024) : iblk m c 2 t (ix2 0 k) = (operands m c).g k := by
  have e := (idx t).2.2.2.1
  unfold operands iblk; dsimp only
  have ej : ((cfg0.win 2).blk t).view.emb (ix2 0 k) = (ix2 0 k : S1x1024.Idx) := by blk_ext [e]
  show V m c main_v5 (((cfg0.win 2).blk t).view.emb (ix2 0 k)) = _
  rw [gain_read, ej]
  pointwise

theorem blk3 (t : Fin cfg0.N) (k : Fin 1024) (n : Fin 4224) : iblk m c 3 t (ix3 0 k n) = (operands m c).w k n := by
  have e := (idx t).2.2.2.2.1
  have ht := lt64 t
  unfold operands; dsimp only
  blk_ext [iblk, V, e]

/-- The host's padding of the taps leaves their 3072 columns as they are. -/
theorem taps_at (X : Vec Ideal S1x4x3072 .f32) (d : Fin 4) (n : Fin 3072) :
    (pad S4x4224 ![0, 0] ![0, 1152] ![0, 0] (shapeCast S4x3072 X shapeCasts_S1x4x3072_S4x3072)
      (sitofp .f32 (constantI S_ 32 0#32) : FVec Ideal S_ .f32) pads_S4x3072_S4x4224_000_011520 h_S_ : Vec Ideal S4x4224 .f32) (ix2 d ⟨n, by omega⟩) = X (ix3 0 d n) := by
  pointwise

theorem blk4 (t : Fin cfg0.N) (d : Fin 4) (n : Fin 3072) : iblk m c 4 t (ix2 d ⟨n, by omega⟩) = (operands m c).cw d n := by
  have e := (idx t).2.2.2.2.2.1
  unfold operands iblk; dsimp only
  have ej : ((cfg0.win 4).blk t).view.emb (ix2 d ⟨n, by omega⟩) = (ix2 d ⟨n, by omega⟩ : S4x4224.Idx) := by blk_ext [e]
  show V m c main_v2 (((cfg0.win 4).blk t).view.emb (ix2 d ⟨n, by omega⟩)) = _
  rw [taps_read, ej]
  exact taps_at _ d n

/-- The result array after the run. -/
theorem result (F : Finite (operands m c)) :
    (dats m 0 c).arrAt 5 cfg0.N = (fun i => res (operands m c) (i 0) (i 1) : Vec Ideal S32768x4224 .f32) := by
  refine (dats m 0 c).arrAt_eq_of_covers 5 _ (by decide +kernel) fun t hf y => ?_
  have e5 := (idx t).2.2.2.2.2.2
  blk_simp
  rw [after0_5]
  unfold outsAt0
  idx_vars y
  refine (Tile.out_at (T := ⟨t.val, lt64 t⟩) c (grid0.coords t) (idx t).1 _ _ _ _ _ _ _ _ _ _ _ _ _ _ _ _ _ (blk0 m c t) (blk1 m c t) (blk2 m c t) (blk3 m c t) (blk4 m c t) F y0 y1).trans ?_
  congr 1
  · apply Fin.ext
    blk_simp [e5]
    show 512 * t.val + y0.val = _
    simp
    omega
  · apply Fin.ext
    blk_simp [e5]

end Cert.DeltaInIdeal.Entry

end
-- ==== Proof.DeltaPre.lean ====
/- The precondition, read: the operands that reach the gated unit's argument are real numbers. -/
module

public import proofs.«01_k».proof.Proof.DeltaKernel
public import proofs.«01_k».proof.Proof.TailPre
public import proofs.«01_k».proof.Proof.Gen.Pre_finite_delta_in
public import proofs.«01_k».proof.Defs

@[expose] public section

set_option maxRecDepth 16384

noncomputable section

namespace Cert.DeltaInIdeal.Entry

open Cert.DeltaInIdeal Cert.TailMath Cert.DeltaMath Idealize.ShloMosaic Idealize.ShloMosaic.TcCoe Idealize.SL.Sem

attribute [local instance] Cert.Pre_finite_delta_in.Gen.facts

variable (m : (ℓ : Loc nD τ sig) → Buf (Elt Ideal) ℓ) (c : Dev nD)

/-- Under the precondition the operands that reach the gated unit's argument are real. -/
theorem finite (h : Cert.Pre_DeltaInIdeal_finite_delta_in m) : DeltaMath.Finite (operands m c) := by
  have h := congrFun (h c) (fun a => a.elim0)
  unfold Cert.Pre_finite_delta_in.fn Cert.Pre_finite_delta_in.fn_part1 at h
  dsimp only at h
  obtain ⟨h, h3⟩ := IntOp.andi_eq_one.mp h
  obtain ⟨h1, h2⟩ := IntOp.andi_eq_one.mp h
  have : Subsingleton Cert.Pre_finite_delta_in.S_.Idx := ⟨fun a b => funext fun i => i.elim0⟩
  have r1 := all_real _ _ (fun _ => rfl) _ _ _ _ h1
  have r2 := all_real _ _ (fun _ => rfl) _ _ _ _ h2
  have r3 := all_real _ _ (fun _ => rfl) _ _ _ _ h3
  clear h h1 h2 h3
  refine ⟨fun k => ?_, fun k n => ?_, fun d n => ?_⟩
  · have e := r1 (ix1 k)
    clear r1 r2 r3
    pointwise at e
    exact e
  · have e := r2 (ix2 k n)
    clear r1 r2 r3
    pointwise at e
    exact e
  · have e := r3 (ix2 d n)
    clear r1 r2 r3
    pointwise at e
    exact e

end Cert.DeltaInIdeal.Entry

end
-- ==== Proof.DeltaRef.lean ====
/- The reference's terms before the delta rule, read entry by entry: its result is `DeltaMath.res` of the operands. -/
module

public import proofs.«01_k».proof.Proof.DeltaMath
public import Idealize.ShloMosaic.Lib.Tactic.CleanTypes
public import proofs.«01_k».proof.Proof.Gen.DeltaInReferenceIdeal.Run

@[expose] public section

set_option maxRecDepth 16384

noncomputable section

namespace Cert.DeltaInReferenceIdeal.Entry

open Cert.DeltaInReferenceIdeal Cert.DeltaInReferenceIdeal.Value Cert.TailMath Cert.DeltaMath Idealize.ShloMosaic Idealize.ShloMosaic.TcCoe Idealize.SL.Sem

variable (V0 : Valuation τ sig (Elt Ideal))

/-- The operands, read off the argument arrays: layer 0's norm, projection and taps. -/
def operands : DeltaMath.In where
  h R k := (V0 (Proc.devRef .tc main_arg0) : Vec Ideal S32768x1024 .f32) (ix2 R k)
  g k := (V0 (Proc.devRef .tc main_arg1) : Vec Ideal S2x1024 .f32) (ix2 0 k)
  w k n := (V0 (Proc.devRef .tc main_arg2) : Vec Ideal S1x1024x4224 .bf16) (ix3 0 k n)
  cw d n := (V0 (Proc.devRef .tc main_arg3) : Vec Ideal S1x4x3072 .f32) (ix3 0 d n)

/-- Row `s` of sequence `b`, among all rows. -/
def row (b : Fin 8) (s : Fin 4096) : Fin 32768 := ⟨b * 4096 + s, by omega⟩

theorem proj_at (b : Fin 8) (s : Fin 4096) (n : Fin 4224) : res_main_v18 V0 (ix3 b s n) = proj (operands V0) (row b s) n := by
  unfold proj rms res_main_v18 res_main_v0 operands row
  clean_types
  pointwise

/-- The padded projection: zero in the three rows before a sequence. -/
theorem pad_at (b : Fin 8) (s : Fin 4099) (n : Fin 3072) :
    res_main_v21 V0 (ix3 b s n) = if h : s.val < 3 then 0 else proj (operands V0) (row b ⟨s - 3, by omega⟩) ⟨n, by omega⟩ := by
  unfold res_main_v21
  clean_types
  pointwise
  by_cases h : s.val < 3
  · rw [dif_neg (by omega), dif_pos h]
    show ((((0#32 : BitVec 32).toInt : ℝ)) : EReal) = 0
    simp
  · rw [dif_pos (by omega), dif_neg h]
    exact proj_at V0 b _ _

theorem back_at (d : Nat) (hd : d ≤ 3) (b : Fin 8) (s : Fin 4096) (q : Fin 4099) (hq : q.val = s.val + (3 - d)) (n : Fin 3072) :
    res_main_v21 V0 (ix3 b q n) = back (operands V0) d (row b s) ⟨n, by omega⟩ := by
  rw [pad_at]
  unfold back row
  by_cases h : q.val < 3
  · rw [dif_pos h, dif_pos (by show (b.val * 4096 + s.val) % 4096 < d; omega)]
  · rw [dif_neg h, dif_neg (by show ¬ (b.val * 4096 + s.val) % 4096 < d; omega)]
    congr 1
    apply Fin.ext
    show b.val * 4096 + (q.val - 3) = b.val * 4096 + s.val - d
    omega

theorem mixed_at (b : Fin 8) (s : Fin 4096) (n : Fin 3072) : res_main_v48 V0 (ix3 b s n) = mixed (operands V0) (row b s) n := by
  have e0 : proj (operands V0) (row b s) ⟨n, by omega⟩ = back (operands V0) 0 (row b s) ⟨n, by omega⟩ := by
    unfold back; rw [dif_neg (by omega)]; rfl
  unfold mixed res_main_v48 res_main_v20
  clean_types
  pointwise
  rw [e0, back_at V0 3 (by omega) b s ⟨s, by omega⟩ (by show s.val = _; omega), back_at V0 2 (by omega) b s ⟨1 + s, by omega⟩ (by show 1 + s.val = _; omega),
    back_at V0 1 (by omega) b s ⟨2 + s, by omega⟩ (by show 2 + s.val = _; omega), back_at V0 0 (by omega) b s ⟨3 + s, by omega⟩ (by show 3 + s.val = _; omega)]
  rfl

theorem unit_at (b : Fin 8) (s : Fin 4096) (n : Fin 3072) : res_main_v49 V0 (ix3 b s n) = unit (operands V0) (row b s) n := by
  unfold unit res_main_v49 sigma
  clean_types
  pointwise
  simp only [mixed_at]

/-- A head's query columns before the norm. -/
theorem q_at (b : Fin 8) (s : Fin 4096) (h : Fin 8) (j : Fin 128) :
    res_main_v51 V0 (ix4 b s h j) = unit (operands V0) (row b s) ⟨128 * h + j, by omega⟩ := by
  rw [← unit_at]
  unfold res_main_v51
  clean_types
  pointwise
  simp only [Nat.mul_comm h.val 128]

/-- A head's key columns before the norm. -/
theorem k_at (b : Fin 8) (s : Fin 4096) (h : Fin 8) (j : Fin 128) :
    res_main_v63 V0 (ix4 b s h j) = unit (operands V0) (row b s) ⟨1024 + (128 * h + j), by omega⟩ := by
  rw [← unit_at]
  unfold res_main_v63
  clean_types
  pointwise
  simp only [Nat.mul_comm h.val 128]

/-- The result's parts side by side are `DeltaMath.res`, of the heads before their norm, the gated unit and the projection. -/
theorem parts_at (a : DeltaMath.In) (Q K : FVec Ideal S8x4096x8x128 .f32) (S : FVec Ideal S8x4096x3072 .f32) (P : FVec Ideal S8x4096x4224 .f32)
    (hQ : ∀ b s (h : Fin 8) (j : Fin 128), Q (ix4 b s h j) = unit a (row b s) ⟨128 * h + j, by omega⟩)
    (hK : ∀ b s (h : Fin 8) (j : Fin 128), K (ix4 b s h j) = unit a (row b s) ⟨1024 + (128 * h + j), by omega⟩)
    (hS : ∀ b s n, S (ix3 b s n) = unit a (row b s) n) (hP : ∀ b s n, P (ix3 b s n) = proj a (row b s) n) (R : Fin 32768) (n : Fin 4224) :
    (shapeCast _ ((concatenate S8x4096x4224 2 [⟨S8x4096x1024, ((shapeCast _ (mulf (mulf Q (broadcastInDim S8x4096x8x128 ![0, 1, 2, 3] Gen.bcast_S8x4096x8x1_S8x4096x8x128_0_1_2_3 (Host.rsqrt (addf (broadcastInDim S8x4096x8x1 ![0, 1, 2] Gen.bcast_S8x4096x8_S8x4096x8x1_0_1_2 (Host.reduceAdd (mulf Q Q) (constant S_ .f32 0x00000000#32) Gen.reducesTo_S8x4096x8x128_S8x4096x8_d3 Gen.h_S_)) (broadcastInDim S8x4096x8x1 ![] Gen.bcast_S_S8x4096x8x1 (constant S_ .f32 0x358637BD#32)))))) (broadcastInDim S8x4096x8x128 ![] Gen.bcast_S_S8x4096x8x128 (constant S_ .f32 0x3DB504F3#32))) Gen.shapeCasts_S8x4096x8x128_S8x4096x1024) : (⟨S8x4096x1024, .f32⟩ : BufTy).Contents (Elt Ideal))⟩, ⟨S8x4096x1024, ((shapeCast _ (mulf K (broadcastInDim S8x4096x8x128 ![0, 1, 2, 3] Gen.bcast_S8x4096x8x1_S8x4096x8x128_0_1_2_3 (Host.rsqrt (addf (broadcastInDim S8x4096x8x1 ![0, 1, 2] Gen.bcast_S8x4096x8_S8x4096x8x1_0_1_2 (Host.reduceAdd (mulf K K) (constant S_ .f32 0x00000000#32) Gen.reducesTo_S8x4096x8x128_S8x4096x8_d3 Gen.h_S_)) (broadcastInDim S8x4096x8x1 ![] Gen.bcast_S_S8x4096x8x1 (constant S_ .f32 0x358637BD#32)))))) Gen.shapeCasts_S8x4096x8x128_S8x4096x1024) : (⟨S8x4096x1024, .f32⟩ : BufTy).Contents (Elt Ideal))⟩, ⟨S8x4096x1024, ((extractStridedSlice S8x4096x1024 ![0, 0, 2048] S Gen.slices_S8x4096x3072_S8x4096x1024_0_0_2048) : (⟨S8x4096x1024, .f32⟩ : BufTy).Contents (Elt Ideal))⟩, ⟨S8x4096x1152, ((extractStridedSlice S8x4096x1152 ![0, 0, 3072] P Gen.slices_S8x4096x4224_S8x4096x1152_0_0_3072) : (⟨S8x4096x1152, .f32⟩ : BufTy).Contents (Elt Ideal))⟩] Gen.concatenates_S8x4096x1024_S8x4096x1024_S8x4096x1024_S8x4096x1152_S8x4096x4224_d2 : (⟨S8x4096x4224, .f32⟩ : BufTy).Contents (Elt Ideal))) Gen.shapeCasts_S8x4096x4224_S32768x4224 : Vec Ideal S32768x4224 .f32) (ix2 R n) = res a R n := by
  have eR : row ⟨R / 4096, by omega⟩ ⟨R % 4096, by omega⟩ = R := Fin.ext (by show R.val / 4096 * 4096 + R.val % 4096 = R.val; omega)
  unfold res rlen
  pointwise
  simp only [hQ, hK, hS, hP, eR]
  by_cases h1 : n.val < 1024
  · have e : 128 * (n.val / 128) + n.val % 128 = n.val := by omega
    simp only [h1, ↓reduceDIte, e]
  · by_cases h2 : n.val < 2048
    · have h2' : n.val - 1024 < 1024 := by omega
      have e : 1024 + (128 * ((n.val - 1024) / 128) + (n.val - 1024) % 128) = n.val := by omega
      have e' : ∀ x : Fin 128, 1024 + (128 * ((n.val - 1024) / 128) + x.val) = 128 * (n.val / 128) + x.val := fun x => by omega
      simp only [h1, h2, h2', ↓reduceDIte, e, e']
    · have h2' : ¬ n.val - 1024 < 1024 := by omega
      by_cases h3 : n.val < 3072
      · have h3' : n.val - 1024 - 1024 < 1024 := by omega
        have e : 2048 + (n.val - 1024 - 1024) = n.val := by omega
        simp only [h1, h2, h2', h3, h3', ↓reduceDIte, e]
      · have h3' : ¬ n.val - 1024 - 1024 < 1024 := by omega
        have e : 3072 + (n.val - 1024 - 1024 - 1024) = n.val := by omega
        simp only [h1, h2, h2', h3, h3', ↓reduceDIte, e]

/-- The reference's result, as the generated run states it, is `DeltaMath.res`. -/
theorem result_at (R : Fin 32768) (n : Fin 4224) :
    (shapeCast _ ((concatenate S8x4096x4224 2 [⟨S8x4096x1024, ((shapeCast _ (mulf (mulf (res_main_v51 V0) (broadcastInDim S8x4096x8x128 ![0, 1, 2, 3] Gen.bcast_S8x4096x8x1_S8x4096x8x128_0_1_2_3 (Host.rsqrt (addf (broadcastInDim S8x4096x8x1 ![0, 1, 2] Gen.bcast_S8x4096x8_S8x4096x8x1_0_1_2 (Host.reduceAdd (mulf (res_main_v51 V0) (res_main_v51 V0)) (constant S_ .f32 0x00000000#32) Gen.reducesTo_S8x4096x8x128_S8x4096x8_d3 Gen.h_S_)) (broadcastInDim S8x4096x8x1 ![] Gen.bcast_S_S8x4096x8x1 (constant S_ .f32 0x358637BD#32)))))) (broadcastInDim S8x4096x8x128 ![] Gen.bcast_S_S8x4096x8x128 (constant S_ .f32 0x3DB504F3#32))) Gen.shapeCasts_S8x4096x8x128_S8x4096x1024) : (⟨S8x4096x1024, .f32⟩ : BufTy).Contents (Elt Ideal))⟩, ⟨S8x4096x1024, ((shapeCast _ (mulf (res_main_v63 V0) (broadcastInDim S8x4096x8x128 ![0, 1, 2, 3] Gen.bcast_S8x4096x8x1_S8x4096x8x128_0_1_2_3 (Host.rsqrt (addf (broadcastInDim S8x4096x8x1 ![0, 1, 2] Gen.bcast_S8x4096x8_S8x4096x8x1_0_1_2 (Host.reduceAdd (mulf (res_main_v63 V0) (res_main_v63 V0)) (constant S_ .f32 0x00000000#32) Gen.reducesTo_S8x4096x8x128_S8x4096x8_d3 Gen.h_S_)) (broadcastInDim S8x4096x8x1 ![] Gen.bcast_S_S8x4096x8x1 (constant S_ .f32 0x358637BD#32)))))) Gen.shapeCasts_S8x4096x8x128_S8x4096x1024) : (⟨S8x4096x1024, .f32⟩ : BufTy).Contents (Elt Ideal))⟩, ⟨S8x4096x1024, ((extractStridedSlice S8x4096x1024 ![0, 0, 2048] (res_main_v49 V0) Gen.slices_S8x4096x3072_S8x4096x1024_0_0_2048) : (⟨S8x4096x1024, .f32⟩ : BufTy).Contents (Elt Ideal))⟩, ⟨S8x4096x1152, ((extractStridedSlice S8x4096x1152 ![0, 0, 3072] (res_main_v18 V0) Gen.slices_S8x4096x4224_S8x4096x1152_0_0_3072) : (⟨S8x4096x1152, .f32⟩ : BufTy).Contents (Elt Ideal))⟩] Gen.concatenates_S8x4096x1024_S8x4096x1024_S8x4096x1024_S8x4096x1152_S8x4096x4224_d2 : (⟨S8x4096x4224, .f32⟩ : BufTy).Contents (Elt Ideal))) Gen.shapeCasts_S8x4096x4224_S32768x4224 : Vec Ideal S32768x4224 .f32) (ix2 R n) = res (operands V0) R n :=
  parts_at (operands V0) _ _ _ _ (q_at V0) (k_at V0) (unit_at V0) (proj_at V0) R n

end Cert.DeltaInReferenceIdeal.Entry

end
-- ==== Proof.DeltaInClaims.lean ====
/- The claims of layer 0's call before the delta rule: the three frames, and that kernel and reference compute the same array. -/
module

public import proofs.«01_k».proof.Proof.DeltaPre
public import proofs.«01_k».proof.Proof.DeltaRef
public import proofs.«01_k».proof.Proof.Gen.DeltaInIdeal.Value
public import proofs.«01_k».proof.Proof.Gen.DeltaIn.Frame

@[expose] public section

set_option maxRecDepth 16384

noncomputable section

namespace Cert.DeltaInClaims

open Cert.DeltaMath Idealize.ShloMosaic Idealize.ShloMosaic.TcCoe Idealize.ShloMosaic.StableHlo Idealize.SL.Sem

attribute [local instance] Cert.DeltaInIdeal.Gen.facts Cert.DeltaInReferenceIdeal.Gen.facts Cert.Pre_finite_delta_in.Gen.facts

/-- The reference computes as stated and its semaphores end at zero. -/
theorem frame_reference : Cert.quiescent_DeltaInReferenceIdeal (hDeltaInReferenceIdeal := Cert.DeltaInReferenceIdeal.Gen.facts) := fun m ρ _ =>
  (θ_run Cert.DeltaInReferenceIdeal.defs _ _).mono
    (fun r h => ⟨fun c => (h c).2, Idealize.ShloMosaic.sem_eq_zero_of_no_sems (by decide) r.2⟩)
    (Cert.DeltaInReferenceIdeal.Value.run (F := Ideal) m ρ)

/-- Kernel and reference leave the same array: `DeltaMath.res` of the operands. -/
theorem algebraic : Cert.algebraic_DeltaInIdeal_DeltaInReferenceIdeal_pre_finite_delta_in (hDeltaInIdeal := Cert.DeltaInIdeal.Gen.facts)
    (hDeltaInReferenceIdeal := Cert.DeltaInReferenceIdeal.Gen.facts) (hPre_finite_delta_in := Cert.Pre_finite_delta_in.Gen.facts) := by
  intro m ρ m' ρ' hpre hagree
  refine ⟨fun c => (fun i => res (Cert.DeltaInIdeal.Entry.operands m c) (i 0) (i 1) : Vec Ideal Cert.DeltaInIdeal.S32768x4224 .f32),
    (θ_run Cert.DeltaInIdeal.defs _ _).mono (fun _ h c => ⟨(h c).1.trans ?_, (h c).2⟩) (Cert.DeltaInIdeal.Value.run_blocks (F := Ideal) m ρ),
    (θ_run Cert.DeltaInReferenceIdeal.defs _ _).mono (fun _ h c => ⟨(h c).1.trans ?_, (h c).2⟩) (Cert.DeltaInReferenceIdeal.Value.run (F := Ideal) m' ρ')⟩
  · exact Cert.DeltaInIdeal.Entry.result m c (Cert.DeltaInIdeal.Entry.finite m c hpre)
  · have e : Cert.DeltaInReferenceIdeal.Entry.operands (launchContents m' c) = Cert.DeltaInIdeal.Entry.operands m c := by
      obtain ⟨h0, h1, h2, h3⟩ := hagree c
      unfold Cert.DeltaInReferenceIdeal.Entry.operands Cert.DeltaInIdeal.Entry.operands
      congr 1
      · exact funext fun R => funext fun k => congrFun h0 (ix2 R k)
      · exact funext fun k => congrFun h1 (ix2 0 k)
      · exact funext fun k => funext fun n => congrFun h2 (ix3 0 k n)
      · exact funext fun d => funext fun n => congrFun h3 (ix3 0 d n)
    funext i
    idx_vars i
    rw [← e]
    exact Cert.DeltaInReferenceIdeal.Entry.result_at (launchContents m' c) i0 i1

end Cert.DeltaInClaims

end
-- ==== Proof.MidTailTile.lean ====
/- The kernel's tile of 512 rows, read entry by entry: what the body leaves in the output block is `TailMath.h3` of the
   rows the tile stands for. The tile's 16 halo rows before its first row are the sequence's previous rows, or, at a
   sequence's first tile, zero after the norm. -/
module

public import proofs.«01_k».proof.Proof.TailMath
public import proofs.«01_k».proof.Proof.Gen.MidTailIdeal.Frame

@[expose] public section

set_option maxRecDepth 16384

noncomputable section

namespace Cert.MidTailIdeal.Tile

open Cert.MidTailIdeal Cert.MidTailIdeal.Gen Cert.TailMath Idealize.ShloMosaic Idealize.ShloMosaic.TcCoe Idealize.SL.Sem

/-! ## The body's vectors at an index, over any operands -/

theorem pay2_at (v0 : Vec Ideal S16x1024 .bf16) (v1 : Vec Ideal S512x1024 .bf16) (v3 : Vec Ideal S16x1024 .f32)
    (v4 : Vec Ideal S512x1024 .f32) (v6 : Vec Ideal S1x1024x1024 .bf16) (q : Fin 528) (k : Fin 1024) :
    k0_pay2 v0 v1 v3 v4 v6 (ix2 q k) =
      (if h : q.val < 16 then v3 (ix2 ⟨q, h⟩ k) else v4 (ix2 ⟨q - 16, by omega⟩ k))
        + ∑ j : Fin 1024, (if h : q.val < 16 then v0 (ix2 ⟨q, h⟩ j) else v1 (ix2 ⟨q - 16, by omega⟩ j)) * v6 (ix3 0 j k) := by
  pointwise [k0_pay2]

theorem pay4_at (v0 : Vec Ideal S16x1024 .bf16) (v1 : Vec Ideal S512x1024 .bf16) (v3 : Vec Ideal S16x1024 .f32)
    (v4 : Vec Ideal S512x1024 .f32) (v6 : Vec Ideal S1x1024x1024 .bf16) (v21 : Vec Ideal S1x1024 .f32) (q : Fin 16) (k : Fin 1024) :
    k0_pay4 v0 v1 v3 v4 v6 (ix2 q k) * k0_pay5 v21 (ix2 q k)
      = rms (fun k => k0_pay2 v0 v1 v3 v4 v6 (ix2 ⟨q, by omega⟩ k)) (fun k => v21 (ix2 0 k)) k := by
  unfold rms
  pointwise [k0_pay4, k0_pay5, k0_pay3]

theorem pay6_at (v9 : FVec Ideal S528x1024 .f32) (v20 : BitVec 1) (v22 : FVec Ideal S1x1024 .f32) (v33 : FVec Ideal S16x1024 .f32)
    (v34 : FVec Ideal S16x1024 .f32) (q : Fin 528) (k : Fin 1024) :
    k0_pay6 v9 v20 v22 v33 v34 (ix2 q k) =
      if h : q.val < 16 then Scalar.select v20 (0 : EReal) (v33 (ix2 ⟨q, h⟩ k) * v34 (ix2 ⟨q, h⟩ k))
      else rms (fun k => v9 (ix2 q k)) (fun k => v22 (ix2 0 k)) k := by
  unfold rms
  by_cases h : q.val < 16
  · pointwise [k0_pay6]
    rw [dif_pos h, dif_pos h]
  · pointwise [k0_pay6]
    rw [dif_neg h, dif_neg h]
    have e : 16 + (q.val - 16) = q.val := by omega
    simp only [e, Fin.eta]

/-- The convolution of one half of the up-projection's columns, at a row of the tile and a column. -/
def conv (v53 : Fin 528 → Fin 1024 → EReal) (w : Fin 1024 → EReal) (c : Fin 3 → EReal) (r : Fin 512) : EReal :=
  c 2 * (∑ x, v53 ⟨16 + r, by omega⟩ x * w x) + c 1 * (∑ x, v53 ⟨(16 + r + 528 - 1) % 528, by omega⟩ x * w x)
    + c 0 * (∑ x, v53 ⟨(16 + r + 528 - 2) % 528, by omega⟩ x * w x)

theorem pay7_at (v9 : FVec Ideal S528x1024 .f32) (v20 : BitVec 1) (v22 : FVec Ideal S1x1024 .f32) (v33 : FVec Ideal S16x1024 .f32)
    (v34 : FVec Ideal S16x1024 .f32) (v54 : Vec Ideal S1x1024x2816 .bf16) (v57 : Vec Ideal S3x2816 .f32) (r : Fin 512) (n : Fin 2816) :
    k0_pay7 v9 v20 v22 v33 v34 v54 v57 (ix2 r n) =
      Ideal.ofBits .f32 0x3F000000#32 * conv (fun q x => k0_pay6 v9 v20 v22 v33 v34 (ix2 q x)) (fun x => v54 (ix3 0 x n)) (fun d => v57 (ix2 d n)) r
        + Ideal.ofBits .f32 0x3F000000#32 * conv (fun q x => k0_pay6 v9 v20 v22 v33 v34 (ix2 q x)) (fun x => v54 (ix3 0 x n)) (fun d => v57 (ix2 d n)) r
          * Ideal.tanh (Ideal.ofBits .f32 0x3F000000#32 * conv (fun q x => k0_pay6 v9 v20 v22 v33 v34 (ix2 q x)) (fun x => v54 (ix3 0 x n)) (fun d => v57 (ix2 d n)) r) := by
  unfold conv
  pointwise [k0_pay7]

theorem pay8_at (v9 : FVec Ideal S528x1024 .f32) (v53 : FVec Ideal S528x1024 .bf16) (v77 : FVec Ideal S512x2816 .f32)
    (v78 : Vec Ideal S1x1024x2816 .bf16) (v81 : Vec Ideal S3x2816 .f32) (v100 : Vec Ideal S1x2816x1024 .bf16) (r : Fin 512) (k : Fin 1024) :
    k0_pay8 v9 v53 v77 v78 v81 v100 (ix2 r k) =
      v9 (ix2 ⟨16 + r, by omega⟩ k)
        + ∑ n : Fin 2816, v77 (ix2 r n) * conv (fun q x => v53 (ix2 q x)) (fun x => v78 (ix3 0 x n)) (fun d => v81 (ix2 d n)) r * v100 (ix3 0 n k) := by
  unfold conv
  pointwise [k0_pay8]

theorem pay9_at (v9 : FVec Ideal S528x1024 .f32) (v53 : FVec Ideal S528x1024 .bf16) (v77 : FVec Ideal S512x2816 .f32)
    (v78 : Vec Ideal S1x1024x2816 .bf16) (v81 : Vec Ideal S3x2816 .f32) (v100 : Vec Ideal S1x2816x1024 .bf16) (v104 : Vec Ideal S1x1024 .f32)
    (r : Fin 512) (k : Fin 1024) :
    k0_pay9 v9 v53 v77 v78 v81 v100 v104 (ix2 r k) =
      rms (fun k => k0_pay8 v9 v53 v77 v78 v81 v100 (ix2 r k)) (fun k => v104 (ix2 0 k)) k := by
  unfold rms
  pointwise [k0_pay9]

theorem pay1_at (v103 : FVec Ideal S512x1024 .f32) (v118 : FVec Ideal S512x1024 .bf16) (v119 : Vec Ideal S1x1024x1024 .bf16)
    (v129 : Vec Ideal S1x512x256 .f32) (v132 : Vec Ideal S1x256x1024 .bf16) (r : Fin 512) (k : Fin 1024) :
    k0_pay1 v103 v118 (k0_pay10 v119) (constant S512x1024 .f32 0x00000000#32) v129 v132 (ix2 r k) =
      v103 (ix2 r k) + sigma (∑ j : Fin 1024, v118 (ix2 r j) * v119 (ix3 0 j k)) * ∑ j : Fin 256, v129 (ix3 0 r j) * v132 (ix3 0 j k) := by
  simp only [← sigma_eq]
  pointwise [k0_pay1, k0_pay10]

/-! ## A tile of 512 rows -/

/-- The kernel's test for a sequence's first tile, of the tile's number. -/
def first (n : Nat) : BitVec 1 := Scalar.cmpi .eq (Scalar.select (Scalar.andi (Scalar.xori (Scalar.cmpi .slt (Scalar.remsi (BitVec.ofNat 32 n) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n) (Scalar.select (Scalar.cmpi .eq 8#32 0#32) 1#32 8#32)) 0#32)) (Scalar.addi (Scalar.remsi (BitVec.ofNat 32 n) (Scalar.select (Scalar.cmpi .eq 8#32 0#32) 1#32 8#32)) (Scalar.select (Scalar.cmpi .eq 8#32 0#32) 1#32 8#32)) (Scalar.remsi (BitVec.ofNat 32 n) (Scalar.select (Scalar.cmpi .eq 8#32 0#32) 1#32 8#32))) 0#32

theorem first_eq : ∀ n : Fin 64, first n.val = if n.val % 8 = 0 then 1#1 else 0#1 := by decide +kernel

/-- The input blocks of tile `T` hold the operands: the rows from `512 T`, the 16 rows before them unless the tile is a
    sequence's first, and the weights whole. -/
structure Holds (a : In) (T : Fin 64) (i : grid0.Coords) (x0 : Vec Ideal S512x1024 .f32) (x1 : Vec Ideal S16x1024 .f32) (x2 : Vec Ideal S512x1024 .bf16) (x3 : Vec Ideal S16x1024 .bf16) (x4 : Vec Ideal S1x512x256 .f32) (x5 : Vec Ideal S1x1024x1024 .bf16) (x6 : Vec Ideal S1x1024 .f32) (x7 : Vec Ideal S1x1024x5632 .bf16) (x8 : Vec Ideal S3x5632 .f32) (x9 : Vec Ideal S1x2816x1024 .bf16) (x10 : Vec Ideal S1x1024 .f32) (x11 : Vec Ideal S1x1024x1024 .bf16) (x12 : Vec Ideal S1x256x1024 .bf16) (x13 : Vec Ideal S1x1024 .f32) : Prop where
  t : (i 0).val = T.val
  b0 : ∀ (r : Fin 512) (k : Fin 1024), x0 (ix2 r k) = a.h ⟨512 * T + r, by omega⟩ k
  b1 : T.val % 8 ≠ 0 → ∀ (q : Fin 16) (k : Fin 1024), x1 (ix2 q k) = a.h ⟨512 * T + q - 16, by omega⟩ k
  b2 : ∀ (r : Fin 512) (k : Fin 1024), x2 (ix2 r k) = a.mix ⟨512 * T + r, by omega⟩ k
  b3 : T.val % 8 ≠ 0 → ∀ (q : Fin 16) (k : Fin 1024), x3 (ix2 q k) = a.mix ⟨512 * T + q - 16, by omega⟩ k
  b4 : ∀ (r : Fin 512) (j : Fin 256), x4 (ix3 0 r j) = a.p ⟨512 * T + r, by omega⟩ j
  b5 : ∀ (j k : Fin 1024), x5 (ix3 0 j k) = a.wo j k
  b6 : ∀ (k : Fin 1024), x6 (ix2 0 k) = a.gf k
  b7 : ∀ (k : Fin 1024) (n : Fin 5632), x7 (ix3 0 k n) = a.wup k n
  b8 : ∀ (d : Fin 3) (n : Fin 5632), x8 (ix2 d n) = a.cw d n
  b9 : ∀ (n : Fin 2816) (k : Fin 1024), x9 (ix3 0 n k) = a.wd n k
  b10 : ∀ (k : Fin 1024), x10 (ix2 0 k) = a.gp k
  b11 : ∀ (j k : Fin 1024), x11 (ix3 0 j k) = a.wg j k
  b12 : ∀ (j : Fin 256) (k : Fin 1024), x12 (ix3 0 j k) = a.wp j k
  b13 : ∀ (k : Fin 1024), x13 (ix2 0 k) = a.gl k

variable {a : In} {T : Fin 64} {i : grid0.Coords} {x0 : Vec Ideal S512x1024 .f32} {x1 : Vec Ideal S16x1024 .f32} {x2 : Vec Ideal S512x1024 .bf16} {x3 : Vec Ideal S16x1024 .bf16} {x4 : Vec Ideal S1x512x256 .f32} {x5 : Vec Ideal S1x1024x1024 .bf16} {x6 : Vec Ideal S1x1024 .f32} {x7 : Vec Ideal S1x1024x5632 .bf16} {x8 : Vec Ideal S3x5632 .f32} {x9 : Vec Ideal S1x2816x1024 .bf16} {x10 : Vec Ideal S1x1024 .f32} {x11 : Vec Ideal S1x1024x1024 .bf16} {x12 : Vec Ideal S1x256x1024 .bf16} {x13 : Vec Ideal S1x1024 .f32}
variable (H : Holds a T i x0 x1 x2 x3 x4 x5 x6 x7 x8 x9 x10 x11 x12 x13)
include H

/-- The residual stream on the tile's rows and, unless it is a sequence's first, its halo's. -/
theorem h1_at (q : Fin 528) (hq : T.val % 8 ≠ 0 ∨ 16 ≤ q.val) (k : Fin 1024) :
    k0_pay11 i x0 x1 x2 x3 x4 x5 x6 x7 x8 x9 x10 x11 x12 x13 (ix2 q k) = h1 a ⟨512 * T + q - 16, by omega⟩ k := by
  unfold k0_pay11
  rw [pay2_at]
  unfold h1
  by_cases h : q.val < 16
  · have hT : T.val % 8 ≠ 0 := hq.resolve_right (by omega)
    simp only [dif_pos h]
    pointwise
    simp only [H.b1 hT, H.b3 hT, H.b5]
  · simp only [dif_neg h]
    pointwise
    simp only [H.b0, H.b2, H.b5]
    have e : 512 * T.val + (q.val - 16) = 512 * T.val + q.val - 16 := by omega
    simp only [e]

/-- The normed rows: zero in the halo of a sequence's first tile. -/
theorem xn_at (q : Fin 528) (k : Fin 1024) :
    k0_pay15 i x0 x1 x2 x3 x4 x5 x6 x7 x8 x9 x10 x11 x12 x13 (ix2 q k) = if T.val % 8 = 0 ∧ q.val < 16 then 0 else xn a ⟨512 * T + q - 16, by omega⟩ k := by
  show k0_pay6 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) (ix2 q k) = _
  rw [pay6_at, H.t, first_eq T]
  unfold xn
  by_cases h : q.val < 16
  · rw [dif_pos h]
    by_cases hT : T.val % 8 = 0
    · rw [if_pos hT, if_pos ⟨hT, h⟩]; rfl
    · rw [if_neg hT, if_neg (fun c => hT c.1)]
      show k0_pay13 i x0 x1 x2 x3 x4 x5 x6 x7 x8 x9 x10 x11 x12 x13 _ * k0_pay14 i x0 x1 x2 x3 x4 x5 x6 x7 x8 x9 x10 x11 x12 x13 _ = _
      unfold k0_pay13 k0_pay14
      rw [pay4_at]
      congr 1
      · funext k
        exact h1_at H q (.inl hT) k
      · funext k
        pointwise
        exact H.b6 k
  · rw [dif_neg h, if_neg (fun c => h c.2)]
    congr 1
    · funext k
      exact h1_at H q (.inr (by omega)) k
    · funext k
      unfold k0_pay12
      pointwise [k0_pay3]
      exact H.b6 k

/-- A normed row of the tile, `d` rows back, times a column of the up projection. -/
theorem up_at (d : Nat) (hd : d ≤ 2) (r : Fin 512) (q : Fin 528) (hq : q.val = 16 + r.val - d) (n : Fin 5632) :
    ∑ x : Fin 1024, k0_pay15 i x0 x1 x2 x3 x4 x5 x6 x7 x8 x9 x10 x11 x12 x13 (ix2 q x) * a.wup x n = uBack a d ⟨512 * T + r, by omega⟩ n := by
  unfold uBack
  by_cases hz : T.val % 8 = 0 ∧ q.val < 16
  · rw [dif_pos (by show (512 * T.val + r.val) % 4096 < d; omega)]
    refine Finset.sum_eq_zero fun x _ => ?_
    rw [xn_at H, if_pos hz, zero_mul]
  · rw [dif_neg (by show ¬ (512 * T.val + r.val) % 4096 < d; omega)]
    unfold u
    refine Finset.sum_congr rfl fun x _ => ?_
    rw [xn_at H, if_neg hz]
    have e : 512 * T.val + q.val - 16 = 512 * T.val + r.val - d := by omega
    simp only [e]

omit H in
theorem uBack_zero (R : Fin 32768) (n : Fin 5632) : uBack a 0 R n = u a R n := by
  unfold uBack; rw [dif_neg (by omega)]; rfl

/-- The convolution on the tile's rows. -/
theorem conv_at (r : Fin 512) (n : Fin 5632) :
    conv (fun q x => k0_pay15 i x0 x1 x2 x3 x4 x5 x6 x7 x8 x9 x10 x11 x12 x13 (ix2 q x)) (fun x => a.wup x n) (fun d => a.cw d n) r = y a ⟨512 * T + r, by omega⟩ n := by
  unfold conv y
  rw [up_at H 0 (by omega) r _ (by show 16 + r.val = _; omega), up_at H 1 (by omega) r _ (by show (16 + r.val + 528 - 1) % 528 = _; omega),
    up_at H 2 (by omega) r _ (by show (16 + r.val + 528 - 2) % 528 = _; omega), uBack_zero]
  rw [add_comm (_ + _) (a.cw 0 n * _), add_comm (a.cw 2 n * _), ← add_assoc]

/-- The gated unit's first factor. -/
theorem silu_at (F : Finite a) (r : Fin 512) (n : Fin 2816) :
    k0_pay16 i x0 x1 x2 x3 x4 x5 x6 x7 x8 x9 x10 x11 x12 x13 (ix2 r n) = y a ⟨512 * T + r, by omega⟩ ⟨n, by omega⟩ * sigma (y a ⟨512 * T + r, by omega⟩ ⟨n, by omega⟩) := by
  have e := conv_at H r ⟨n, by omega⟩
  show k0_pay7 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) _ _ (ix2 r n) = _
  rw [pay7_at]
  have e' : conv (fun q x => k0_pay6 (k0_pay11 i x0 x1 x2 x3 x4 x5 x6 x7 x8 x9 x10 x11 x12 x13) (first (i 0).val) (k0_pay12 i x0 x1 x2 x3 x4 x5 x6 x7 x8 x9 x10 x11 x12 x13) (k0_pay13 i x0 x1 x2 x3 x4 x5 x6 x7 x8 x9 x10 x11 x12 x13) (k0_pay14 i x0 x1 x2 x3 x4 x5 x6 x7 x8 x9 x10 x11 x12 x13) (ix2 q x))
      (fun x => View.ld x7 r0_4 (ix3 0 x n)) (fun d => View.ld x8 r0_5 (ix2 d n)) r = y a ⟨512 * T + r, by omega⟩ ⟨n, by omega⟩ := by
    have e7 : (fun x : Fin 1024 => View.ld x7 r0_4 (ix3 0 x n)) = fun x => a.wup x ⟨n, by omega⟩ := by
      funext x; pointwise; exact H.b7 x _
    have e8 : (fun d : Fin 3 => View.ld x8 r0_5 (ix2 d n)) = fun d => a.cw d ⟨n, by omega⟩ := by
      funext d; pointwise; exact H.b8 d _
    rw [e7, e8]
    exact e
  rw [e', silu_eq (y_fin F _ _)]

/-- The residual stream after the feed-forward layer. -/
theorem h2_at (F : Finite a) (r : Fin 512) (k : Fin 1024) :
    k0_pay8 (k0_pay11 i x0 x1 x2 x3 x4 x5 x6 x7 x8 x9 x10 x11 x12 x13) (k0_pay15 i x0 x1 x2 x3 x4 x5 x6 x7 x8 x9 x10 x11 x12 x13) (k0_pay16 i x0 x1 x2 x3 x4 x5 x6 x7 x8 x9 x10 x11 x12 x13) (View.ld x7 r0_6) (View.ld x8 r0_7) (View.ld x9 r0_8) (ix2 r k) = h2 a ⟨512 * T + r, by omega⟩ k := by
  rw [pay8_at, h1_at H _ (.inr (by show 16 ≤ 16 + r.val; omega))]
  unfold h2
  have e : 512 * T.val + (16 + r.val) - 16 = 512 * T.val + r.val := by omega
  simp only [e]
  congr 1
  refine Finset.sum_congr rfl fun n _ => ?_
  have e7 : (fun x : Fin 1024 => View.ld x7 r0_6 (ix3 0 x n)) = fun x => a.wup x ⟨2816 + n, by omega⟩ := by
    funext x; pointwise; exact H.b7 x _
  have e8 : (fun d : Fin 3 => View.ld x8 r0_7 (ix2 d n)) = fun d => a.cw d ⟨2816 + n, by omega⟩ := by
    funext d; pointwise; exact H.b8 d _
  have e9 : View.ld x9 r0_8 (ix3 0 n k) = a.wd n k := by
    pointwise; exact H.b9 n k
  rw [e7, e8, e9, conv_at H, silu_at H F]
  rfl

/-- What the body leaves in the output block is the residual stream after the layer, on the tile's rows. -/
theorem out_at (F : Finite a) (r : Fin 512) (k : Fin 1024) :
    out0_14 i x0 x1 x2 x3 x4 x5 x6 x7 x8 x9 x10 x11 x12 x13 (ix2 r k) = h3 a ⟨512 * T + r, by omega⟩ k := by
  unfold out0_14
  rw [View.canon_unit_zero (funext fun a => by fin_cases a <;> rfl)]
  rw [pay1_at, h2_at H F]
  unfold h3 gate
  have eg : (∑ j : Fin 1024, k0_pay9 (k0_pay11 i x0 x1 x2 x3 x4 x5 x6 x7 x8 x9 x10 x11 x12 x13) (k0_pay15 i x0 x1 x2 x3 x4 x5 x6 x7 x8 x9 x10 x11 x12 x13) (k0_pay16 i x0 x1 x2 x3 x4 x5 x6 x7 x8 x9 x10 x11 x12 x13) (View.ld x7 r0_6) (View.ld x8 r0_7) (View.ld x9 r0_8) (View.ld x10 r0_3) (ix2 r j) * View.ld x11 r0_2 (ix3 0 j k))
      = ∑ j : Fin 1024, rms (h2 a ⟨512 * T + r, by omega⟩) a.gp j * a.wg j k := by
    refine Finset.sum_congr rfl fun j _ => ?_
    rw [pay9_at]
    congr 1
    · congr 1
      · funext k; exact h2_at H F r k
      · funext k; pointwise; exact H.b10 k
    · pointwise; exact H.b11 j k
  have ep : (∑ j : Fin 256, View.ld x4 r0_9 (ix3 0 r j) * View.ld x12 r0_10 (ix3 0 j k)) = ∑ j : Fin 256, a.p ⟨512 * T + r, by omega⟩ j * a.wp j k := by
    refine Finset.sum_congr rfl fun j _ => ?_
    pointwise
    rw [H.b4, H.b12]
  rw [eg, ep]

end Cert.MidTailIdeal.Tile

end
-- ==== Proof.MidTailKernel.lean ====
/- The kernel's result array after the run: `TailMath.h3` of the operands, read off the argument arrays. -/
module

public import proofs.«01_k».proof.Proof.MidTailTile
public import proofs.«01_k».proof.Proof.Gen.MidTailIdeal.Value
public import Idealize.ShloMosaic.Lib.Pipeline.ValueKit
public import Idealize.ShloMosaic.Lib.Claim

@[expose] public section

set_option maxRecDepth 16384

noncomputable section

namespace Cert.MidTailIdeal.Entry

open Cert.MidTailIdeal Cert.MidTailIdeal.Gen Cert.TailMath Idealize.ShloMosaic Idealize.ShloMosaic.TcCoe Idealize.SL.Sem
open Idealize.ShloMosaic.Pipeline (Dat)

variable (m : (ℓ : Loc nD τ sig) → Buf (Elt Ideal) ℓ) (c : Dev nD)

/-- The operands, read off the argument arrays: layer 0's slices of the arrays that hold both layers. -/
def operands : In where
  h R k := (m ((c : Thread nD τ).loc main_arg0) : Vec Ideal S32768x1024 .f32) (ix2 R k)
  mix R k := (m ((c : Thread nD τ).loc main_arg1) : Vec Ideal S32768x1024 .bf16) (ix2 R k)
  p R j := (m ((c : Thread nD τ).loc main_arg2) : Vec Ideal S2x8x4096x256 .f32) (ix4 0 ⟨R / 4096, by omega⟩ ⟨R % 4096, by omega⟩ j)
  wo j k := (m ((c : Thread nD τ).loc main_arg3) : Vec Ideal S1x1024x1024 .bf16) (ix3 0 j k)
  gf k := (m ((c : Thread nD τ).loc main_arg4) : Vec Ideal S2x1024 .f32) (ix2 0 k)
  wup k n := (m ((c : Thread nD τ).loc main_arg5) : Vec Ideal S2x1024x5632 .bf16) (ix3 0 k n)
  cw d n := (m ((c : Thread nD τ).loc main_arg6) : Vec Ideal S2x3x5632 .f32) (ix3 0 d n)
  wd n k := (m ((c : Thread nD τ).loc main_arg7) : Vec Ideal S2x2816x1024 .bf16) (ix3 0 n k)
  gp k := (m ((c : Thread nD τ).loc main_arg8) : Vec Ideal S2x1024 .f32) (ix2 0 k)
  wg j k := (m ((c : Thread nD τ).loc main_arg9) : Vec Ideal S2x1024x1024 .bf16) (ix3 0 j k)
  wp j k := (m ((c : Thread nD τ).loc main_arg10) : Vec Ideal S2x256x1024 .bf16) (ix3 0 j k)
  gl k := (m ((c : Thread nD τ).loc main_arg11) : Vec Ideal S1024 .f32) (ix1 k)

/-- Each window's block index at a point. -/
theorem idx : ∀ t : Fin grid0.N, (grid0.coords t 0).val = t.val ∧ win0_0.index t = ![t.val, 0] ∧ win0_1.index t = ![t.val * 32 - 1, 0]
    ∧ win0_2.index t = ![t.val, 0] ∧ win0_3.index t = ![t.val * 32 - 1, 0] ∧ win0_4.index t = ![0, t.val, 0]
    ∧ win0_5.index t = ![0, 0, 0] ∧ win0_6.index t = ![0, 0] ∧ win0_7.index t = ![0, 0, 0] ∧ win0_8.index t = ![0, 0]
    ∧ win0_9.index t = ![0, 0, 0] ∧ win0_10.index t = ![0, 0] ∧ win0_11.index t = ![0, 0, 0] ∧ win0_12.index t = ![0, 0, 0]
    ∧ win0_13.index t = ![0, 0] ∧ win0_14.index t = ![t.val, 0] := by decide +kernel

theorem lt64 (t : Fin cfg0.N) : t.val < 64 := t.isLt

theorem blk0 (t : Fin cfg0.N) (r : Fin 512) (k : Fin 1024) : iblk m c 0 t (ix2 r k) = (operands m c).h ⟨512 * t + r, by have := lt64 t; omega⟩ k := by
  have e := (idx t).2.1
  have ht := lt64 t
  unfold operands; dsimp only
  blk_ext [iblk, V, e]

theorem blk1 (t : Fin cfg0.N) (hT : t.val % 8 ≠ 0) (q : Fin 16) (k : Fin 1024) : iblk m c 1 t (ix2 q k) = (operands m c).h ⟨512 * t + q - 16, by have := lt64 t; omega⟩ k := by
  have e := (idx t).2.2.1
  have ht := lt64 t
  unfold operands; dsimp only
  blk_ext [iblk, V, e]

theorem blk2 (t : Fin cfg0.N) (r : Fin 512) (k : Fin 1024) : iblk m c 2 t (ix2 r k) = (operands m c).mix ⟨512 * t + r, by have := lt64 t; omega⟩ k := by
  have e := (idx t).2.2.2.1
  have ht := lt64 t
  unfold operands; dsimp only
  blk_ext [iblk, V, e]

theorem blk3 (t : Fin cfg0.N) (hT : t.val % 8 ≠ 0) (q : Fin 16) (k : Fin 1024) : iblk m c 3 t (ix2 q k) = (operands m c).mix ⟨512 * t + q - 16, by have := lt64 t; omega⟩ k := by
  have e := (idx t).2.2.2.2.1
  have ht := lt64 t
  unfold operands; dsimp only
  blk_ext [iblk, V, e]

theorem blk4 (t : Fin cfg0.N) (r : Fin 512) (j : Fin 256) : iblk m c 4 t (ix3 0 r j) = (operands m c).p ⟨512 * t + r, by have := lt64 t; omega⟩ j := by
  have e := (idx t).2.2.2.2.2.1
  have ht := lt64 t
  unfold operands; dsimp only
  blk_ext! [iblk, V, e]

theorem blk5 (t : Fin cfg0.N) (j k : Fin 1024) : iblk m c 5 t (ix3 0 j k) = (operands m c).wo j k := by
  have e := (idx t).2.2.2.2.2.2.1
  have ht := lt64 t
  unfold operands; dsimp only
  blk_ext [iblk, V, e]

theorem blk6 (t : Fin cfg0.N) (k : Fin 1024) : iblk m c 6 t (ix2 0 k) = (operands m c).gf k := by
  have e := (idx t).2.2.2.2.2.2.2.1
  have ht := lt64 t
  unfold operands; dsimp only
  blk_ext! [iblk, V, e]

theorem blk7 (t : Fin cfg0.N) (k : Fin 1024) (n : Fin 5632) : iblk m c 7 t (ix3 0 k n) = (operands m c).wup k n := by
  have e := (idx t).2.2.2.2.2.2.2.2.1
  have ht := lt64 t
  unfold operands; dsimp only
  blk_ext [iblk, V, e]

theorem blk8 (t : Fin cfg0.N) (d : Fin 3) (n : Fin 5632) : iblk m c 8 t (ix2 d n) = (operands m c).cw d n := by
  have e := (idx t).2.2.2.2.2.2.2.2.2.1
  have ht := lt64 t
  unfold operands; dsimp only
  blk_ext! [iblk, V, e]

theorem blk9 (t : Fin cfg0.N) (n : Fin 2816) (k : Fin 1024) : iblk m c 9 t (ix3 0 n k) = (operands m c).wd n k := by
  have e := (idx t).2.2.2.2.2.2.2.2.2.2.1
  have ht := lt64 t
  unfold operands; dsimp only
  blk_ext [iblk, V, e]

theorem blk10 (t : Fin cfg0.N) (k : Fin 1024) : iblk m c 10 t (ix2 0 k) = (operands m c).gp k := by
  have e := (idx t).2.2.2.2.2.2.2.2.2.2.2.1
  have ht := lt64 t
  unfold operands; dsimp only
  blk_ext! [iblk, V, e]

theorem blk11 (t : Fin cfg0.N) (j k : Fin 1024) : iblk m c 11 t (ix3 0 j k) = (operands m c).wg j k := by
  have e := (idx t).2.2.2.2.2.2.2.2.2.2.2.2.1
  have ht := lt64 t
  unfold operands; dsimp only
  blk_ext [iblk, V, e]

theorem blk12 (t : Fin cfg0.N) (j : Fin 256) (k : Fin 1024) : iblk m c 12 t (ix3 0 j k) = (operands m c).wp j k := by
  have e := (idx t).2.2.2.2.2.2.2.2.2.2.2.2.2.1
  have ht := lt64 t
  unfold operands; dsimp only
  blk_ext [iblk, V, e]

theorem blk13 (t : Fin cfg0.N) (k : Fin 1024) : iblk m c 13 t (ix2 0 k) = (operands m c).gl k := by
  have e := (idx t).2.2.2.2.2.2.2.2.2.2.2.2.2.2.1
  have ht := lt64 t
  unfold operands; dsimp only
  blk_ext! [iblk, V, e]

/-- The input blocks of a point hold the operands. -/
theorem tile (t : Fin cfg0.N) : Tile.Holds (operands m c) ⟨t.val, lt64 t⟩ (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t) (iblk m c 13 t) :=
  ⟨(idx t).1, blk0 m c t, blk1 m c t, blk2 m c t, blk3 m c t, blk4 m c t, blk5 m c t, blk6 m c t, blk7 m c t, blk8 m c t, blk9 m c t, blk10 m c t, blk11 m c t, blk12 m c t, blk13 m c t⟩

/-- The result array after the run. -/
theorem result (F : Finite (operands m c)) :
    (dats m 0 c).arrAt 14 cfg0.N = (fun i => h3 (operands m c) (i 0) (i 1) : Vec Ideal S32768x1024 .f32) := by
  refine (dats m 0 c).arrAt_eq_of_covers 14 _ (by decide +kernel) fun t hf y => ?_
  have e14 := (idx t).2.2.2.2.2.2.2.2.2.2.2.2.2.2.2
  blk_simp
  rw [after0_14]
  idx_vars y
  refine (Tile.out_at (tile m c t) F y0 y1).trans ?_
  congr 1
  · apply Fin.ext
    blk_simp [e14]
    show 512 * t.val + y0.val = _
    simp
    omega
  · apply Fin.ext
    blk_simp [e14]

end Cert.MidTailIdeal.Entry

end
-- ==== Proof.MidTailPre.lean ====
/- The precondition, read: the operands that reach the gated unit's argument are real numbers. -/
module

public import proofs.«01_k».proof.Proof.MidTailKernel
public import proofs.«01_k».proof.Proof.TailPre
public import proofs.«01_k».proof.Proof.Gen.Pre_finite_mid_tail
public import proofs.«01_k».proof.Defs
public import Idealize.ShloMosaic.Lib.ReduceAll
public import Idealize.ShloMosaic.Lib.Affine
public import Idealize.ShloMosaic.Lib.Pointwise

@[expose] public section

set_option maxRecDepth 16384

noncomputable section

namespace Cert.MidTailIdeal.Entry

open Cert.MidTailIdeal Cert.TailMath Idealize.ShloMosaic Idealize.ShloMosaic.TcCoe Idealize.SL.Sem

attribute [local instance] Cert.Pre_finite_mid_tail.Gen.facts

variable (m : (ℓ : Loc nD τ sig) → Buf (Elt Ideal) ℓ) (c : Dev nD)

/-- Under the precondition the operands that reach the gated unit's argument are real. -/
theorem finite (h : Cert.Pre_MidTailIdeal_finite_mid_tail m) : Finite (operands m c) := by
  have h := congrFun (h c) (fun a => a.elim0)
  unfold Cert.Pre_finite_mid_tail.fn Cert.Pre_finite_mid_tail.fn_part1 at h
  dsimp only at h
  obtain ⟨h, h6⟩ := IntOp.andi_eq_one.mp h
  obtain ⟨h4, h5⟩ := IntOp.andi_eq_one.mp h
  have : Subsingleton Cert.Pre_finite_mid_tail.S_.Idx := ⟨fun a b => funext fun i => i.elim0⟩
  have r4 := all_real _ _ (fun _ => rfl) _ _ _ _ h4
  have r5 := all_real _ _ (fun _ => rfl) _ _ _ _ h5
  have r6 := all_real _ _ (fun _ => rfl) _ _ _ _ h6
  clear h h4 h5 h6
  refine ⟨fun k => ?_, fun k n => ?_, fun d n => ?_⟩
  · have e := r4 (ix1 k)
    clear r4 r5 r6
    pointwise at e
    exact e
  · have e := r5 (ix2 k n)
    clear r4 r5 r6
    pointwise at e
    exact e
  · have e := r6 (ix2 d n)
    clear r4 r5 r6
    pointwise at e
    exact e

end Cert.MidTailIdeal.Entry

end
-- ==== Proof.MidTailRef.lean ====
/- The reference's terms, read entry by entry: its result is `TailMath.h3` of the operands. -/
module

public import proofs.«01_k».proof.Proof.TailMath
public import Idealize.ShloMosaic.Lib.Tactic.CleanTypes
public import proofs.«01_k».proof.Proof.Gen.MidTailReferenceIdeal.Run

@[expose] public section

set_option maxRecDepth 16384

noncomputable section

namespace Cert.MidTailReferenceIdeal.Entry

open Cert.MidTailReferenceIdeal Cert.MidTailReferenceIdeal.Value Cert.TailMath Idealize.ShloMosaic Idealize.ShloMosaic.TcCoe Idealize.SL.Sem

variable (V0 : Valuation τ sig (Elt Ideal))

/-- The operands, read off the argument arrays: layer 0's slices of the arrays that hold both layers. -/
def operands : In where
  h R k := (V0 (Proc.devRef .tc main_arg0) : Vec Ideal S32768x1024 .f32) (ix2 R k)
  mix R k := (V0 (Proc.devRef .tc main_arg1) : Vec Ideal S32768x1024 .bf16) (ix2 R k)
  p R j := (V0 (Proc.devRef .tc main_arg2) : Vec Ideal S2x8x4096x256 .f32) (ix4 0 ⟨R / 4096, by omega⟩ ⟨R % 4096, by omega⟩ j)
  wo j k := (V0 (Proc.devRef .tc main_arg3) : Vec Ideal S1x1024x1024 .bf16) (ix3 0 j k)
  gf k := (V0 (Proc.devRef .tc main_arg4) : Vec Ideal S2x1024 .f32) (ix2 0 k)
  wup k n := (V0 (Proc.devRef .tc main_arg5) : Vec Ideal S2x1024x5632 .bf16) (ix3 0 k n)
  cw d n := (V0 (Proc.devRef .tc main_arg6) : Vec Ideal S2x3x5632 .f32) (ix3 0 d n)
  wd n k := (V0 (Proc.devRef .tc main_arg7) : Vec Ideal S2x2816x1024 .bf16) (ix3 0 n k)
  gp k := (V0 (Proc.devRef .tc main_arg8) : Vec Ideal S2x1024 .f32) (ix2 0 k)
  wg j k := (V0 (Proc.devRef .tc main_arg9) : Vec Ideal S2x1024x1024 .bf16) (ix3 0 j k)
  wp j k := (V0 (Proc.devRef .tc main_arg10) : Vec Ideal S2x256x1024 .bf16) (ix3 0 j k)
  gl k := (V0 (Proc.devRef .tc main_arg11) : Vec Ideal S1024 .f32) (ix1 k)

/-- Row `s` of sequence `b`, among all rows. -/
def row (b : Fin 8) (s : Fin 4096) : Fin 32768 := ⟨b * 4096 + s, by omega⟩

theorem h1_at (b : Fin 8) (s : Fin 4096) (k : Fin 1024) : res_main_v6 V0 (ix3 b s k) = h1 (operands V0) (row b s) k := by
  unfold h1 res_main_v6 operands row
  clean_types
  pointwise

/-- The padded up projection: zero in the two rows before a sequence. -/
theorem u_at (b : Fin 8) (s : Fin 4098) (n : Fin 5632) :
    res_main_v31 V0 (ix3 b s n) = if h : s.val < 2 then 0 else u (operands V0) (row b ⟨s - 2, by omega⟩) n := by
  unfold u xn rms res_main_v31
  clean_types
  pointwise
  by_cases h : s.val < 2
  · rw [dif_neg (by omega), dif_pos h]
    show ((((0#32 : BitVec 32).toInt : ℝ)) : EReal) = 0
    simp
  · rw [dif_pos (by omega), dif_neg h]
    simp only [h1_at]
    rfl

theorem back_at (d : Nat) (hd : d ≤ 2) (b : Fin 8) (s : Fin 4096) (q : Fin 4098) (hq : q.val = s.val + (2 - d)) (n : Fin 5632) :
    res_main_v31 V0 (ix3 b q n) = uBack (operands V0) d (row b s) n := by
  rw [u_at]
  unfold uBack row
  by_cases h : q.val < 2
  · rw [dif_pos h, dif_pos (by show (b.val * 4096 + s.val) % 4096 < d; omega)]
  · rw [dif_neg h, dif_neg (by show ¬ (b.val * 4096 + s.val) % 4096 < d; omega)]
    congr 1
    apply Fin.ext
    show b.val * 4096 + (q.val - 2) = b.val * 4096 + s.val - d
    omega

theorem y_at (b : Fin 8) (s : Fin 4096) (n : Fin 5632) : res_main_v51 V0 (ix3 b s n) = y (operands V0) (row b s) n := by
  have e0 : u (operands V0) (row b s) n = uBack (operands V0) 0 (row b s) n := by
    unfold uBack; rw [dif_neg (by omega)]; rfl
  unfold y res_main_v51 res_main_v26
  clean_types
  pointwise
  rw [e0, back_at V0 2 (by omega) b s ⟨s, by omega⟩ (by show s.val = _; omega), back_at V0 1 (by omega) b s ⟨1 + s, by omega⟩ (by show 1 + s.val = _; omega),
    back_at V0 0 (by omega) b s ⟨2 + s, by omega⟩ (by show 2 + s.val = _; omega)]
  rfl

theorem h2_at (b : Fin 8) (s : Fin 4096) (k : Fin 1024) : res_main_v57 V0 (ix3 b s k) = h2 (operands V0) (row b s) k := by
  unfold h2 res_main_v57 res_main_v52 act sigma
  clean_types
  pointwise
  simp only [h1_at, y_at]
  rfl

/-- The reference's residual stream after the layer, the term that the generated run reshapes. -/
def stream : FVec Ideal S8x4096x1024 .f32 :=
  addf (res_main_v57 V0) (mulf (Host.divf (broadcastInDim S8x4096x1024 ![] Gen.bcast_S_S8x4096x1024 (constant S_ .f32 0x3F800000#32)) (addf (broadcastInDim S8x4096x1024 ![] Gen.bcast_S_S8x4096x1024 (constant S_ .f32 0x3F800000#32)) (Host.exp (Host.negf (Host.dotGeneral dot_S8x4096x1024_S1024x1024_S8x4096x1024_2_0_01_1_n_n none (mulf (mulf (res_main_v57 V0) (broadcastInDim S8x4096x1024 ![0, 1, 2] Gen.bcast_S8x4096x1_S8x4096x1024_0_1_2 (Host.rsqrt (addf (Host.divf (broadcastInDim S8x4096x1 ![0, 1] Gen.bcast_S8x4096_S8x4096x1_0_1 (Host.reduceAdd (mulf (res_main_v57 V0) (res_main_v57 V0)) (constant S_ .f32 0x00000000#32) Gen.reducesTo_S8x4096x1024_S8x4096_d2 Gen.h_S_)) (broadcastInDim S8x4096x1 ![] Gen.bcast_S_S8x4096x1 (constant S_ .f32 0x44800000#32))) (broadcastInDim S8x4096x1 ![] Gen.bcast_S_S8x4096x1 (constant S_ .f32 0x358637BD#32)))))) (broadcastInDim S8x4096x1024 ![0, 1, 2] Gen.bcast_S1x1x1024_S8x4096x1024_0_1_2 (broadcastInDim S1x1x1024 ![2] Gen.bcast_S1024_S1x1x1024_2 (shapeCast _ (extractStridedSlice S1x1024 ![0, 0] (V0 (Proc.devRef .tc main_arg8)) Gen.slices_S2x1024_S1x1024_0_0) Gen.shapeCasts_S1x1024_S1024)))) (shapeCast _ (extractStridedSlice S1x1024x1024 ![0, 0, 0] (extf .f32 (V0 (Proc.devRef .tc main_arg9)) Gen.bitsLt_bf16_f32) Gen.slices_S2x1024x1024_S1x1024x1024_0_0_0) Gen.shapeCasts_S1x1024x1024_S1024x1024)))))) (Host.dotGeneral (φ₁ := .f32) dot_S8x4096x256_S256x1024_S8x4096x1024_2_0_01_1_n_n none (shapeCast _ (extractStridedSlice S1x8x4096x256 ![0, 0, 0, 0] (V0 (Proc.devRef .tc main_arg2) : Vec Ideal S2x8x4096x256 .f32) Gen.slices_S2x8x4096x256_S1x8x4096x256_0_0_0_0) Gen.shapeCasts_S1x8x4096x256_S8x4096x256) (shapeCast _ (extractStridedSlice S1x256x1024 ![0, 0, 0] (extf .f32 (V0 (Proc.devRef .tc main_arg10)) Gen.bitsLt_bf16_f32) Gen.slices_S2x256x1024_S1x256x1024_0_0_0) Gen.shapeCasts_S1x256x1024_S256x1024)))

theorem h3_at (b : Fin 8) (s : Fin 4096) (k : Fin 1024) : stream V0 (ix3 b s k) = h3 (operands V0) (row b s) k := by
  have ep : ∀ j : Fin 256, (operands V0).p (row b s) j = (V0 (Proc.devRef .tc main_arg2) : Vec Ideal S2x8x4096x256 .f32) (ix4 0 b s j) := by
    intro j
    have eb : (⟨(row b s).val / 4096, by omega⟩ : Fin 8) = b := Fin.ext (by show (b.val * 4096 + s.val) / 4096 = b.val; omega)
    have es : (⟨(row b s).val % 4096, by omega⟩ : Fin 4096) = s := Fin.ext (by show (b.val * 4096 + s.val) % 4096 = s.val; omega)
    show (V0 (Proc.devRef .tc main_arg2) : Vec Ideal S2x8x4096x256 .f32) (ix4 0 ⟨(row b s).val / 4096, by omega⟩ ⟨(row b s).val % 4096, by omega⟩ j) = _
    rw [eb, es]
  unfold h3 stream gate sigma rms
  clean_types
  pointwise
  simp only [h2_at, ep]
  rfl

/-- The reference's result, as the generated run states it, is the residual stream after the layer. -/
theorem result_at (R : Fin 32768) (k : Fin 1024) :
    (shapeCast S32768x1024 (stream V0) Gen.shapeCasts_S8x4096x1024_S32768x1024 : Vec Ideal S32768x1024 .f32) (ix2 R k)
      = h3 (operands V0) R k := by
  have eR : R = row ⟨R / 4096, by omega⟩ ⟨R % 4096, by omega⟩ := Fin.ext (by show R.val = R.val / 4096 * 4096 + R.val % 4096; omega)
  clean_types
  pointwise
  rw [h3_at, ← eR]

end Cert.MidTailReferenceIdeal.Entry

end
-- ==== Proof.MidTailClaims.lean ====
/- The claims of layer 0's tail: the three frames, and that kernel and reference compute the same array. -/
module

public import proofs.«01_k».proof.Proof.MidTailPre
public import proofs.«01_k».proof.Proof.MidTailRef
public import proofs.«01_k».proof.Proof.Gen.MidTailIdeal.Value
public import proofs.«01_k».proof.Proof.Gen.MidTail.Frame

@[expose] public section

set_option maxRecDepth 16384

noncomputable section

namespace Cert.MidTailClaims

open Cert.TailMath Idealize.ShloMosaic Idealize.ShloMosaic.TcCoe Idealize.ShloMosaic.StableHlo Idealize.SL.Sem

attribute [local instance] Cert.MidTailIdeal.Gen.facts Cert.MidTailReferenceIdeal.Gen.facts Cert.Pre_finite_mid_tail.Gen.facts

/-- The reference computes as stated and its semaphores end at zero. -/
theorem frame_reference : Cert.quiescent_MidTailReferenceIdeal (hMidTailReferenceIdeal := Cert.MidTailReferenceIdeal.Gen.facts) := fun m ρ _ =>
  (θ_run Cert.MidTailReferenceIdeal.defs _ _).mono
    (fun r h => ⟨fun c => (h c).2, Idealize.ShloMosaic.sem_eq_zero_of_no_sems (by decide) r.2⟩)
    (Cert.MidTailReferenceIdeal.Value.run (F := Ideal) m ρ)

/-- Kernel and reference leave the same array: `TailMath.h3` of the operands. -/
theorem algebraic : Cert.algebraic_MidTailIdeal_MidTailReferenceIdeal_pre_finite_mid_tail (hMidTailIdeal := Cert.MidTailIdeal.Gen.facts)
    (hMidTailReferenceIdeal := Cert.MidTailReferenceIdeal.Gen.facts) (hPre_finite_mid_tail := Cert.Pre_finite_mid_tail.Gen.facts) := by
  intro m ρ m' ρ' hpre hagree
  refine ⟨fun c => (fun i => h3 (Cert.MidTailIdeal.Entry.operands m c) (i 0) (i 1) : Vec Ideal Cert.MidTailIdeal.S32768x1024 .f32),
    (θ_run Cert.MidTailIdeal.defs _ _).mono (fun _ h c => ⟨(h c).1.trans ?_, (h c).2⟩) (Cert.MidTailIdeal.Value.run_blocks (F := Ideal) m ρ),
    (θ_run Cert.MidTailReferenceIdeal.defs _ _).mono (fun _ h c => ⟨(h c).1.trans ?_, (h c).2⟩) (Cert.MidTailReferenceIdeal.Value.run (F := Ideal) m' ρ')⟩
  · exact Cert.MidTailIdeal.Entry.result m c (Cert.MidTailIdeal.Entry.finite m c hpre)
  · have e : Cert.MidTailReferenceIdeal.Entry.operands (launchContents m' c) = Cert.MidTailIdeal.Entry.operands m c := by
      obtain ⟨h0, h1, h2, h3', h4, h5, h6, h7, h8, h9, h10, h11⟩ := hagree c
      unfold Cert.MidTailReferenceIdeal.Entry.operands Cert.MidTailIdeal.Entry.operands
      congr 1
      · exact funext fun R => funext fun k => congrFun h0 (ix2 R k)
      · exact funext fun R => funext fun k => congrFun h1 (ix2 R k)
      · exact funext fun R => funext fun j => congrFun h2 (ix4 0 ⟨R / 4096, by omega⟩ ⟨R % 4096, by omega⟩ j)
      · exact funext fun j => funext fun k => congrFun h3' (ix3 0 j k)
      · exact funext fun k => congrFun h4 (ix2 0 k)
      · exact funext fun k => funext fun n => congrFun h5 (ix3 0 k n)
      · exact funext fun d => funext fun n => congrFun h6 (ix3 0 d n)
      · exact funext fun n => funext fun k => congrFun h7 (ix3 0 n k)
      · exact funext fun k => congrFun h8 (ix2 0 k)
      · exact funext fun j => funext fun k => congrFun h9 (ix3 0 j k)
      · exact funext fun j => funext fun k => congrFun h10 (ix3 0 j k)
      · exact funext fun k => congrFun h11 (ix1 k)
    funext i
    idx_vars i
    rw [← e]
    exact Cert.MidTailReferenceIdeal.Entry.result_at (launchContents m' c) i0 i1

end Cert.MidTailClaims

end
-- ==== Proof.lean ====
module

public import proofs.«01_k».proof.Defs
public import proofs.«01_k».proof.Proof.TailClaims
public import proofs.«01_k».proof.Proof.SwaFrame
public import proofs.«01_k».proof.Proof.SwaBitsFrame
public import proofs.«01_k».proof.Proof.SwaClaims
public import proofs.«01_k».proof.Proof.ProjectClaims
public import proofs.«01_k».proof.Proof.DeltaInClaims
public import proofs.«01_k».proof.Proof.MidTailClaims
public import proofs.«01_k».proof.Proof.Gen.Project
public import proofs.«01_k».proof.Proof.Gen.ProjectIdeal
public import proofs.«01_k».proof.Proof.Gen.ProjectIdeal.Frame
public import proofs.«01_k».proof.Proof.Gen.ProjectIdeal.Value
public import proofs.«01_k».proof.Proof.Gen.Project.Frame
public import proofs.«01_k».proof.Proof.Gen.ProjectReferenceIdeal
public import proofs.«01_k».proof.Proof.Gen.ProjectReferenceIdeal.Run
public import proofs.«01_k».proof.Proof.Gen.DeltaIn
public import proofs.«01_k».proof.Proof.Gen.DeltaInIdeal
public import proofs.«01_k».proof.Proof.Gen.DeltaInIdeal.Frame
public import proofs.«01_k».proof.Proof.Gen.DeltaInIdeal.Value
public import proofs.«01_k».proof.Proof.Gen.DeltaIn.Frame
public import proofs.«01_k».proof.Proof.Gen.DeltaInReferenceIdeal
public import proofs.«01_k».proof.Proof.Gen.DeltaInReferenceIdeal.Run
public import proofs.«01_k».proof.Proof.Gen.Pre_finite_delta_in
public import proofs.«01_k».proof.Proof.Gen.MidTail
public import proofs.«01_k».proof.Proof.Gen.MidTailIdeal
public import proofs.«01_k».proof.Proof.Gen.MidTailIdeal.Frame
public import proofs.«01_k».proof.Proof.Gen.MidTailIdeal.Value
public import proofs.«01_k».proof.Proof.Gen.MidTail.Frame
public import proofs.«01_k».proof.Proof.Gen.MidTailReferenceIdeal
public import proofs.«01_k».proof.Proof.Gen.MidTailReferenceIdeal.Run
public import proofs.«01_k».proof.Proof.Gen.Pre_finite_mid_tail
public import proofs.«01_k».proof.Proof.Gen.Tail
public import proofs.«01_k».proof.Proof.Gen.TailIdeal
public import proofs.«01_k».proof.Proof.Gen.TailIdeal.Frame
public import proofs.«01_k».proof.Proof.Gen.TailIdeal.Value
public import proofs.«01_k».proof.Proof.Gen.Tail.Frame
public import proofs.«01_k».proof.Proof.Gen.TailReferenceIdeal
public import proofs.«01_k».proof.Proof.Gen.TailReferenceIdeal.Run
public import proofs.«01_k».proof.Proof.Gen.Pre_finite_tail
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaReferenceIdeal
public import proofs.«01_k».proof.Proof.Gen.SwaReferenceIdeal.Run
public import proofs.«01_k».proof.Proof.Gen.Pre_finite_attention

@[expose] public section

noncomputable section

namespace Cert.Proof

/-- Every claim of the certificate. -/
theorem claim : Cert.Claim := ⟨Cert.Swa.Gen.facts, Cert.SwaIdeal.Gen.facts, Cert.SwaReferenceIdeal.Gen.facts,
  Cert.Project.Gen.facts, Cert.ProjectIdeal.Gen.facts, Cert.ProjectReferenceIdeal.Gen.facts,
  Cert.DeltaIn.Gen.facts, Cert.DeltaInIdeal.Gen.facts, Cert.DeltaInReferenceIdeal.Gen.facts,
  Cert.MidTail.Gen.facts, Cert.MidTailIdeal.Gen.facts, Cert.MidTailReferenceIdeal.Gen.facts,
  Cert.Tail.Gen.facts, Cert.TailIdeal.Gen.facts, Cert.TailReferenceIdeal.Gen.facts,
  Cert.Pre_finite_attention.Gen.facts, Cert.Pre_finite_delta_in.Gen.facts, Cert.Pre_finite_mid_tail.Gen.facts, Cert.Pre_finite_tail.Gen.facts,
  fun m ρ _ => Cert.Swa.Body.frame m ρ,
  fun m ρ _ => Cert.SwaIdeal.Body.frame m ρ,
  fun m ρ _ => Cert.SwaIdeal.Body.frame m ρ,
  Cert.SwaClaims.frame_reference,
  fun m ρ _ => Cert.SwaClaims.frame_reference m ρ trivial,
  fun m ρ _ => Cert.Project.Gen.frame m ρ,
  fun m ρ _ => Cert.ProjectIdeal.Gen.frame m ρ,
  Cert.ProjectClaims.frame_reference,
  fun m ρ _ => Cert.DeltaIn.Gen.frame m ρ,
  fun m ρ _ => Cert.DeltaInIdeal.Gen.frame m ρ,
  fun m ρ _ => Cert.DeltaInIdeal.Gen.frame m ρ,
  Cert.DeltaInClaims.frame_reference,
  fun m ρ _ => Cert.DeltaInClaims.frame_reference m ρ trivial,
  fun m ρ _ => Cert.MidTail.Gen.frame m ρ,
  fun m ρ _ => Cert.MidTailIdeal.Gen.frame m ρ,
  fun m ρ _ => Cert.MidTailIdeal.Gen.frame m ρ,
  Cert.MidTailClaims.frame_reference,
  fun m ρ _ => Cert.MidTailClaims.frame_reference m ρ trivial,
  fun m ρ _ => Cert.Tail.Gen.frame m ρ,
  fun m ρ _ => Cert.TailIdeal.Gen.frame m ρ,
  fun m ρ _ => Cert.TailIdeal.Gen.frame m ρ,
  Cert.TailClaims.frame_reference,
  fun m ρ _ => Cert.TailClaims.frame_reference m ρ trivial,
  Cert.SwaClaims.preserves,
  Cert.SwaClaims.algebraic,
  trivial,
  Cert.ProjectClaims.algebraic,
  trivial,
  Cert.DeltaInClaims.algebraic,
  trivial,
  Cert.MidTailClaims.algebraic,
  trivial,
  Cert.TailClaims.algebraic⟩

end Cert.Proof

end
